-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x3 : Shape := ⟨2, ![131072, 3]⟩
abbrev S131072 : Shape := ⟨1, ![131072]⟩
abbrev S131072x100 : Shape := ⟨2, ![131072, 100]⟩
abbrev S4096 : Shape := ⟨1, ![4096]⟩
abbrev S50 : Shape := ⟨1, ![50]⟩
abbrev S32x128 : Shape := ⟨2, ![32, 128]⟩
abbrev S1 : Shape := ⟨1, ![1]⟩
abbrev S6291456 : Shape := ⟨1, ![6291456]⟩
abbrev S16384 : Shape := ⟨1, ![16384]⟩
abbrev S_ : Shape := ⟨0, ![]⟩
abbrev S16 : Shape := ⟨1, ![16]⟩
abbrev S49152x128 : Shape := ⟨2, ![49152, 128]⟩
abbrev S100x131072 : Shape := ⟨2, ![100, 131072]⟩
abbrev S3x131072 : Shape := ⟨2, ![3, 131072]⟩
abbrev S32x1x4096 : Shape := ⟨3, ![32, 1, 4096]⟩
abbrev S100x4096 : Shape := ⟨2, ![100, 4096]⟩
abbrev S1x1x4096 : Shape := ⟨3, ![1, 1, 4096]⟩
abbrev S3x4096 : Shape := ⟨2, ![3, 4096]⟩
abbrev S1x4096 : Shape := ⟨2, ![1, 4096]⟩
abbrev S1x32 : Shape := ⟨2, ![1, 32]⟩
abbrev S49152x100 : Shape := ⟨2, ![49152, 100]⟩
abbrev S49152 : Shape := ⟨1, ![49152]⟩
abbrev S49152x1 : Shape := ⟨2, ![49152, 1]⟩
abbrev S4096x100 : Shape := ⟨2, ![4096, 100]⟩
abbrev S4096x1 : Shape := ⟨2, ![4096, 1]⟩
abbrev S4096x128 : Shape := ⟨2, ![4096, 128]⟩
abbrev S32x1 : Shape := ⟨2, ![32, 1]⟩
abbrev S20x1x4096 : Shape := ⟨3, ![20, 1, 4096]⟩
abbrev S81920 : Shape := ⟨1, ![81920]⟩

abbrev nBuf : Table → Nat
  | .hbm => 27
  | .local .tc .vmem => 28
  | .local .tc .smem => 6
  | .local .scVector .vmem => 2
  | _ => 0

abbrev bufTy : (tb : Table) → Fin (nBuf tb) → BufTy
  | .hbm, ⟨0, _⟩ => ⟨S131072x3, .f32⟩
  | .hbm, ⟨1, _⟩ => ⟨S131072, .i32⟩
  | .hbm, ⟨2, _⟩ => ⟨S131072x100, .f32⟩
  | .hbm, ⟨3, _⟩ => ⟨S4096, .i32⟩
  | .hbm, ⟨4, _⟩ => ⟨S50, .f32⟩
  | .hbm, ⟨5, _⟩ => ⟨S50, .f32⟩
  | .hbm, ⟨6, _⟩ => ⟨S32x128, .f32⟩
  | .hbm, ⟨7, _⟩ => ⟨S32x128, .f32⟩
  | .hbm, ⟨8, _⟩ => ⟨S4096, .f32⟩
  | .hbm, ⟨9, _⟩ => ⟨S6291456, .f32⟩
  | .hbm, ⟨10, _⟩ => ⟨S49152x128, .f32⟩
  | .hbm, ⟨11, _⟩ => ⟨S4096, .f32⟩
  | .hbm, ⟨12, _⟩ => ⟨S100x131072, .f32⟩
  | .hbm, ⟨13, _⟩ => ⟨S3x131072, .f32⟩
  | .hbm, ⟨14, _⟩ => ⟨S32x1x4096, .i32⟩
  | .hbm, ⟨15, _⟩ => ⟨S3x131072, .f32⟩
  | .hbm, ⟨16, _⟩ => ⟨S32x1x4096, .i32⟩
  | .hbm, ⟨17, _⟩ => ⟨S49152x100, .f32⟩
  | .hbm, ⟨18, _⟩ => ⟨S49152, .i32⟩
  | .hbm, ⟨19, _⟩ => ⟨S49152x1, .i32⟩
  | .hbm, ⟨20, _⟩ => ⟨S3x131072, .f32⟩
  | .hbm, ⟨21, _⟩ => ⟨S49152x1, .i32⟩
  | .hbm, ⟨22, _⟩ => ⟨S49152, .i32⟩
  | .hbm, ⟨23, _⟩ => ⟨S20x1x4096, .i32⟩
  | .hbm, ⟨24, _⟩ => ⟨S81920, .i32⟩
  | .hbm, ⟨25, _⟩ => ⟨S131072, .i32⟩
  | .hbm, ⟨26, _⟩ => ⟨S131072x3, .f32⟩
  | .local .tc .vmem, ⟨0, _⟩ => ⟨S32x128, .f32⟩
  | .local .tc .vmem, ⟨1, _⟩ => ⟨S32x128, .f32⟩
  | .local .tc .vmem, ⟨2, _⟩ => ⟨S100x4096, .f32⟩
  | .local .tc .vmem, ⟨3, _⟩ => ⟨S100x4096, .f32⟩
  | .local .tc .vmem, ⟨4, _⟩ => ⟨S1x1x4096, .i32⟩
  | .local .tc .vmem, ⟨5, _⟩ => ⟨S1x1x4096, .i32⟩
  | .local .tc .vmem, ⟨6, _⟩ => ⟨S3x4096, .f32⟩
  | .local .tc .vmem, ⟨7, _⟩ => ⟨S3x4096, .f32⟩
  | .local .tc .vmem, ⟨8, _⟩ => ⟨S3x4096, .f32⟩
  | .local .tc .vmem, ⟨9, _⟩ => ⟨S3x4096, .f32⟩
  | .local .tc .vmem, ⟨10, _⟩ => ⟨S1x1x4096, .i32⟩
  | .local .tc .vmem, ⟨11, _⟩ => ⟨S1x1x4096, .i32⟩
  | .local .tc .vmem, ⟨12, _⟩ => ⟨S1x4096, .f32⟩
  | .local .tc .vmem, ⟨13, _⟩ => ⟨S1x4096, .f32⟩
  | .local .tc .vmem, ⟨14, _⟩ => ⟨S4096x100, .f32⟩
  | .local .tc .vmem, ⟨15, _⟩ => ⟨S4096x100, .f32⟩
  | .local .tc .vmem, ⟨16, _⟩ => ⟨S4096x1, .i32⟩
  | .local .tc .vmem, ⟨17, _⟩ => ⟨S4096x1, .i32⟩
  | .local .tc .vmem, ⟨18, _⟩ => ⟨S3x4096, .f32⟩
  | .local .tc .vmem, ⟨19, _⟩ => ⟨S3x4096, .f32⟩
  | .local .tc .vmem, ⟨20, _⟩ => ⟨S4096x128, .f32⟩
  | .local .tc .vmem, ⟨21, _⟩ => ⟨S4096x128, .f32⟩
  | .local .tc .vmem, ⟨22, _⟩ => ⟨S3x4096, .f32⟩
  | .local .tc .vmem, ⟨23, _⟩ => ⟨S3x4096, .f32⟩
  | .local .tc .vmem, ⟨24, _⟩ => ⟨S4096x1, .i32⟩
  | .local .tc .vmem, ⟨25, _⟩ => ⟨S4096x1, .i32⟩
  | .local .tc .vmem, ⟨26, _⟩ => ⟨S4096x1, .f32⟩
  | .local .tc .vmem, ⟨27, _⟩ => ⟨S1x4096, .f32⟩
  | .local .tc .smem, ⟨0, _⟩ => ⟨S50, .f32⟩
  | .local .tc .smem, ⟨1, _⟩ => ⟨S50, .f32⟩
  | .local .tc .smem, ⟨2, _⟩ => ⟨S4096, .f32⟩
  | .local .tc .smem, ⟨3, _⟩ => ⟨S4096, .f32⟩
  | .local .tc .smem, ⟨4, _⟩ => ⟨S4096, .f32⟩
  | .local .tc .smem, ⟨5, _⟩ => ⟨S4096, .f32⟩
  | .local .scVector .vmem, ⟨0, _⟩ => ⟨S16384, .f32⟩
  | .local .scVector .vmem, ⟨1, _⟩ => ⟨S16384, .f32⟩
  | _, _ => ⟨S131072x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => true
  | ⟨1, _⟩ => true
  | ⟨2, _⟩ => true
  | ⟨3, _⟩ => true
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v2_scv : Ref sig .scVector := ⟨.hbm, 9, rfl⟩
abbrev cc0_stg2_0 : Ref sig .tc := ⟨.vmem, 0, rfl⟩
abbrev cc0_stg3_0 : Ref sig .tc := ⟨.vmem, 1, rfl⟩
abbrev cc2_stg0_0 : Ref sig .tc := ⟨.vmem, 2, rfl⟩
abbrev cc2_stg0_1 : Ref sig .tc := ⟨.vmem, 3, rfl⟩
abbrev cc2_stg1_0 : Ref sig .tc := ⟨.vmem, 4, rfl⟩
abbrev cc2_stg1_1 : Ref sig .tc := ⟨.vmem, 5, rfl⟩
abbrev cc2_stg2_0 : Ref sig .tc := ⟨.vmem, 6, rfl⟩
abbrev cc2_stg2_1 : Ref sig .tc := ⟨.vmem, 7, rfl⟩
abbrev cc2_stg5_0 : Ref sig .tc := ⟨.vmem, 8, rfl⟩
abbrev cc2_stg5_1 : Ref sig .tc := ⟨.vmem, 9, rfl⟩
abbrev cc2_stg6_0 : Ref sig .tc := ⟨.vmem, 10, rfl⟩
abbrev cc2_stg6_1 : Ref sig .tc := ⟨.vmem, 11, rfl⟩
abbrev cc2_scratch0 : Ref sig .tc := ⟨.vmem, 12, rfl⟩
abbrev cc2_scratch1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg5_0 : Ref sig .tc := ⟨.vmem, 20, rfl⟩
abbrev cc3_stg5_1 : Ref sig .tc := ⟨.vmem, 21, rfl⟩
abbrev cc3_stg6_0 : Ref sig .tc := ⟨.vmem, 22, rfl⟩
abbrev cc3_stg6_1 : Ref sig .tc := ⟨.vmem, 23, rfl⟩
abbrev cc3_stg7_0 : Ref sig .tc := ⟨.vmem, 24, rfl⟩
abbrev cc3_stg7_1 : Ref sig .tc := ⟨.vmem, 25, rfl⟩
abbrev cc3_scratch0 : Ref sig .tc := ⟨.vmem, 26, rfl⟩
abbrev cc3_scratch1 : Ref sig .tc := ⟨.vmem, 27, rfl⟩
abbrev cc0_stg0_0 : Ref sig .tc := ⟨.smem, 0, rfl⟩
abbrev cc0_stg1_0 : Ref sig .tc := ⟨.smem, 1, rfl⟩
abbrev cc2_stg3_0 : Ref sig .tc := ⟨.smem, 2, rfl⟩
abbrev cc2_stg4_0 : Ref sig .tc := ⟨.smem, 3, rfl⟩
abbrev cc3_stg3_0 : Ref sig .tc := ⟨.smem, 4, rfl⟩
abbrev cc3_stg4_0 : Ref sig .tc := ⟨.smem, 5, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem2_1 : DmaSem sig := 11
abbrev cc2_sem3_0 : DmaSem sig := 12
abbrev cc2_sem4_0 : DmaSem sig := 13
abbrev cc2_sem5_0 : DmaSem sig := 14
abbrev cc2_sem5_1 : DmaSem sig := 15
abbrev cc2_sem6_0 : DmaSem sig := 16
abbrev cc2_sem6_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27
abbrev cc3_sem6_0 : DmaSem sig := 28
abbrev cc3_sem6_1 : DmaSem sig := 29
abbrev cc3_sem7_0 : DmaSem sig := 30
abbrev cc3_sem7_1 : DmaSem sig := 31
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .smem S50 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_1 : BitVec 32 := 0#32
  let c1024_i32 : BitVec 32 := 1024#32
  let v5 : BitVec 32 := Scalar.addi c0_i32_1 c1024_i32
  let c1_i32 : BitVec 32 := 1#32
  ⟨c0_i32_1, v5, c1_i32⟩
def k1_off1 (k1_t1 : Fin k1_t1_loop.trips) : Fin 1 → Nat :=
  let c0_i32_1 : BitVec 32 := 0#32
  let c1_i32 : BitVec 32 := 1#32
  let arg7 : BitVec 32 := Scf.iv c0_i32_1 c1_i32 k1_t1
  let c16_i32_104 : BitVec 32 := 16#32
  let v282 : BitVec 32 := Scalar.muli arg7 c16_i32_104
  let v283 : Index := Scalar.indexCast v282
  ![v283.toNat]
def k1_off2 (i : grid1.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c196608_i32 : BitVec 32 := 196608#32
  let v2 : BitVec 32 := Scalar.muli v1 c196608_i32
  let v7 : BitVec 32 := Scalar.addi v2 c0_i32_3
  ![v7.toNat]
@[reducible] def k1_t2_loop : Scf.Loop 32 :=
  let c0_i32_5 : BitVec 32 := 0#32
  let c1024_i32_6 : BitVec 32 := 1024#32
  let v11 : BitVec 32 := Scalar.addi c0_i32_5 c1024_i32_6
  let c1_i32_7 : BitVec 32 := 1#32
  ⟨c0_i32_5, v11, c1_i32_7⟩
def k1_off3 (k1_t2 : Fin k1_t2_loop.trips) : Fin 1 → Nat :=
  let c0_i32_5 : BitVec 32 := 0#32
  let c1_i32_7 : BitVec 32 := 1#32
  let arg7 : BitVec 32 := Scf.iv c0_i32_5 c1_i32_7 k1_t2
  let c16_i32_104 : BitVec 32 := 16#32
  let v282 : BitVec 32 := Scalar.muli arg7 c16_i32_104
  let v283 : Index := Scalar.indexCast v282
  ![v283.toNat]
@[reducible] def k1_t3_loop : Scf.Loop 32 :=
  let c0_i32_11 : BitVec 32 := 0#32
  let c1024_i32_12 : BitVec 32 := 1024#32
  let v19 : BitVec 32 := Scalar.addi c0_i32_11 c1024_i32_12
  let c1_i32_13 : BitVec 32 := 1#32
  ⟨c0_i32_11, v19, c1_i32_13⟩
def k1_off4 (k1_t3 : Fin k1_t3_loop.trips) : Fin 1 → Nat :=
  let c0_i32_11 : BitVec 32 := 0#32
  let c1_i32_13 : BitVec 32 := 1#32
  let arg7 : BitVec 32 := Scf.iv c0_i32_11 c1_i32_13 k1_t3
  let c16_i32_104 : BitVec 32 := 16#32
  let v282 : BitVec 32 := Scalar.muli arg7 c16_i32_104
  let v283 : Index := Scalar.indexCast v282
  ![v283.toNat]
@[reducible] def k1_t4_loop : Scf.Loop 32 :=
  let c0_i32_17 : BitVec 32 := 0#32
  let c1024_i32_18 : BitVec 32 := 1024#32
  let v27 : BitVec 32 := Scalar.addi c0_i32_17 c1024_i32_18
  let c1_i32_19 : BitVec 32 := 1#32
  ⟨c0_i32_17, v27, c1_i32_19⟩
def k1_off5 (k1_t4 : Fin k1_t4_loop.trips) : Fin 1 → Nat :=
  let c0_i32_17 : BitVec 32 := 0#32
  let c1_i32_19 : BitVec 32 := 1#32
  let arg7 : BitVec 32 := Scf.iv c0_i32_17 c1_i32_19 k1_t4
  let c16_i32_104 : BitVec 32 := 16#32
  let v282 : BitVec 32 := Scalar.muli arg7 c16_i32_104
  let v283 : Index := Scalar.indexCast v282
  ![v283.toNat]
@[reducible] def k1_t5_loop : Scf.Loop 32 :=
  let c0_i32_23 : BitVec 32 := 0#32
  let c1024_i32_24 : BitVec 32 := 1024#32
  let v35 : BitVec 32 := Scalar.addi c0_i32_23 c1024_i32_24
  let c1_i32_25 : BitVec 32 := 1#32
  ⟨c0_i32_23, v35, c1_i32_25⟩
def k1_off6 (k1_t5 : Fin k1_t5_loop.trips) : Fin 1 → Nat :=
  let c0_i32_23 : BitVec 32 := 0#32
  let c1_i32_25 : BitVec 32 := 1#32
  let arg7 : BitVec 32 := Scf.iv c0_i32_23 c1_i32_25 k1_t5
  let c16_i32_104 : BitVec 32 := 16#32
  let v282 : BitVec 32 := Scalar.muli arg7 c16_i32_104
  let v283 : Index := Scalar.indexCast v282
  ![v283.toNat]
@[reducible] def k1_t6_loop : Scf.Loop 32 :=
  let c0_i32_29 : BitVec 32 := 0#32
  let c1024_i32_30 : BitVec 32 := 1024#32
  let v43 : BitVec 32 := Scalar.addi c0_i32_29 c1024_i32_30
  let c1_i32_31 : BitVec 32 := 1#32
  ⟨c0_i32_29, v43, c1_i32_31⟩
def k1_off7 (k1_t6 : Fin k1_t6_loop.trips) : Fin 1 → Nat :=
  let c0_i32_29 : BitVec 32 := 0#32
  let c1_i32_31 : BitVec 32 := 1#32
  let arg7 : BitVec 32 := Scf.iv c0_i32_29 c1_i32_31 k1_t6
  let c16_i32_104 : BitVec 32 := 16#32
  let v282 : BitVec 32 := Scalar.muli arg7 c16_i32_104
  let v283 : Index := Scalar.indexCast v282
  ![v283.toNat]
@[reducible] def k1_t7_loop : Scf.Loop 32 :=
  let c0_i32_35 : BitVec 32 := 0#32
  let c1024_i32_36 : BitVec 32 := 1024#32
  let v51 : BitVec 32 := Scalar.addi c0_i32_35 c1024_i32_36
  let c1_i32_37 : BitVec 32 := 1#32
  ⟨c0_i32_35, v51, c1_i32_37⟩
def k1_off8 (k1_t7 : Fin k1_t7_loop.trips) : Fin 1 → Nat :=
  let c0_i32_35 : BitVec 32 := 0#32
  let c1_i32_37 : BitVec 32 := 1#32
  let arg7 : BitVec 32 := Scf.iv c0_i32_35 c1_i32_37 k1_t7
  let c16_i32_104 : BitVec 32 := 16#32
  let v282 : BitVec 32 := Scalar.muli arg7 c16_i32_104
  let v283 : Index := Scalar.indexCast v282
  ![v283.toNat]
@[reducible] def k1_t8_loop : Scf.Loop 32 :=
  let c0_i32_41 : BitVec 32 := 0#32
  let c1024_i32_42 : BitVec 32 := 1024#32
  let v59 : BitVec 32 := Scalar.addi c0_i32_41 c1024_i32_42
  let c1_i32_43 : BitVec 32 := 1#32
  ⟨c0_i32_41, v59, c1_i32_43⟩
def k1_off9 (k1_t8 : Fin k1_t8_loop.trips) : Fin 1 → Nat :=
  let c0_i32_41 : BitVec 32 := 0#32
  let c1_i32_43 : BitVec 32 := 1#32
  let arg7 : BitVec 32 := Scf.iv c0_i32_41 c1_i32_43 k1_t8
  let c16_i32_104 : BitVec 32 := 16#32
  let v282 : BitVec 32 := Scalar.muli arg7 c16_i32_104
  let v283 : Index := Scalar.indexCast v282
  ![v283.toNat]
@[reducible] def k1_t9_loop : Scf.Loop 32 :=
  let c0_i32_47 : BitVec 32 := 0#32
  let c1024_i32_48 : BitVec 32 := 1024#32
  let v67 : BitVec 32 := Scalar.addi c0_i32_47 c1024_i32_48
  let c1_i32_49 : BitVec 32 := 1#32
  ⟨c0_i32_47, v67, c1_i32_49⟩
def k1_off10 (k1_t9 : Fin k1_t9_loop.trips) : Fin 1 → Nat :=
  let c0_i32_47 : BitVec 32 := 0#32
  let c1_i32_49 : BitVec 32 := 1#32
  let arg7 : BitVec 32 := Scf.iv c0_i32_47 c1_i32_49 k1_t9
  let c16_i32_104 : BitVec 32 := 16#32
  let v282 : BitVec 32 := Scalar.muli arg7 c16_i32_104
  let v283 : Index := Scalar.indexCast v282
  ![v283.toNat]
@[reducible] def k1_t10_loop : Scf.Loop 32 :=
  let c0_i32_53 : BitVec 32 := 0#32
  let c1024_i32_54 : BitVec 32 := 1024#32
  let v75 : BitVec 32 := Scalar.addi c0_i32_53 c1024_i32_54
  let c1_i32_55 : BitVec 32 := 1#32
  ⟨c0_i32_53, v75, c1_i32_55⟩
def k1_off11 (k1_t10 : Fin k1_t10_loop.trips) : Fin 1 → Nat :=
  let c0_i32_53 : BitVec 32 := 0#32
  let c1_i32_55 : BitVec 32 := 1#32
  let arg7 : BitVec 32 := Scf.iv c0_i32_53 c1_i32_55 k1_t10
  let c16_i32_104 : BitVec 32 := 16#32
  let v282 : BitVec 32 := Scalar.muli arg7 c16_i32_104
  let v283 : Index := Scalar.indexCast v282
  ![v283.toNat]
@[reducible] def k1_t11_loop : Scf.Loop 32 :=
  let c0_i32_59 : BitVec 32 := 0#32
  let c1024_i32_60 : BitVec 32 := 1024#32
  let v83 : BitVec 32 := Scalar.addi c0_i32_59 c1024_i32_60
  let c1_i32_61 : BitVec 32 := 1#32
  ⟨c0_i32_59, v83, c1_i32_61⟩
def k1_off12 (k1_t11 : Fin k1_t11_loop.trips) : Fin 1 → Nat :=
  let c0_i32_59 : BitVec 32 := 0#32
  let c1_i32_61 : BitVec 32 := 1#32
  let arg7 : BitVec 32 := Scf.iv c0_i32_59 c1_i32_61 k1_t11
  let c16_i32_104 : BitVec 32 := 16#32
  let v282 : BitVec 32 := Scalar.muli arg7 c16_i32_104
  let v283 : Index := Scalar.indexCast v282
  ![v283.toNat]
@[reducible] def k1_t12_loop : Scf.Loop 32 :=
  let c0_i32_65 : BitVec 32 := 0#32
  let c1024_i32_66 : BitVec 32 := 1024#32
  let v91 : BitVec 32 := Scalar.addi c0_i32_65 c1024_i32_66
  let c1_i32_67 : BitVec 32 := 1#32
  ⟨c0_i32_65, v91, c1_i32_67⟩
def k1_off13 (k1_t12 : Fin k1_t12_loop.trips) : Fin 1 → Nat :=
  let c0_i32_65 : BitVec 32 := 0#32
  let c1_i32_67 : BitVec 32 := 1#32
  let arg7 : BitVec 32 := Scf.iv c0_i32_65 c1_i32_67 k1_t12
  let c16_i32_104 : BitVec 32 := 16#32
  let v282 : BitVec 32 := Scalar.muli arg7 c16_i32_104
  let v283 : Index := Scalar.indexCast v282
  ![v283.toNat]
abbrev grid2 : Pipeline.Grid := ⟨1, ![20], ![false]⟩

def k2_off1 (i : grid2.Coords) (c0_i32 : BitVec 32) : Fin 1 → Nat :=
  let arg0 : BitVec 32 := BitVec.ofNat 32 (i 0).val
  let c12_i32 : BitVec 32 := 12#32
  let v0 : BitVec 32 := Scalar.addi arg0 c12_i32
  let c128_i32 : BitVec 32 := 128#32
  let v1 : BitVec 32 := Scalar.muli v0 c128_i32
  let v2 : BitVec 32 := Scalar.addi v1 c0_i32
  let v3 : Index := Scalar.indexCast v2
  ![v3.toNat]
def cc2_transform_0 (i : grid2.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc2_transform_1 (i : grid2.Coords) : Fin 3 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  let c0_i32_1 : BitVec 32 := 0#32
  ![v0.toNat, c0_i32.toNat, c0_i32_0.toNat]

def cc2_transform_2 (i : grid2.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc2_transform_6 (i : grid2.Coords) : Fin 3 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  let c0_i32_1 : BitVec 32 := 0#32
  ![v0.toNat, c0_i32.toNat, c0_i32_0.toNat]

abbrev stage2_0 : Fin 2 → Memref sig .tc .vmem S100x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x4096 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .smem S4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .smem S4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S3x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x4096 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![12], ![false]⟩

def k3_off1 (i : grid3.Coords) (c0_i32 : BitVec 32) : Fin 1 → Nat :=
  let arg0 : BitVec 32 := BitVec.ofNat 32 (i 0).val
  let c128_i32 : BitVec 32 := 128#32
  let v0 : BitVec 32 := Scalar.muli arg0 c128_i32
  let v1 : BitVec 32 := Scalar.addi v0 c0_i32
  let v2 : Index := Scalar.indexCast v1
  ![v2.toNat]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .smem S4096 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .smem S4096 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4096x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S3x4096 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S4096x1 .i32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072x3 : Shape := ⟨2, ![131072, 3]⟩
abbrev S131072 : Shape := ⟨1, ![131072]⟩
abbrev S131072x100 : Shape := ⟨2, ![131072, 100]⟩
abbrev S4096 : Shape := ⟨1, ![4096]⟩
abbrev S50 : Shape := ⟨1, ![50]⟩
abbrev S4x2 : Shape := ⟨2, ![4, 2]⟩
abbrev S2 : Shape := ⟨1, ![2]⟩
abbrev S4x1 : Shape := ⟨2, ![4, 1]⟩
abbrev S4 : Shape := ⟨1, ![4]⟩
abbrev S_ : Shape := ⟨0, ![]⟩
abbrev S1x4096 : Shape := ⟨2, ![1, 4096]⟩
abbrev S4x4096 : Shape := ⟨2, ![4, 4096]⟩
abbrev S2x4096 : Shape := ⟨2, ![2, 4096]⟩
abbrev S4096x1 : Shape := ⟨2, ![4096, 1]⟩
abbrev S4096x32 : Shape := ⟨2, ![4096, 32]⟩
abbrev S1 : Shape := ⟨1, ![1]⟩
abbrev S131072x1 : Shape := ⟨2, ![131072, 1]⟩
abbrev S1x100 : Shape := ⟨2, ![1, 100]⟩

abbrev nBuf : Space → Nat
  | .hbm => 929
  | .vmem => 0
  | .smem => 0
  | _ => 0

abbrev hbmTy0_0 (i : Nat) : BufTy := match i % 128 with
  | 0 => ⟨S131072x3, .f32⟩
  | 1 => ⟨S131072, .i32⟩
  | 2 => ⟨S131072x100, .f32⟩
  | 3 => ⟨S4096, .i32⟩
  | 4 => ⟨S50, .f32⟩
  | 5 => ⟨S50, .f32⟩
  | 6 => ⟨S4x2, .i32⟩
  | 7 => ⟨S2, .i32⟩
  | 8 => ⟨S2, .i32⟩
  | 9 => ⟨S4x1, .i32⟩
  | 10 => ⟨S4, .i32⟩
  | 11 => ⟨S4x1, .i32⟩
  | 12 => ⟨S4, .i32⟩
  | 13 => ⟨S4096, .i64⟩
  | 14 => ⟨S_, .i64⟩
  | 15 => ⟨S4096, .i64⟩
  | 16 => ⟨S4096, .i64⟩
  | 17 => ⟨S_, .i64⟩
  | 18 => ⟨S4096, .i64⟩
  | 19 => ⟨S4096, .i64⟩
  | 20 => ⟨S4096, .i32⟩
  | 21 => ⟨S4096, .i32⟩
  | 22 => ⟨S1x4096, .i32⟩
  | 23 => ⟨S1x4096, .i32⟩
  | 24 => ⟨S4x1, .i32⟩
  | 25 => ⟨S4x1, .i32⟩
  | 26 => ⟨S4x1, .i32⟩
  | 27 => ⟨S_, .i32⟩
  | 28 => ⟨S4x1, .i32⟩
  | 29 => ⟨S4x1, .i32⟩
  | 30 => ⟨S4x4096, .i32⟩
  | 31 => ⟨S4x4096, .i32⟩
  | 32 => ⟨S4x4096, .i32⟩
  | 33 => ⟨S4x4096, .i32⟩
  | 34 => ⟨S4x4096, .i32⟩
  | 35 => ⟨S4x4096, .i32⟩
  | 36 => ⟨S4x4096, .i32⟩
  | 37 => ⟨S_, .i32⟩
  | 38 => ⟨S4x4096, .i32⟩
  | 39 => ⟨S4x4096, .i32⟩
  | 40 => ⟨S_, .i32⟩
  | 41 => ⟨S4x4096, .i32⟩
  | 42 => ⟨S4x4096, .i32⟩
  | 43 => ⟨S4x4096, .i32⟩
  | 44 => ⟨S4x4096, .i32⟩
  | 45 => ⟨S4x4096, .i32⟩
  | 46 => ⟨S_, .i32⟩
  | 47 => ⟨S4x4096, .i32⟩
  | 48 => ⟨S4x4096, .i32⟩
  | 49 => ⟨S_, .i32⟩
  | 50 => ⟨S4x4096, .i32⟩
  | 51 => ⟨S4x4096, .i32⟩
  | 52 => ⟨S4x4096, .i32⟩
  | 53 => ⟨S4x4096, .i32⟩
  | 54 => ⟨S4x4096, .i32⟩
  | 55 => ⟨S_, .i32⟩
  | 56 => ⟨S4x4096, .i32⟩
  | 57 => ⟨S4x4096, .i32⟩
  | 58 => ⟨S_, .i32⟩
  | 59 => ⟨S4x4096, .i32⟩
  | 60 => ⟨S4x4096, .i32⟩
  | 61 => ⟨S4x4096, .i32⟩
  | 62 => ⟨S4x4096, .i32⟩
  | 63 => ⟨S4x4096, .i32⟩
  | 64 => ⟨S_, .i32⟩
  | 65 => ⟨S4x4096, .i32⟩
  | 66 => ⟨S4x4096, .i32⟩
  | 67 => ⟨S_, .i32⟩
  | 68 => ⟨S4x4096, .i32⟩
  | 69 => ⟨S4x4096, .i32⟩
  | 70 => ⟨S4x4096, .i32⟩
  | 71 => ⟨S4x4096, .i32⟩
  | 72 => ⟨S4x4096, .i32⟩
  | 73 => ⟨S4x4096, .i32⟩
  | 74 => ⟨S4x4096, .i32⟩
  | 75 => ⟨S4x4096, .i32⟩
  | 76 => ⟨S_, .i32⟩
  | 77 => ⟨S4x4096, .i32⟩
  | 78 => ⟨S4x4096, .i32⟩
  | 79 => ⟨S4x4096, .i32⟩
  | 80 => ⟨S_, .i32⟩
  | 81 => ⟨S4x4096, .i32⟩
  | 82 => ⟨S4x4096, .i32⟩
  | 83 => ⟨S_, .i32⟩
  | 84 => ⟨S4x4096, .i32⟩
  | 85 => ⟨S4x4096, .i32⟩
  | 86 => ⟨S4x4096, .i32⟩
  | 87 => ⟨S4x4096, .i32⟩
  | 88 => ⟨S4x4096, .i32⟩
  | 89 => ⟨S_, .i32⟩
  | 90 => ⟨S4x4096, .i32⟩
  | 91 => ⟨S4x4096, .i32⟩
  | 92 => ⟨S_, .i32⟩
  | 93 => ⟨S4x4096, .i32⟩
  | 94 => ⟨S4x4096, .i32⟩
  | 95 => ⟨S4x4096, .i32⟩
  | 96 => ⟨S4x4096, .i32⟩
  | 97 => ⟨S4x4096, .i32⟩
  | 98 => ⟨S_, .i32⟩
  | 99 => ⟨S4x4096, .i32⟩
  | 100 => ⟨S4x4096, .i32⟩
  | 101 => ⟨S_, .i32⟩
  | 102 => ⟨S4x4096, .i32⟩
  | 103 => ⟨S4x4096, .i32⟩
  | 104 => ⟨S4x4096, .i32⟩
  | 105 => ⟨S4x4096, .i32⟩
  | 106 => ⟨S4x4096, .i32⟩
  | 107 => ⟨S_, .i32⟩
  | 108 => ⟨S4x4096, .i32⟩
  | 109 => ⟨S4x4096, .i32⟩
  | 110 => ⟨S_, .i32⟩
  | 111 => ⟨S4x4096, .i32⟩
  | 112 => ⟨S4x4096, .i32⟩
  | 113 => ⟨S4x4096, .i32⟩
  | 114 => ⟨S4x4096, .i32⟩
  | 115 => ⟨S4x4096, .i32⟩
  | 116 => ⟨S4x4096, .i32⟩
  | 117 => ⟨S4x4096, .i32⟩
  | 118 => ⟨S4x4096, .i32⟩
  | 119 => ⟨S_, .i32⟩
  | 120 => ⟨S4x4096, .i32⟩
  | 121 => ⟨S4x4096, .i32⟩
  | 122 => ⟨S4x4096, .i32⟩
  | 123 => ⟨S_, .i32⟩
  | 124 => ⟨S4x4096, .i32⟩
  | 125 => ⟨S4x4096, .i32⟩
  | 126 => ⟨S_, .i32⟩
  | 127 => ⟨S4x4096, .i32⟩
  | _ => ⟨S131072x3, .f32⟩

abbrev hbmTy0_1 (i : Nat) : BufTy := match i % 128 with
  | 0 => ⟨S4x4096, .i32⟩
  | 1 => ⟨S4x4096, .i32⟩
  | 2 => ⟨S4x4096, .i32⟩
  | 3 => ⟨S4x4096, .i32⟩
  | 4 => ⟨S_, .i32⟩
  | 5 => ⟨S4x4096, .i32⟩
  | 6 => ⟨S4x4096, .i32⟩
  | 7 => ⟨S_, .i32⟩
  | 8 => ⟨S4x4096, .i32⟩
  | 9 => ⟨S4x4096, .i32⟩
  | 10 => ⟨S4x4096, .i32⟩
  | 11 => ⟨S4x4096, .i32⟩
  | 12 => ⟨S4x4096, .i32⟩
  | 13 => ⟨S_, .i32⟩
  | 14 => ⟨S4x4096, .i32⟩
  | 15 => ⟨S4x4096, .i32⟩
  | 16 => ⟨S_, .i32⟩
  | 17 => ⟨S4x4096, .i32⟩
  | 18 => ⟨S4x4096, .i32⟩
  | 19 => ⟨S4x4096, .i32⟩
  | 20 => ⟨S4x4096, .i32⟩
  | 21 => ⟨S4x4096, .i32⟩
  | 22 => ⟨S_, .i32⟩
  | 23 => ⟨S4x4096, .i32⟩
  | 24 => ⟨S4x4096, .i32⟩
  | 25 => ⟨S_, .i32⟩
  | 26 => ⟨S4x4096, .i32⟩
  | 27 => ⟨S4x4096, .i32⟩
  | 28 => ⟨S4x4096, .i32⟩
  | 29 => ⟨S4x4096, .i32⟩
  | 30 => ⟨S4x4096, .i32⟩
  | 31 => ⟨S4x4096, .i32⟩
  | 32 => ⟨S4x4096, .i32⟩
  | 33 => ⟨S4x4096, .i32⟩
  | 34 => ⟨S_, .i32⟩
  | 35 => ⟨S4x4096, .i32⟩
  | 36 => ⟨S4x4096, .i32⟩
  | 37 => ⟨S4x4096, .i32⟩
  | 38 => ⟨S_, .i32⟩
  | 39 => ⟨S4x4096, .i32⟩
  | 40 => ⟨S4x4096, .i32⟩
  | 41 => ⟨S_, .i32⟩
  | 42 => ⟨S4x4096, .i32⟩
  | 43 => ⟨S4x4096, .i32⟩
  | 44 => ⟨S4x4096, .i32⟩
  | 45 => ⟨S4x4096, .i32⟩
  | 46 => ⟨S4x4096, .i32⟩
  | 47 => ⟨S_, .i32⟩
  | 48 => ⟨S4x4096, .i32⟩
  | 49 => ⟨S4x4096, .i32⟩
  | 50 => ⟨S_, .i32⟩
  | 51 => ⟨S4x4096, .i32⟩
  | 52 => ⟨S4x4096, .i32⟩
  | 53 => ⟨S4x4096, .i32⟩
  | 54 => ⟨S4x4096, .i32⟩
  | 55 => ⟨S4x4096, .i32⟩
  | 56 => ⟨S_, .i32⟩
  | 57 => ⟨S4x4096, .i32⟩
  | 58 => ⟨S4x4096, .i32⟩
  | 59 => ⟨S_, .i32⟩
  | 60 => ⟨S4x4096, .i32⟩
  | 61 => ⟨S4x4096, .i32⟩
  | 62 => ⟨S4x4096, .i32⟩
  | 63 => ⟨S4x4096, .i32⟩
  | 64 => ⟨S4x4096, .i32⟩
  | 65 => ⟨S_, .i32⟩
  | 66 => ⟨S4x4096, .i32⟩
  | 67 => ⟨S4x4096, .i32⟩
  | 68 => ⟨S_, .i32⟩
  | 69 => ⟨S4x4096, .i32⟩
  | 70 => ⟨S4x4096, .i32⟩
  | 71 => ⟨S4x4096, .i32⟩
  | 72 => ⟨S4x4096, .i32⟩
  | 73 => ⟨S4x4096, .i32⟩
  | 74 => ⟨S4x4096, .i32⟩
  | 75 => ⟨S4x4096, .i32⟩
  | 76 => ⟨S4x4096, .i32⟩
  | 77 => ⟨S_, .i32⟩
  | 78 => ⟨S4x4096, .i32⟩
  | 79 => ⟨S4x4096, .i32⟩
  | 80 => ⟨S4x4096, .i32⟩
  | 81 => ⟨S_, .i32⟩
  | 82 => ⟨S4x4096, .i32⟩
  | 83 => ⟨S4x4096, .i32⟩
  | 84 => ⟨S_, .i32⟩
  | 85 => ⟨S4x4096, .i32⟩
  | 86 => ⟨S4x4096, .i32⟩
  | 87 => ⟨S4x4096, .i32⟩
  | 88 => ⟨S4x4096, .i32⟩
  | 89 => ⟨S4x4096, .i32⟩
  | 90 => ⟨S_, .i32⟩
  | 91 => ⟨S4x4096, .i32⟩
  | 92 => ⟨S4x4096, .i32⟩
  | 93 => ⟨S_, .i32⟩
  | 94 => ⟨S4x4096, .i32⟩
  | 95 => ⟨S4x4096, .i32⟩
  | 96 => ⟨S4x4096, .i32⟩
  | 97 => ⟨S4x4096, .i32⟩
  | 98 => ⟨S4x4096, .i32⟩
  | 99 => ⟨S_, .i32⟩
  | 100 => ⟨S4x4096, .i32⟩
  | 101 => ⟨S4x4096, .i32⟩
  | 102 => ⟨S_, .i32⟩
  | 103 => ⟨S4x4096, .i32⟩
  | 104 => ⟨S4x4096, .i32⟩
  | 105 => ⟨S4x4096, .i32⟩
  | 106 => ⟨S4x4096, .i32⟩
  | 107 => ⟨S4x4096, .i32⟩
  | 108 => ⟨S_, .i32⟩
  | 109 => ⟨S4x4096, .i32⟩
  | 110 => ⟨S4x4096, .i32⟩
  | 111 => ⟨S_, .i32⟩
  | 112 => ⟨S4x4096, .i32⟩
  | 113 => ⟨S4x4096, .i32⟩
  | 114 => ⟨S4x4096, .i32⟩
  | 115 => ⟨S4x4096, .i32⟩
  | 116 => ⟨S4x4096, .i32⟩
  | 117 => ⟨S4x4096, .i32⟩
  | 118 => ⟨S4x4096, .i32⟩
  | 119 => ⟨S4x4096, .i32⟩
  | 120 => ⟨S_, .i32⟩
  | 121 => ⟨S4x4096, .i32⟩
  | 122 => ⟨S4x4096, .i32⟩
  | 123 => ⟨S4x4096, .i32⟩
  | 124 => ⟨S_, .i32⟩
  | 125 => ⟨S4x4096, .i32⟩
  | 126 => ⟨S4x4096, .i32⟩
  | 127 => ⟨S2x4096, .i32⟩
  | _ => ⟨S131072x3, .f32⟩

abbrev hbmTy0_2 (i : Nat) : BufTy := match i % 128 with
  | 0 => ⟨S_, .i32⟩
  | 1 => ⟨S2x4096, .i32⟩
  | 2 => ⟨S2x4096, .i32⟩
  | 3 => ⟨S2x4096, .i32⟩
  | 4 => ⟨S2x4096, .i32⟩
  | 5 => ⟨S_, .i32⟩
  | 6 => ⟨S2x4096, .i32⟩
  | 7 => ⟨S2x4096, .i32⟩
  | 8 => ⟨S2x4096, .i32⟩
  | 9 => ⟨S1x4096, .i32⟩
  | 10 => ⟨S4096, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S4096, .f32⟩
  | 20 => ⟨S4096x32, .f32⟩
  | 21 => ⟨S131072, .f32⟩
  | 22 => ⟨S1x4096, .i32⟩
  | 23 => ⟨S4096, .i32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096, .f32⟩
  | 33 => ⟨S4096x32, .f32⟩
  | 34 => ⟨S131072, .f32⟩
  | 35 => ⟨S1, .i32⟩
  | 36 => ⟨S_, .i32⟩
  | 37 => ⟨S1, .i32⟩
  | 38 => ⟨S_, .i32⟩
  | 39 => ⟨S131072x3, .i64⟩
  | 40 => ⟨S131072x3, .i64⟩
  | 41 => ⟨S_, .i64⟩
  | 42 => ⟨S131072x3, .i64⟩
  | 43 => ⟨S131072x3, .i64⟩
  | 44 => ⟨S_, .i64⟩
  | 45 => ⟨S131072x3, .i64⟩
  | 46 => ⟨S131072x3, .i64⟩
  | 47 => ⟨S131072x3, .i64⟩
  | 48 => ⟨S_, .i64⟩
  | 49 => ⟨S131072x3, .i64⟩
  | 50 => ⟨S131072x3, .i64⟩
  | 51 => ⟨S131072x3, .i32⟩
  | 52 => ⟨S131072x3, .i32⟩
  | 53 => ⟨S_, .i32⟩
  | 54 => ⟨S_, .i32⟩
  | 55 => ⟨S_, .i32⟩
  | 56 => ⟨S131072x3, .i32⟩
  | 57 => ⟨S131072x3, .i32⟩
  | 58 => ⟨S131072x3, .i32⟩
  | 59 => ⟨S131072x3, .i32⟩
  | 60 => ⟨S131072x3, .i32⟩
  | 61 => ⟨S_, .i32⟩
  | 62 => ⟨S131072x3, .i32⟩
  | 63 => ⟨S131072x3, .i32⟩
  | 64 => ⟨S_, .i32⟩
  | 65 => ⟨S131072x3, .i32⟩
  | 66 => ⟨S131072x3, .i32⟩
  | 67 => ⟨S131072x3, .i32⟩
  | 68 => ⟨S131072x3, .i32⟩
  | 69 => ⟨S131072x3, .i32⟩
  | 70 => ⟨S_, .i32⟩
  | 71 => ⟨S131072x3, .i32⟩
  | 72 => ⟨S131072x3, .i32⟩
  | 73 => ⟨S_, .i32⟩
  | 74 => ⟨S131072x3, .i32⟩
  | 75 => ⟨S131072x3, .i32⟩
  | 76 => ⟨S131072x3, .i32⟩
  | 77 => ⟨S131072x3, .i32⟩
  | 78 => ⟨S131072x3, .i32⟩
  | 79 => ⟨S_, .i32⟩
  | 80 => ⟨S131072x3, .i32⟩
  | 81 => ⟨S131072x3, .i32⟩
  | 82 => ⟨S_, .i32⟩
  | 83 => ⟨S131072x3, .i32⟩
  | 84 => ⟨S131072x3, .i32⟩
  | 85 => ⟨S131072x3, .i32⟩
  | 86 => ⟨S131072x3, .i32⟩
  | 87 => ⟨S131072x3, .i32⟩
  | 88 => ⟨S_, .i32⟩
  | 89 => ⟨S131072x3, .i32⟩
  | 90 => ⟨S131072x3, .i32⟩
  | 91 => ⟨S_, .i32⟩
  | 92 => ⟨S131072x3, .i32⟩
  | 93 => ⟨S131072x3, .i32⟩
  | 94 => ⟨S131072x3, .i32⟩
  | 95 => ⟨S131072x3, .i32⟩
  | 96 => ⟨S131072x3, .i32⟩
  | 97 => ⟨S131072x3, .i32⟩
  | 98 => ⟨S131072x3, .i32⟩
  | 99 => ⟨S131072x3, .i32⟩
  | 100 => ⟨S_, .i32⟩
  | 101 => ⟨S131072x3, .i32⟩
  | 102 => ⟨S131072x3, .i32⟩
  | 103 => ⟨S131072x3, .i32⟩
  | 104 => ⟨S_, .i32⟩
  | 105 => ⟨S131072x3, .i32⟩
  | 106 => ⟨S131072x3, .i32⟩
  | 107 => ⟨S_, .i32⟩
  | 108 => ⟨S131072x3, .i32⟩
  | 109 => ⟨S131072x3, .i32⟩
  | 110 => ⟨S131072x3, .i32⟩
  | 111 => ⟨S131072x3, .i32⟩
  | 112 => ⟨S131072x3, .i32⟩
  | 113 => ⟨S_, .i32⟩
  | 114 => ⟨S131072x3, .i32⟩
  | 115 => ⟨S131072x3, .i32⟩
  | 116 => ⟨S_, .i32⟩
  | 117 => ⟨S131072x3, .i32⟩
  | 118 => ⟨S131072x3, .i32⟩
  | 119 => ⟨S131072x3, .i32⟩
  | 120 => ⟨S131072x3, .i32⟩
  | 121 => ⟨S131072x3, .i32⟩
  | 122 => ⟨S_, .i32⟩
  | 123 => ⟨S131072x3, .i32⟩
  | 124 => ⟨S131072x3, .i32⟩
  | 125 => ⟨S_, .i32⟩
  | 126 => ⟨S131072x3, .i32⟩
  | 127 => ⟨S131072x3, .i32⟩
  | _ => ⟨S131072x3, .f32⟩

abbrev hbmTy0_3 (i : Nat) : BufTy := match i % 128 with
  | 0 => ⟨S131072x3, .i32⟩
  | 1 => ⟨S131072x3, .i32⟩
  | 2 => ⟨S131072x3, .i32⟩
  | 3 => ⟨S_, .i32⟩
  | 4 => ⟨S131072x3, .i32⟩
  | 5 => ⟨S131072x3, .i32⟩
  | 6 => ⟨S_, .i32⟩
  | 7 => ⟨S131072x3, .i32⟩
  | 8 => ⟨S131072x3, .i32⟩
  | 9 => ⟨S131072x3, .i32⟩
  | 10 => ⟨S131072x3, .i32⟩
  | 11 => ⟨S131072x3, .i32⟩
  | 12 => ⟨S131072x3, .i32⟩
  | 13 => ⟨S131072x3, .i32⟩
  | 14 => ⟨S131072x3, .i32⟩
  | 15 => ⟨S_, .i32⟩
  | 16 => ⟨S131072x3, .i32⟩
  | 17 => ⟨S131072x3, .i32⟩
  | 18 => ⟨S131072x3, .i32⟩
  | 19 => ⟨S_, .i32⟩
  | 20 => ⟨S131072x3, .i32⟩
  | 21 => ⟨S131072x3, .i32⟩
  | 22 => ⟨S_, .i32⟩
  | 23 => ⟨S131072x3, .i32⟩
  | 24 => ⟨S131072x3, .i32⟩
  | 25 => ⟨S131072x3, .i32⟩
  | 26 => ⟨S131072x3, .i32⟩
  | 27 => ⟨S131072x3, .i32⟩
  | 28 => ⟨S_, .i32⟩
  | 29 => ⟨S131072x3, .i32⟩
  | 30 => ⟨S131072x3, .i32⟩
  | 31 => ⟨S_, .i32⟩
  | 32 => ⟨S131072x3, .i32⟩
  | 33 => ⟨S131072x3, .i32⟩
  | 34 => ⟨S131072x3, .i32⟩
  | 35 => ⟨S131072x3, .i32⟩
  | 36 => ⟨S131072x3, .i32⟩
  | 37 => ⟨S_, .i32⟩
  | 38 => ⟨S131072x3, .i32⟩
  | 39 => ⟨S131072x3, .i32⟩
  | 40 => ⟨S_, .i32⟩
  | 41 => ⟨S131072x3, .i32⟩
  | 42 => ⟨S131072x3, .i32⟩
  | 43 => ⟨S131072x3, .i32⟩
  | 44 => ⟨S131072x3, .i32⟩
  | 45 => ⟨S131072x3, .i32⟩
  | 46 => ⟨S_, .i32⟩
  | 47 => ⟨S131072x3, .i32⟩
  | 48 => ⟨S131072x3, .i32⟩
  | 49 => ⟨S_, .i32⟩
  | 50 => ⟨S131072x3, .i32⟩
  | 51 => ⟨S131072x3, .i32⟩
  | 52 => ⟨S131072x3, .i32⟩
  | 53 => ⟨S131072x3, .i32⟩
  | 54 => ⟨S131072x3, .i32⟩
  | 55 => ⟨S131072x3, .i32⟩
  | 56 => ⟨S131072x3, .i32⟩
  | 57 => ⟨S131072x3, .i32⟩
  | 58 => ⟨S_, .i32⟩
  | 59 => ⟨S131072x3, .i32⟩
  | 60 => ⟨S131072x3, .i32⟩
  | 61 => ⟨S131072x3, .i32⟩
  | 62 => ⟨S_, .i32⟩
  | 63 => ⟨S131072x3, .i32⟩
  | 64 => ⟨S131072x3, .i32⟩
  | 65 => ⟨S_, .i32⟩
  | 66 => ⟨S131072x3, .i32⟩
  | 67 => ⟨S131072x3, .i32⟩
  | 68 => ⟨S131072x3, .i32⟩
  | 69 => ⟨S131072x3, .i32⟩
  | 70 => ⟨S131072x3, .i32⟩
  | 71 => ⟨S_, .i32⟩
  | 72 => ⟨S131072x3, .i32⟩
  | 73 => ⟨S131072x3, .i32⟩
  | 74 => ⟨S_, .i32⟩
  | 75 => ⟨S131072x3, .i32⟩
  | 76 => ⟨S131072x3, .i32⟩
  | 77 => ⟨S131072x3, .i32⟩
  | 78 => ⟨S131072x3, .i32⟩
  | 79 => ⟨S131072x3, .i32⟩
  | 80 => ⟨S_, .i32⟩
  | 81 => ⟨S131072x3, .i32⟩
  | 82 => ⟨S131072x3, .i32⟩
  | 83 => ⟨S_, .i32⟩
  | 84 => ⟨S131072x3, .i32⟩
  | 85 => ⟨S131072x3, .i32⟩
  | 86 => ⟨S131072x3, .i32⟩
  | 87 => ⟨S131072x3, .i32⟩
  | 88 => ⟨S131072x3, .i32⟩
  | 89 => ⟨S_, .i32⟩
  | 90 => ⟨S131072x3, .i32⟩
  | 91 => ⟨S131072x3, .i32⟩
  | 92 => ⟨S_, .i32⟩
  | 93 => ⟨S131072x3, .i32⟩
  | 94 => ⟨S131072x3, .i32⟩
  | 95 => ⟨S131072x3, .i32⟩
  | 96 => ⟨S131072x3, .i32⟩
  | 97 => ⟨S131072x3, .i32⟩
  | 98 => ⟨S131072x3, .i32⟩
  | 99 => ⟨S131072x3, .i32⟩
  | 100 => ⟨S131072x3, .i32⟩
  | 101 => ⟨S_, .i32⟩
  | 102 => ⟨S131072x3, .i32⟩
  | 103 => ⟨S131072x3, .i32⟩
  | 104 => ⟨S131072x3, .i32⟩
  | 105 => ⟨S_, .i32⟩
  | 106 => ⟨S131072x3, .i32⟩
  | 107 => ⟨S131072x3, .i32⟩
  | 108 => ⟨S_, .i32⟩
  | 109 => ⟨S131072x3, .i32⟩
  | 110 => ⟨S131072x3, .i32⟩
  | 111 => ⟨S131072x3, .i32⟩
  | 112 => ⟨S131072x3, .i32⟩
  | 113 => ⟨S131072x3, .i32⟩
  | 114 => ⟨S_, .i32⟩
  | 115 => ⟨S131072x3, .i32⟩
  | 116 => ⟨S131072x3, .i32⟩
  | 117 => ⟨S_, .i32⟩
  | 118 => ⟨S131072x3, .i32⟩
  | 119 => ⟨S131072x3, .i32⟩
  | 120 => ⟨S131072x3, .i32⟩
  | 121 => ⟨S131072x3, .i32⟩
  | 122 => ⟨S131072x3, .i32⟩
  | 123 => ⟨S_, .i32⟩
  | 124 => ⟨S131072x3, .i32⟩
  | 125 => ⟨S131072x3, .i32⟩
  | 126 => ⟨S_, .i32⟩
  | 127 => ⟨S131072x3, .i32⟩
  | _ => ⟨S131072x3, .f32⟩

abbrev hbmTy0_4 (i : Nat) : BufTy := match i % 128 with
  | 0 => ⟨S131072x3, .i32⟩
  | 1 => ⟨S131072x3, .i32⟩
  | 2 => ⟨S131072x3, .i32⟩
  | 3 => ⟨S131072x3, .i32⟩
  | 4 => ⟨S_, .i32⟩
  | 5 => ⟨S131072x3, .i32⟩
  | 6 => ⟨S131072x3, .i32⟩
  | 7 => ⟨S_, .i32⟩
  | 8 => ⟨S131072x3, .i32⟩
  | 9 => ⟨S131072x3, .i32⟩
  | 10 => ⟨S131072x3, .i32⟩
  | 11 => ⟨S131072x3, .i32⟩
  | 12 => ⟨S131072x3, .i32⟩
  | 13 => ⟨S131072x3, .i32⟩
  | 14 => ⟨S131072x3, .i32⟩
  | 15 => ⟨S131072x3, .i32⟩
  | 16 => ⟨S_, .i32⟩
  | 17 => ⟨S131072x3, .i32⟩
  | 18 => ⟨S131072x3, .i32⟩
  | 19 => ⟨S131072x3, .i32⟩
  | 20 => ⟨S_, .i32⟩
  | 21 => ⟨S131072x3, .i32⟩
  | 22 => ⟨S131072x3, .i32⟩
  | 23 => ⟨S_, .i32⟩
  | 24 => ⟨S131072x3, .i32⟩
  | 25 => ⟨S131072x3, .i32⟩
  | 26 => ⟨S131072x3, .f32⟩
  | 27 => ⟨S_, .f32⟩
  | 28 => ⟨S131072x3, .f32⟩
  | 29 => ⟨S131072x3, .f32⟩
  | 30 => ⟨S_, .f32⟩
  | 31 => ⟨S131072x3, .f32⟩
  | 32 => ⟨S131072x3, .f32⟩
  | 33 => ⟨S_, .f32⟩
  | 34 => ⟨S131072x3, .f32⟩
  | 35 => ⟨S131072x3, .f32⟩
  | 36 => ⟨S_, .f32⟩
  | 37 => ⟨S131072x3, .f32⟩
  | 38 => ⟨S131072x3, .f32⟩
  | 39 => ⟨S131072x3, .f32⟩
  | 40 => ⟨S131072x3, .f32⟩
  | 41 => ⟨S131072x3, .f32⟩
  | 42 => ⟨S131072x3, .f32⟩
  | 43 => ⟨S_, .f32⟩
  | 44 => ⟨S131072x3, .f32⟩
  | 45 => ⟨S131072x3, .f32⟩
  | 46 => ⟨S131072x3, .f32⟩
  | 47 => ⟨S_, .f32⟩
  | 48 => ⟨S131072x3, .f32⟩
  | 49 => ⟨S131072x3, .f32⟩
  | 50 => ⟨S_, .f32⟩
  | 51 => ⟨S131072x3, .f32⟩
  | 52 => ⟨S131072x3, .f32⟩
  | 53 => ⟨S_, .f32⟩
  | 54 => ⟨S131072x3, .f32⟩
  | 55 => ⟨S131072x3, .f32⟩
  | 56 => ⟨S_, .f32⟩
  | 57 => ⟨S131072x3, .f32⟩
  | 58 => ⟨S131072x3, .f32⟩
  | 59 => ⟨S_, .f32⟩
  | 60 => ⟨S131072x3, .f32⟩
  | 61 => ⟨S131072x3, .f32⟩
  | 62 => ⟨S131072x3, .f32⟩
  | 63 => ⟨S_, .f32⟩
  | 64 => ⟨S131072x3, .f32⟩
  | 65 => ⟨S131072x3, .f32⟩
  | 66 => ⟨S131072x3, .f32⟩
  | 67 => ⟨S_, .f32⟩
  | 68 => ⟨S131072x3, .f32⟩
  | 69 => ⟨S131072x3, .f32⟩
  | 70 => ⟨S131072x3, .f32⟩
  | 71 => ⟨S_, .f32⟩
  | 72 => ⟨S131072x3, .f32⟩
  | 73 => ⟨S131072x3, .f32⟩
  | 74 => ⟨S131072x3, .f32⟩
  | 75 => ⟨S_, .f32⟩
  | 76 => ⟨S131072x3, .f32⟩
  | 77 => ⟨S131072x3, .f32⟩
  | 78 => ⟨S131072x3, .f32⟩
  | 79 => ⟨S_, .f32⟩
  | 80 => ⟨S131072x3, .f32⟩
  | 81 => ⟨S131072x3, .f32⟩
  | 82 => ⟨S131072x3, .f32⟩
  | 83 => ⟨S_, .f32⟩
  | 84 => ⟨S131072x3, .f32⟩
  | 85 => ⟨S131072x3, .f32⟩
  | 86 => ⟨S131072x3, .f32⟩
  | 87 => ⟨S_, .f32⟩
  | 88 => ⟨S131072x3, .f32⟩
  | 89 => ⟨S131072x3, .f32⟩
  | 90 => ⟨S131072x3, .f32⟩
  | 91 => ⟨S_, .f32⟩
  | 92 => ⟨S131072x3, .f32⟩
  | 93 => ⟨S131072x3, .f32⟩
  | 94 => ⟨S131072x3, .f32⟩
  | 95 => ⟨S_, .f32⟩
  | 96 => ⟨S131072x3, .f32⟩
  | 97 => ⟨S131072x3, .f32⟩
  | 98 => ⟨S131072x3, .f32⟩
  | 99 => ⟨S_, .f32⟩
  | 100 => ⟨S131072x3, .f32⟩
  | 101 => ⟨S131072x3, .f32⟩
  | 102 => ⟨S131072x3, .f32⟩
  | 103 => ⟨S_, .f32⟩
  | 104 => ⟨S131072x3, .f32⟩
  | 105 => ⟨S131072x3, .f32⟩
  | 106 => ⟨S131072x3, .f32⟩
  | 107 => ⟨S_, .f32⟩
  | 108 => ⟨S131072x3, .f32⟩
  | 109 => ⟨S131072x3, .f32⟩
  | 110 => ⟨S131072x3, .f32⟩
  | 111 => ⟨S_, .f32⟩
  | 112 => ⟨S131072x3, .f32⟩
  | 113 => ⟨S131072x3, .f32⟩
  | 114 => ⟨S131072x3, .f32⟩
  | 115 => ⟨S_, .f32⟩
  | 116 => ⟨S131072x3, .f32⟩
  | 117 => ⟨S131072x3, .f32⟩
  | 118 => ⟨S_, .f32⟩
  | 119 => ⟨S131072x3, .f32⟩
  | 120 => ⟨S131072x3, .i1⟩
  | 121 => ⟨S131072x3, .f32⟩
  | 122 => ⟨S131072x3, .f32⟩
  | 123 => ⟨S_, .f32⟩
  | 124 => ⟨S131072x3, .f32⟩
  | 125 => ⟨S131072x3, .f32⟩
  | 126 => ⟨S131072x1, .f32⟩
  | 127 => ⟨S131072x3, .f32⟩
  | _ => ⟨S131072x3, .f32⟩

abbrev hbmTy0_5 (i : Nat) : BufTy := match i % 128 with
  | 0 => ⟨S131072x3, .f32⟩
  | 1 => ⟨S131072x3, .f32⟩
  | 2 => ⟨S_, .i32⟩
  | 3 => ⟨S131072, .i32⟩
  | 4 => ⟨S131072, .i32⟩
  | 5 => ⟨S131072x1, .i32⟩
  | 6 => ⟨S1x100, .i32⟩
  | 7 => ⟨S131072x100, .i32⟩
  | 8 => ⟨S131072x100, .i32⟩
  | 9 => ⟨S131072x100, .i1⟩
  | 10 => ⟨S131072x100, .f32⟩
  | 11 => ⟨S131072x1, .f32⟩
  | 12 => ⟨S131072x100, .f32⟩
  | 13 => ⟨S131072x100, .f32⟩
  | 14 => ⟨S131072x100, .f32⟩
  | 15 => ⟨S1, .i32⟩
  | 16 => ⟨S_, .i32⟩
  | 17 => ⟨S1, .i32⟩
  | 18 => ⟨S_, .i32⟩
  | 19 => ⟨S131072x100, .i64⟩
  | 20 => ⟨S131072x100, .i64⟩
  | 21 => ⟨S_, .i64⟩
  | 22 => ⟨S131072x100, .i64⟩
  | 23 => ⟨S131072x100, .i64⟩
  | 24 => ⟨S_, .i64⟩
  | 25 => ⟨S131072x100, .i64⟩
  | 26 => ⟨S131072x100, .i64⟩
  | 27 => ⟨S131072x100, .i64⟩
  | 28 => ⟨S_, .i64⟩
  | 29 => ⟨S131072x100, .i64⟩
  | 30 => ⟨S131072x100, .i64⟩
  | 31 => ⟨S131072x100, .i32⟩
  | 32 => ⟨S131072x100, .i32⟩
  | 33 => ⟨S_, .i32⟩
  | 34 => ⟨S_, .i32⟩
  | 35 => ⟨S_, .i32⟩
  | 36 => ⟨S131072x100, .i32⟩
  | 37 => ⟨S131072x100, .i32⟩
  | 38 => ⟨S131072x100, .i32⟩
  | 39 => ⟨S131072x100, .i32⟩
  | 40 => ⟨S131072x100, .i32⟩
  | 41 => ⟨S_, .i32⟩
  | 42 => ⟨S131072x100, .i32⟩
  | 43 => ⟨S131072x100, .i32⟩
  | 44 => ⟨S_, .i32⟩
  | 45 => ⟨S131072x100, .i32⟩
  | 46 => ⟨S131072x100, .i32⟩
  | 47 => ⟨S131072x100, .i32⟩
  | 48 => ⟨S131072x100, .i32⟩
  | 49 => ⟨S131072x100, .i32⟩
  | 50 => ⟨S_, .i32⟩
  | 51 => ⟨S131072x100, .i32⟩
  | 52 => ⟨S131072x100, .i32⟩
  | 53 => ⟨S_, .i32⟩
  | 54 => ⟨S131072x100, .i32⟩
  | 55 => ⟨S131072x100, .i32⟩
  | 56 => ⟨S131072x100, .i32⟩
  | 57 => ⟨S131072x100, .i32⟩
  | 58 => ⟨S131072x100, .i32⟩
  | 59 => ⟨S_, .i32⟩
  | 60 => ⟨S131072x100, .i32⟩
  | 61 => ⟨S131072x100, .i32⟩
  | 62 => ⟨S_, .i32⟩
  | 63 => ⟨S131072x100, .i32⟩
  | 64 => ⟨S131072x100, .i32⟩
  | 65 => ⟨S131072x100, .i32⟩
  | 66 => ⟨S131072x100, .i32⟩
  | 67 => ⟨S131072x100, .i32⟩
  | 68 => ⟨S_, .i32⟩
  | 69 => ⟨S131072x100, .i32⟩
  | 70 => ⟨S131072x100, .i32⟩
  | 71 => ⟨S_, .i32⟩
  | 72 => ⟨S131072x100, .i32⟩
  | 73 => ⟨S131072x100, .i32⟩
  | 74 => ⟨S131072x100, .i32⟩
  | 75 => ⟨S131072x100, .i32⟩
  | 76 => ⟨S131072x100, .i32⟩
  | 77 => ⟨S131072x100, .i32⟩
  | 78 => ⟨S131072x100, .i32⟩
  | 79 => ⟨S131072x100, .i32⟩
  | 80 => ⟨S_, .i32⟩
  | 81 => ⟨S131072x100, .i32⟩
  | 82 => ⟨S131072x100, .i32⟩
  | 83 => ⟨S131072x100, .i32⟩
  | 84 => ⟨S_, .i32⟩
  | 85 => ⟨S131072x100, .i32⟩
  | 86 => ⟨S131072x100, .i32⟩
  | 87 => ⟨S_, .i32⟩
  | 88 => ⟨S131072x100, .i32⟩
  | 89 => ⟨S131072x100, .i32⟩
  | 90 => ⟨S131072x100, .i32⟩
  | 91 => ⟨S131072x100, .i32⟩
  | 92 => ⟨S131072x100, .i32⟩
  | 93 => ⟨S_, .i32⟩
  | 94 => ⟨S131072x100, .i32⟩
  | 95 => ⟨S131072x100, .i32⟩
  | 96 => ⟨S_, .i32⟩
  | 97 => ⟨S131072x100, .i32⟩
  | 98 => ⟨S131072x100, .i32⟩
  | 99 => ⟨S131072x100, .i32⟩
  | 100 => ⟨S131072x100, .i32⟩
  | 101 => ⟨S131072x100, .i32⟩
  | 102 => ⟨S_, .i32⟩
  | 103 => ⟨S131072x100, .i32⟩
  | 104 => ⟨S131072x100, .i32⟩
  | 105 => ⟨S_, .i32⟩
  | 106 => ⟨S131072x100, .i32⟩
  | 107 => ⟨S131072x100, .i32⟩
  | 108 => ⟨S131072x100, .i32⟩
  | 109 => ⟨S131072x100, .i32⟩
  | 110 => ⟨S131072x100, .i32⟩
  | 111 => ⟨S_, .i32⟩
  | 112 => ⟨S131072x100, .i32⟩
  | 113 => ⟨S131072x100, .i32⟩
  | 114 => ⟨S_, .i32⟩
  | 115 => ⟨S131072x100, .i32⟩
  | 116 => ⟨S131072x100, .i32⟩
  | 117 => ⟨S131072x100, .i32⟩
  | 118 => ⟨S131072x100, .i32⟩
  | 119 => ⟨S131072x100, .i32⟩
  | 120 => ⟨S131072x100, .i32⟩
  | 121 => ⟨S131072x100, .i32⟩
  | 122 => ⟨S131072x100, .i32⟩
  | 123 => ⟨S_, .i32⟩
  | 124 => ⟨S131072x100, .i32⟩
  | 125 => ⟨S131072x100, .i32⟩
  | 126 => ⟨S131072x100, .i32⟩
  | 127 => ⟨S_, .i32⟩
  | _ => ⟨S131072x3, .f32⟩

abbrev hbmTy0_6 (i : Nat) : BufTy := match i % 128 with
  | 0 => ⟨S131072x100, .i32⟩
  | 1 => ⟨S131072x100, .i32⟩
  | 2 => ⟨S_, .i32⟩
  | 3 => ⟨S131072x100, .i32⟩
  | 4 => ⟨S131072x100, .i32⟩
  | 5 => ⟨S131072x100, .i32⟩
  | 6 => ⟨S131072x100, .i32⟩
  | 7 => ⟨S131072x100, .i32⟩
  | 8 => ⟨S_, .i32⟩
  | 9 => ⟨S131072x100, .i32⟩
  | 10 => ⟨S131072x100, .i32⟩
  | 11 => ⟨S_, .i32⟩
  | 12 => ⟨S131072x100, .i32⟩
  | 13 => ⟨S131072x100, .i32⟩
  | 14 => ⟨S131072x100, .i32⟩
  | 15 => ⟨S131072x100, .i32⟩
  | 16 => ⟨S131072x100, .i32⟩
  | 17 => ⟨S_, .i32⟩
  | 18 => ⟨S131072x100, .i32⟩
  | 19 => ⟨S131072x100, .i32⟩
  | 20 => ⟨S_, .i32⟩
  | 21 => ⟨S131072x100, .i32⟩
  | 22 => ⟨S131072x100, .i32⟩
  | 23 => ⟨S131072x100, .i32⟩
  | 24 => ⟨S131072x100, .i32⟩
  | 25 => ⟨S131072x100, .i32⟩
  | 26 => ⟨S_, .i32⟩
  | 27 => ⟨S131072x100, .i32⟩
  | 28 => ⟨S131072x100, .i32⟩
  | 29 => ⟨S_, .i32⟩
  | 30 => ⟨S131072x100, .i32⟩
  | 31 => ⟨S131072x100, .i32⟩
  | 32 => ⟨S131072x100, .i32⟩
  | 33 => ⟨S131072x100, .i32⟩
  | 34 => ⟨S131072x100, .i32⟩
  | 35 => ⟨S131072x100, .i32⟩
  | 36 => ⟨S131072x100, .i32⟩
  | 37 => ⟨S131072x100, .i32⟩
  | 38 => ⟨S_, .i32⟩
  | 39 => ⟨S131072x100, .i32⟩
  | 40 => ⟨S131072x100, .i32⟩
  | 41 => ⟨S131072x100, .i32⟩
  | 42 => ⟨S_, .i32⟩
  | 43 => ⟨S131072x100, .i32⟩
  | 44 => ⟨S131072x100, .i32⟩
  | 45 => ⟨S_, .i32⟩
  | 46 => ⟨S131072x100, .i32⟩
  | 47 => ⟨S131072x100, .i32⟩
  | 48 => ⟨S131072x100, .i32⟩
  | 49 => ⟨S131072x100, .i32⟩
  | 50 => ⟨S131072x100, .i32⟩
  | 51 => ⟨S_, .i32⟩
  | 52 => ⟨S131072x100, .i32⟩
  | 53 => ⟨S131072x100, .i32⟩
  | 54 => ⟨S_, .i32⟩
  | 55 => ⟨S131072x100, .i32⟩
  | 56 => ⟨S131072x100, .i32⟩
  | 57 => ⟨S131072x100, .i32⟩
  | 58 => ⟨S131072x100, .i32⟩
  | 59 => ⟨S131072x100, .i32⟩
  | 60 => ⟨S_, .i32⟩
  | 61 => ⟨S131072x100, .i32⟩
  | 62 => ⟨S131072x100, .i32⟩
  | 63 => ⟨S_, .i32⟩
  | 64 => ⟨S131072x100, .i32⟩
  | 65 => ⟨S131072x100, .i32⟩
  | 66 => ⟨S131072x100, .i32⟩
  | 67 => ⟨S131072x100, .i32⟩
  | 68 => ⟨S131072x100, .i32⟩
  | 69 => ⟨S_, .i32⟩
  | 70 => ⟨S131072x100, .i32⟩
  | 71 => ⟨S131072x100, .i32⟩
  | 72 => ⟨S_, .i32⟩
  | 73 => ⟨S131072x100, .i32⟩
  | 74 => ⟨S131072x100, .i32⟩
  | 75 => ⟨S131072x100, .i32⟩
  | 76 => ⟨S131072x100, .i32⟩
  | 77 => ⟨S131072x100, .i32⟩
  | 78 => ⟨S131072x100, .i32⟩
  | 79 => ⟨S131072x100, .i32⟩
  | 80 => ⟨S131072x100, .i32⟩
  | 81 => ⟨S_, .i32⟩
  | 82 => ⟨S131072x100, .i32⟩
  | 83 => ⟨S131072x100, .i32⟩
  | 84 => ⟨S131072x100, .i32⟩
  | 85 => ⟨S_, .i32⟩
  | 86 => ⟨S131072x100, .i32⟩
  | 87 => ⟨S131072x100, .i32⟩
  | 88 => ⟨S_, .i32⟩
  | 89 => ⟨S131072x100, .i32⟩
  | 90 => ⟨S131072x100, .i32⟩
  | 91 => ⟨S131072x100, .i32⟩
  | 92 => ⟨S131072x100, .i32⟩
  | 93 => ⟨S131072x100, .i32⟩
  | 94 => ⟨S_, .i32⟩
  | 95 => ⟨S131072x100, .i32⟩
  | 96 => ⟨S131072x100, .i32⟩
  | 97 => ⟨S_, .i32⟩
  | 98 => ⟨S131072x100, .i32⟩
  | 99 => ⟨S131072x100, .i32⟩
  | 100 => ⟨S131072x100, .i32⟩
  | 101 => ⟨S131072x100, .i32⟩
  | 102 => ⟨S131072x100, .i32⟩
  | 103 => ⟨S_, .i32⟩
  | 104 => ⟨S131072x100, .i32⟩
  | 105 => ⟨S131072x100, .i32⟩
  | 106 => ⟨S_, .i32⟩
  | 107 => ⟨S131072x100, .i32⟩
  | 108 => ⟨S131072x100, .i32⟩
  | 109 => ⟨S131072x100, .i32⟩
  | 110 => ⟨S131072x100, .i32⟩
  | 111 => ⟨S131072x100, .i32⟩
  | 112 => ⟨S_, .i32⟩
  | 113 => ⟨S131072x100, .i32⟩
  | 114 => ⟨S131072x100, .i32⟩
  | 115 => ⟨S_, .i32⟩
  | 116 => ⟨S131072x100, .i32⟩
  | 117 => ⟨S131072x100, .i32⟩
  | 118 => ⟨S131072x100, .i32⟩
  | 119 => ⟨S131072x100, .i32⟩
  | 120 => ⟨S131072x100, .i32⟩
  | 121 => ⟨S131072x100, .i32⟩
  | 122 => ⟨S131072x100, .i32⟩
  | 123 => ⟨S131072x100, .i32⟩
  | 124 => ⟨S_, .i32⟩
  | 125 => ⟨S131072x100, .i32⟩
  | 126 => ⟨S131072x100, .i32⟩
  | 127 => ⟨S131072x100, .i32⟩
  | _ => ⟨S131072x3, .f32⟩

abbrev hbmTy0_7 (i : Nat) : BufTy := match i % 128 with
  | 0 => ⟨S_, .i32⟩
  | 1 => ⟨S131072x100, .i32⟩
  | 2 => ⟨S131072x100, .i32⟩
  | 3 => ⟨S_, .i32⟩
  | 4 => ⟨S131072x100, .i32⟩
  | 5 => ⟨S131072x100, .i32⟩
  | 6 => ⟨S131072x100, .f32⟩
  | 7 => ⟨S_, .f32⟩
  | 8 => ⟨S131072x100, .f32⟩
  | 9 => ⟨S131072x100, .f32⟩
  | 10 => ⟨S_, .f32⟩
  | 11 => ⟨S131072x100, .f32⟩
  | 12 => ⟨S131072x100, .f32⟩
  | 13 => ⟨S_, .f32⟩
  | 14 => ⟨S131072x100, .f32⟩
  | 15 => ⟨S131072x100, .f32⟩
  | 16 => ⟨S_, .f32⟩
  | 17 => ⟨S131072x100, .f32⟩
  | 18 => ⟨S131072x100, .f32⟩
  | 19 => ⟨S131072x100, .f32⟩
  | 20 => ⟨S131072x100, .f32⟩
  | 21 => ⟨S131072x100, .f32⟩
  | 22 => ⟨S131072x100, .f32⟩
  | 23 => ⟨S131072x100, .f32⟩
  | 24 => ⟨S131072x100, .f32⟩
  | 25 => ⟨S131072x100, .i32⟩
  | 26 => ⟨S_, .f32⟩
  | 27 => ⟨S_, .i32⟩
  | 28 => ⟨S131072, .f32⟩
  | 29 => ⟨S131072, .i32⟩
  | 30 => ⟨S_, .i32⟩
  | 31 => ⟨S131072, .i32⟩
  | 32 => ⟨S131072, .i32⟩
  | _ => ⟨S131072x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S131072x3, .f32⟩

abbrev bufTy : (tb : Table) → Fin (tcTables nBuf tb) → BufTy
  | .hbm, ⟨i, _⟩ => hbmTy i
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_2 : Ref sig .tc := ⟨.hbm, 14, rfl⟩
abbrev main_v5 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_c_0 : Ref sig .tc := ⟨.hbm, 37, rfl⟩
abbrev main_call0_v10 : Ref sig .tc := ⟨.hbm, 38, rfl⟩
abbrev main_call0_v11 : Ref sig .tc := ⟨.hbm, 39, rfl⟩
abbrev main_call0_c_1 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_call0_v16 : Ref sig .tc := ⟨.hbm, 45, rfl⟩
abbrev main_call0_c_2 : Ref sig .tc := ⟨.hbm, 46, rfl⟩
abbrev main_call0_v17 : Ref sig .tc := ⟨.hbm, 47, rfl⟩
abbrev main_call0_v18 : Ref sig .tc := ⟨.hbm, 48, rfl⟩
abbrev main_call0_c_3 : Ref sig .tc := ⟨.hbm, 49, rfl⟩
abbrev main_call0_v19 : Ref sig .tc := ⟨.hbm, 50, rfl⟩
abbrev main_call0_v20 : Ref sig .tc := ⟨.hbm, 51, rfl⟩
abbrev main_call0_v21 : Ref sig .tc := ⟨.hbm, 52, rfl⟩
abbrev main_call0_v22 : Ref sig .tc := ⟨.hbm, 53, rfl⟩
abbrev main_call0_v23 : Ref sig .tc := ⟨.hbm, 54, rfl⟩
abbrev main_call0_c_4 : Ref sig .tc := ⟨.hbm, 55, rfl⟩
abbrev main_call0_v24 : Ref sig .tc := ⟨.hbm, 56, rfl⟩
abbrev main_call0_v25 : Ref sig .tc := ⟨.hbm, 57, rfl⟩
abbrev main_call0_c_5 : Ref sig .tc := ⟨.hbm, 58, rfl⟩
abbrev main_call0_v26 : Ref sig .tc := ⟨.hbm, 59, rfl⟩
abbrev main_call0_v27 : Ref sig .tc := ⟨.hbm, 60, rfl⟩
abbrev main_call0_v28 : Ref sig .tc := ⟨.hbm, 61, rfl⟩
abbrev main_call0_v29 : Ref sig .tc := ⟨.hbm, 62, rfl⟩
abbrev main_call0_v30 : Ref sig .tc := ⟨.hbm, 63, rfl⟩
abbrev main_call0_c_6 : Ref sig .tc := ⟨.hbm, 64, rfl⟩
abbrev main_call0_v31 : Ref sig .tc := ⟨.hbm, 65, rfl⟩
abbrev main_call0_v32 : Ref sig .tc := ⟨.hbm, 66, rfl⟩
abbrev main_call0_c_7 : Ref sig .tc := ⟨.hbm, 67, rfl⟩
abbrev main_call0_v33 : Ref sig .tc := ⟨.hbm, 68, rfl⟩
abbrev main_call0_v34 : Ref sig .tc := ⟨.hbm, 69, rfl⟩
abbrev main_call0_v35 : Ref sig .tc := ⟨.hbm, 70, rfl⟩
abbrev main_call0_v36 : Ref sig .tc := ⟨.hbm, 71, rfl⟩
abbrev main_call0_v37 : Ref sig .tc := ⟨.hbm, 72, rfl⟩
abbrev main_call0_v38 : Ref sig .tc := ⟨.hbm, 73, rfl⟩
abbrev main_call0_v39 : Ref sig .tc := ⟨.hbm, 74, rfl⟩
abbrev main_call0_v40 : Ref sig .tc := ⟨.hbm, 75, rfl⟩
abbrev main_call0_c_8 : Ref sig .tc := ⟨.hbm, 76, rfl⟩
abbrev main_call0_v41 : Ref sig .tc := ⟨.hbm, 77, rfl⟩
abbrev main_call0_v42 : Ref sig .tc := ⟨.hbm, 78, rfl⟩
abbrev main_call0_v43 : Ref sig .tc := ⟨.hbm, 79, rfl⟩
abbrev main_call0_c_9 : Ref sig .tc := ⟨.hbm, 80, rfl⟩
abbrev main_call0_v44 : Ref sig .tc := ⟨.hbm, 81, rfl⟩
abbrev main_call0_v45 : Ref sig .tc := ⟨.hbm, 82, rfl⟩
abbrev main_call0_c_10 : Ref sig .tc := ⟨.hbm, 83, rfl⟩
abbrev main_call0_v46 : Ref sig .tc := ⟨.hbm, 84, rfl⟩
abbrev main_call0_v47 : Ref sig .tc := ⟨.hbm, 85, rfl⟩
abbrev main_call0_v48 : Ref sig .tc := ⟨.hbm, 86, rfl⟩
abbrev main_call0_v49 : Ref sig .tc := ⟨.hbm, 87, rfl⟩
abbrev main_call0_v50 : Ref sig .tc := ⟨.hbm, 88, rfl⟩
abbrev main_call0_c_11 : Ref sig .tc := ⟨.hbm, 89, rfl⟩
abbrev main_call0_v51 : Ref sig .tc := ⟨.hbm, 90, rfl⟩
abbrev main_call0_v52 : Ref sig .tc := ⟨.hbm, 91, rfl⟩
abbrev main_call0_c_12 : Ref sig .tc := ⟨.hbm, 92, rfl⟩
abbrev main_call0_v53 : Ref sig .tc := ⟨.hbm, 93, rfl⟩
abbrev main_call0_v54 : Ref sig .tc := ⟨.hbm, 94, rfl⟩
abbrev main_call0_v55 : Ref sig .tc := ⟨.hbm, 95, rfl⟩
abbrev main_call0_v56 : Ref sig .tc := ⟨.hbm, 96, rfl⟩
abbrev main_call0_v57 : Ref sig .tc := ⟨.hbm, 97, rfl⟩
abbrev main_call0_c_13 : Ref sig .tc := ⟨.hbm, 98, rfl⟩
abbrev main_call0_v58 : Ref sig .tc := ⟨.hbm, 99, rfl⟩
abbrev main_call0_v59 : Ref sig .tc := ⟨.hbm, 100, rfl⟩
abbrev main_call0_c_14 : Ref sig .tc := ⟨.hbm, 101, rfl⟩
abbrev main_call0_v60 : Ref sig .tc := ⟨.hbm, 102, rfl⟩
abbrev main_call0_v61 : Ref sig .tc := ⟨.hbm, 103, rfl⟩
abbrev main_call0_v62 : Ref sig .tc := ⟨.hbm, 104, rfl⟩
abbrev main_call0_v63 : Ref sig .tc := ⟨.hbm, 105, rfl⟩
abbrev main_call0_v64 : Ref sig .tc := ⟨.hbm, 106, rfl⟩
abbrev main_call0_c_15 : Ref sig .tc := ⟨.hbm, 107, rfl⟩
abbrev main_call0_v65 : Ref sig .tc := ⟨.hbm, 108, rfl⟩
abbrev main_call0_v66 : Ref sig .tc := ⟨.hbm, 109, rfl⟩
abbrev main_call0_c_16 : Ref sig .tc := ⟨.hbm, 110, rfl⟩
abbrev main_call0_v67 : Ref sig .tc := ⟨.hbm, 111, rfl⟩
abbrev main_call0_v68 : Ref sig .tc := ⟨.hbm, 112, rfl⟩
abbrev main_call0_v69 : Ref sig .tc := ⟨.hbm, 113, rfl⟩
abbrev main_call0_v70 : Ref sig .tc := ⟨.hbm, 114, rfl⟩
abbrev main_call0_v71 : Ref sig .tc := ⟨.hbm, 115, rfl⟩
abbrev main_call0_v72 : Ref sig .tc := ⟨.hbm, 116, rfl⟩
abbrev main_call0_v73 : Ref sig .tc := ⟨.hbm, 117, rfl⟩
abbrev main_call0_v74 : Ref sig .tc := ⟨.hbm, 118, rfl⟩
abbrev main_call0_c_17 : Ref sig .tc := ⟨.hbm, 119, rfl⟩
abbrev main_call0_v75 : Ref sig .tc := ⟨.hbm, 120, rfl⟩
abbrev main_call0_v76 : Ref sig .tc := ⟨.hbm, 121, rfl⟩
abbrev main_call0_v77 : Ref sig .tc := ⟨.hbm, 122, rfl⟩
abbrev main_call0_c_18 : Ref sig .tc := ⟨.hbm, 123, rfl⟩
abbrev main_call0_v78 : Ref sig .tc := ⟨.hbm, 124, rfl⟩
abbrev main_call0_v79 : Ref sig .tc := ⟨.hbm, 125, rfl⟩
abbrev main_call0_c_19 : Ref sig .tc := ⟨.hbm, 126, rfl⟩
abbrev main_call0_v80 : Ref sig .tc := ⟨.hbm, 127, rfl⟩
abbrev main_call0_v81 : Ref sig .tc := ⟨.hbm, 128, rfl⟩
abbrev main_call0_v82 : Ref sig .tc := ⟨.hbm, 129, rfl⟩
abbrev main_call0_v83 : Ref sig .tc := ⟨.hbm, 130, rfl⟩
abbrev main_call0_v84 : Ref sig .tc := ⟨.hbm, 131, rfl⟩
abbrev main_call0_c_20 : Ref sig .tc := ⟨.hbm, 132, rfl⟩
abbrev main_call0_v85 : Ref sig .tc := ⟨.hbm, 133, rfl⟩
abbrev main_call0_v86 : Ref sig .tc := ⟨.hbm, 134, rfl⟩
abbrev main_call0_c_21 : Ref sig .tc := ⟨.hbm, 135, rfl⟩
abbrev main_call0_v87 : Ref sig .tc := ⟨.hbm, 136, rfl⟩
abbrev main_call0_v88 : Ref sig .tc := ⟨.hbm, 137, rfl⟩
abbrev main_call0_v89 : Ref sig .tc := ⟨.hbm, 138, rfl⟩
abbrev main_call0_v90 : Ref sig .tc := ⟨.hbm, 139, rfl⟩
abbrev main_call0_v91 : Ref sig .tc := ⟨.hbm, 140, rfl⟩
abbrev main_call0_c_22 : Ref sig .tc := ⟨.hbm, 141, rfl⟩
abbrev main_call0_v92 : Ref sig .tc := ⟨.hbm, 142, rfl⟩
abbrev main_call0_v93 : Ref sig .tc := ⟨.hbm, 143, rfl⟩
abbrev main_call0_c_23 : Ref sig .tc := ⟨.hbm, 144, rfl⟩
abbrev main_call0_v94 : Ref sig .tc := ⟨.hbm, 145, rfl⟩
abbrev main_call0_v95 : Ref sig .tc := ⟨.hbm, 146, rfl⟩
abbrev main_call0_v96 : Ref sig .tc := ⟨.hbm, 147, rfl⟩
abbrev main_call0_v97 : Ref sig .tc := ⟨.hbm, 148, rfl⟩
abbrev main_call0_v98 : Ref sig .tc := ⟨.hbm, 149, rfl⟩
abbrev main_call0_c_24 : Ref sig .tc := ⟨.hbm, 150, rfl⟩
abbrev main_call0_v99 : Ref sig .tc := ⟨.hbm, 151, rfl⟩
abbrev main_call0_v100 : Ref sig .tc := ⟨.hbm, 152, rfl⟩
abbrev main_call0_c_25 : Ref sig .tc := ⟨.hbm, 153, rfl⟩
abbrev main_call0_v101 : Ref sig .tc := ⟨.hbm, 154, rfl⟩
abbrev main_call0_v102 : Ref sig .tc := ⟨.hbm, 155, rfl⟩
abbrev main_call0_v103 : Ref sig .tc := ⟨.hbm, 156, rfl⟩
abbrev main_call0_v104 : Ref sig .tc := ⟨.hbm, 157, rfl⟩
abbrev main_call0_v105 : Ref sig .tc := ⟨.hbm, 158, rfl⟩
abbrev main_call0_v106 : Ref sig .tc := ⟨.hbm, 159, rfl⟩
abbrev main_call0_v107 : Ref sig .tc := ⟨.hbm, 160, rfl⟩
abbrev main_call0_v108 : Ref sig .tc := ⟨.hbm, 161, rfl⟩
abbrev main_call0_c_26 : Ref sig .tc := ⟨.hbm, 162, rfl⟩
abbrev main_call0_v109 : Ref sig .tc := ⟨.hbm, 163, rfl⟩
abbrev main_call0_v110 : Ref sig .tc := ⟨.hbm, 164, rfl⟩
abbrev main_call0_v111 : Ref sig .tc := ⟨.hbm, 165, rfl⟩
abbrev main_call0_c_27 : Ref sig .tc := ⟨.hbm, 166, rfl⟩
abbrev main_call0_v112 : Ref sig .tc := ⟨.hbm, 167, rfl⟩
abbrev main_call0_v113 : Ref sig .tc := ⟨.hbm, 168, rfl⟩
abbrev main_call0_c_28 : Ref sig .tc := ⟨.hbm, 169, rfl⟩
abbrev main_call0_v114 : Ref sig .tc := ⟨.hbm, 170, rfl⟩
abbrev main_call0_v115 : Ref sig .tc := ⟨.hbm, 171, rfl⟩
abbrev main_call0_v116 : Ref sig .tc := ⟨.hbm, 172, rfl⟩
abbrev main_call0_v117 : Ref sig .tc := ⟨.hbm, 173, rfl⟩
abbrev main_call0_v118 : Ref sig .tc := ⟨.hbm, 174, rfl⟩
abbrev main_call0_c_29 : Ref sig .tc := ⟨.hbm, 175, rfl⟩
abbrev main_call0_v119 : Ref sig .tc := ⟨.hbm, 176, rfl⟩
abbrev main_call0_v120 : Ref sig .tc := ⟨.hbm, 177, rfl⟩
abbrev main_call0_c_30 : Ref sig .tc := ⟨.hbm, 178, rfl⟩
abbrev main_call0_v121 : Ref sig .tc := ⟨.hbm, 179, rfl⟩
abbrev main_call0_v122 : Ref sig .tc := ⟨.hbm, 180, rfl⟩
abbrev main_call0_v123 : Ref sig .tc := ⟨.hbm, 181, rfl⟩
abbrev main_call0_v124 : Ref sig .tc := ⟨.hbm, 182, rfl⟩
abbrev main_call0_v125 : Ref sig .tc := ⟨.hbm, 183, rfl⟩
abbrev main_call0_c_31 : Ref sig .tc := ⟨.hbm, 184, rfl⟩
abbrev main_call0_v126 : Ref sig .tc := ⟨.hbm, 185, rfl⟩
abbrev main_call0_v127 : Ref sig .tc := ⟨.hbm, 186, rfl⟩
abbrev main_call0_c_32 : Ref sig .tc := ⟨.hbm, 187, rfl⟩
abbrev main_call0_v128 : Ref sig .tc := ⟨.hbm, 188, rfl⟩
abbrev main_call0_v129 : Ref sig .tc := ⟨.hbm, 189, rfl⟩
abbrev main_call0_v130 : Ref sig .tc := ⟨.hbm, 190, rfl⟩
abbrev main_call0_v131 : Ref sig .tc := ⟨.hbm, 191, rfl⟩
abbrev main_call0_v132 : Ref sig .tc := ⟨.hbm, 192, rfl⟩
abbrev main_call0_c_33 : Ref sig .tc := ⟨.hbm, 193, rfl⟩
abbrev main_call0_v133 : Ref sig .tc := ⟨.hbm, 194, rfl⟩
abbrev main_call0_v134 : Ref sig .tc := ⟨.hbm, 195, rfl⟩
abbrev main_call0_c_34 : Ref sig .tc := ⟨.hbm, 196, rfl⟩
abbrev main_call0_v135 : Ref sig .tc := ⟨.hbm, 197, rfl⟩
abbrev main_call0_v136 : Ref sig .tc := ⟨.hbm, 198, rfl⟩
abbrev main_call0_v137 : Ref sig .tc := ⟨.hbm, 199, rfl⟩
abbrev main_call0_v138 : Ref sig .tc := ⟨.hbm, 200, rfl⟩
abbrev main_call0_v139 : Ref sig .tc := ⟨.hbm, 201, rfl⟩
abbrev main_call0_v140 : Ref sig .tc := ⟨.hbm, 202, rfl⟩
abbrev main_call0_v141 : Ref sig .tc := ⟨.hbm, 203, rfl⟩
abbrev main_call0_v142 : Ref sig .tc := ⟨.hbm, 204, rfl⟩
abbrev main_call0_c_35 : Ref sig .tc := ⟨.hbm, 205, rfl⟩
abbrev main_call0_v143 : Ref sig .tc := ⟨.hbm, 206, rfl⟩
abbrev main_call0_v144 : Ref sig .tc := ⟨.hbm, 207, rfl⟩
abbrev main_call0_v145 : Ref sig .tc := ⟨.hbm, 208, rfl⟩
abbrev main_call0_c_36 : Ref sig .tc := ⟨.hbm, 209, rfl⟩
abbrev main_call0_v146 : Ref sig .tc := ⟨.hbm, 210, rfl⟩
abbrev main_call0_v147 : Ref sig .tc := ⟨.hbm, 211, rfl⟩
abbrev main_call0_c_37 : Ref sig .tc := ⟨.hbm, 212, rfl⟩
abbrev main_call0_v148 : Ref sig .tc := ⟨.hbm, 213, rfl⟩
abbrev main_call0_v149 : Ref sig .tc := ⟨.hbm, 214, rfl⟩
abbrev main_call0_v150 : Ref sig .tc := ⟨.hbm, 215, rfl⟩
abbrev main_call0_v151 : Ref sig .tc := ⟨.hbm, 216, rfl⟩
abbrev main_call0_v152 : Ref sig .tc := ⟨.hbm, 217, rfl⟩
abbrev main_call0_c_38 : Ref sig .tc := ⟨.hbm, 218, rfl⟩
abbrev main_call0_v153 : Ref sig .tc := ⟨.hbm, 219, rfl⟩
abbrev main_call0_v154 : Ref sig .tc := ⟨.hbm, 220, rfl⟩
abbrev main_call0_c_39 : Ref sig .tc := ⟨.hbm, 221, rfl⟩
abbrev main_call0_v155 : Ref sig .tc := ⟨.hbm, 222, rfl⟩
abbrev main_call0_v156 : Ref sig .tc := ⟨.hbm, 223, rfl⟩
abbrev main_call0_v157 : Ref sig .tc := ⟨.hbm, 224, rfl⟩
abbrev main_call0_v158 : Ref sig .tc := ⟨.hbm, 225, rfl⟩
abbrev main_call0_v159 : Ref sig .tc := ⟨.hbm, 226, rfl⟩
abbrev main_call0_c_40 : Ref sig .tc := ⟨.hbm, 227, rfl⟩
abbrev main_call0_v160 : Ref sig .tc := ⟨.hbm, 228, rfl⟩
abbrev main_call0_v161 : Ref sig .tc := ⟨.hbm, 229, rfl⟩
abbrev main_call0_c_41 : Ref sig .tc := ⟨.hbm, 230, rfl⟩
abbrev main_call0_v162 : Ref sig .tc := ⟨.hbm, 231, rfl⟩
abbrev main_call0_v163 : Ref sig .tc := ⟨.hbm, 232, rfl⟩
abbrev main_call0_v164 : Ref sig .tc := ⟨.hbm, 233, rfl⟩
abbrev main_call0_v165 : Ref sig .tc := ⟨.hbm, 234, rfl⟩
abbrev main_call0_v166 : Ref sig .tc := ⟨.hbm, 235, rfl⟩
abbrev main_call0_c_42 : Ref sig .tc := ⟨.hbm, 236, rfl⟩
abbrev main_call0_v167 : Ref sig .tc := ⟨.hbm, 237, rfl⟩
abbrev main_call0_v168 : Ref sig .tc := ⟨.hbm, 238, rfl⟩
abbrev main_call0_c_43 : Ref sig .tc := ⟨.hbm, 239, rfl⟩
abbrev main_call0_v169 : Ref sig .tc := ⟨.hbm, 240, rfl⟩
abbrev main_call0_v170 : Ref sig .tc := ⟨.hbm, 241, rfl⟩
abbrev main_call0_v171 : Ref sig .tc := ⟨.hbm, 242, rfl⟩
abbrev main_call0_v172 : Ref sig .tc := ⟨.hbm, 243, rfl⟩
abbrev main_call0_v173 : Ref sig .tc := ⟨.hbm, 244, rfl⟩
abbrev main_v15_0 : Ref sig .tc := ⟨.hbm, 245, rfl⟩
abbrev main_call0_v175 : Ref sig .tc := ⟨.hbm, 246, rfl⟩
abbrev main_call0_v176 : Ref sig .tc := ⟨.hbm, 247, rfl⟩
abbrev main_call0_c_44 : Ref sig .tc := ⟨.hbm, 248, rfl⟩
abbrev main_call0_v177 : Ref sig .tc := ⟨.hbm, 249, rfl⟩
abbrev main_v15_1 : Ref sig .tc := ⟨.hbm, 250, rfl⟩
abbrev main_v16 : Ref sig .tc := ⟨.hbm, 251, rfl⟩
abbrev main_c_4 : Ref sig .tc := ⟨.hbm, 252, rfl⟩
abbrev main_v17 : Ref sig .tc := ⟨.hbm, 253, rfl⟩
abbrev main_v18 : Ref sig .tc := ⟨.hbm, 254, rfl⟩
abbrev main_v19 : Ref sig .tc := ⟨.hbm, 255, rfl⟩
abbrev main_c_5 : Ref sig .tc := ⟨.hbm, 256, rfl⟩
abbrev main_v20 : Ref sig .tc := ⟨.hbm, 257, rfl⟩
abbrev main_v21 : Ref sig .tc := ⟨.hbm, 258, rfl⟩
abbrev main_v22 : Ref sig .tc := ⟨.hbm, 259, rfl⟩
abbrev main_v23 : Ref sig .tc := ⟨.hbm, 260, rfl⟩
abbrev main_c_6 : Ref sig .tc := ⟨.hbm, 261, rfl⟩
abbrev main_v24 : Ref sig .tc := ⟨.hbm, 262, rfl⟩
abbrev main_v25 : Ref sig .tc := ⟨.hbm, 263, rfl⟩
abbrev main_v26 : Ref sig .tc := ⟨.hbm, 264, rfl⟩
abbrev main_v27 : Ref sig .tc := ⟨.hbm, 265, rfl⟩
abbrev main_v28 : Ref sig .tc := ⟨.hbm, 266, rfl⟩
abbrev main_c_7 : Ref sig .tc := ⟨.hbm, 267, rfl⟩
abbrev main_v29 : Ref sig .tc := ⟨.hbm, 268, rfl⟩
abbrev main_v30 : Ref sig .tc := ⟨.hbm, 269, rfl⟩
abbrev main_c_8 : Ref sig .tc := ⟨.hbm, 270, rfl⟩
abbrev main_v31 : Ref sig .tc := ⟨.hbm, 271, rfl⟩
abbrev main_v32 : Ref sig .tc := ⟨.hbm, 272, rfl⟩
abbrev main_v33 : Ref sig .tc := ⟨.hbm, 273, rfl⟩
abbrev main_v34 : Ref sig .tc := ⟨.hbm, 274, rfl⟩
abbrev main_v35 : Ref sig .tc := ⟨.hbm, 275, rfl⟩
abbrev main_v36 : Ref sig .tc := ⟨.hbm, 276, rfl⟩
abbrev main_v37 : Ref sig .tc := ⟨.hbm, 277, rfl⟩
abbrev main_v38 : Ref sig .tc := ⟨.hbm, 278, rfl⟩
abbrev main_v39 : Ref sig .tc := ⟨.hbm, 279, rfl⟩
abbrev main_c_9 : Ref sig .tc := ⟨.hbm, 280, rfl⟩
abbrev main_v40 : Ref sig .tc := ⟨.hbm, 281, rfl⟩
abbrev main_v41 : Ref sig .tc := ⟨.hbm, 282, rfl⟩
abbrev main_c_10 : Ref sig .tc := ⟨.hbm, 283, rfl⟩
abbrev main_v42 : Ref sig .tc := ⟨.hbm, 284, rfl⟩
abbrev main_v43 : Ref sig .tc := ⟨.hbm, 285, rfl⟩
abbrev main_v44 : Ref sig .tc := ⟨.hbm, 286, rfl⟩
abbrev main_v45 : Ref sig .tc := ⟨.hbm, 287, rfl⟩
abbrev main_v46 : Ref sig .tc := ⟨.hbm, 288, rfl⟩
abbrev main_v47 : Ref sig .tc := ⟨.hbm, 289, rfl⟩
abbrev main_v48 : Ref sig .tc := ⟨.hbm, 290, rfl⟩
abbrev main_v49 : Ref sig .tc := ⟨.hbm, 291, rfl⟩
abbrev main_v50 : Ref sig .tc := ⟨.hbm, 292, rfl⟩
abbrev main_v51 : Ref sig .tc := ⟨.hbm, 293, rfl⟩
abbrev main_v52 : Ref sig .tc := ⟨.hbm, 294, rfl⟩
abbrev main_v53 : Ref sig .tc := ⟨.hbm, 295, rfl⟩
abbrev main_v54 : Ref sig .tc := ⟨.hbm, 296, rfl⟩
abbrev main_c_11 : Ref sig .tc := ⟨.hbm, 297, rfl⟩
abbrev main_v55 : Ref sig .tc := ⟨.hbm, 298, rfl⟩
abbrev main_v56 : Ref sig .tc := ⟨.hbm, 299, rfl⟩
abbrev main_c_12 : Ref sig .tc := ⟨.hbm, 300, rfl⟩
abbrev main_v57 : Ref sig .tc := ⟨.hbm, 301, rfl⟩
abbrev main_v58 : Ref sig .tc := ⟨.hbm, 302, rfl⟩
abbrev main_v59 : Ref sig .tc := ⟨.hbm, 303, rfl⟩
abbrev main_c_13 : Ref sig .tc := ⟨.hbm, 304, rfl⟩
abbrev main_v60 : Ref sig .tc := ⟨.hbm, 305, rfl⟩
abbrev main_v61 : Ref sig .tc := ⟨.hbm, 306, rfl⟩
abbrev main_v62 : Ref sig .tc := ⟨.hbm, 307, rfl⟩
abbrev main_v63 : Ref sig .tc := ⟨.hbm, 308, rfl⟩
abbrev main_call1_v0 : Ref sig .tc := ⟨.hbm, 309, rfl⟩
abbrev main_call1_c : Ref sig .tc := ⟨.hbm, 310, rfl⟩
abbrev main_call1_v1 : Ref sig .tc := ⟨.hbm, 311, rfl⟩
abbrev main_call1_v2 : Ref sig .tc := ⟨.hbm, 312, rfl⟩
abbrev main_call1_v3 : Ref sig .tc := ⟨.hbm, 313, rfl⟩
abbrev main_call1_v4 : Ref sig .tc := ⟨.hbm, 314, rfl⟩
abbrev main_call1_v5 : Ref sig .tc := ⟨.hbm, 315, rfl⟩
abbrev main_call1_v6 : Ref sig .tc := ⟨.hbm, 316, rfl⟩
abbrev main_call1_c_0 : Ref sig .tc := ⟨.hbm, 317, rfl⟩
abbrev main_call1_v7 : Ref sig .tc := ⟨.hbm, 318, rfl⟩
abbrev main_call1_v8 : Ref sig .tc := ⟨.hbm, 319, rfl⟩
abbrev main_call1_c_1 : Ref sig .tc := ⟨.hbm, 320, rfl⟩
abbrev main_call1_v9 : Ref sig .tc := ⟨.hbm, 321, rfl⟩
abbrev main_call1_v10 : Ref sig .tc := ⟨.hbm, 322, rfl⟩
abbrev main_call1_v11 : Ref sig .tc := ⟨.hbm, 323, rfl⟩
abbrev main_call1_v12 : Ref sig .tc := ⟨.hbm, 324, rfl⟩
abbrev main_call1_v13 : Ref sig .tc := ⟨.hbm, 325, rfl⟩
abbrev main_call1_c_2 : Ref sig .tc := ⟨.hbm, 326, rfl⟩
abbrev main_call1_v14 : Ref sig .tc := ⟨.hbm, 327, rfl⟩
abbrev main_call1_v15 : Ref sig .tc := ⟨.hbm, 328, rfl⟩
abbrev main_call1_c_3 : Ref sig .tc := ⟨.hbm, 329, rfl⟩
abbrev main_call1_v16 : Ref sig .tc := ⟨.hbm, 330, rfl⟩
abbrev main_call1_v17 : Ref sig .tc := ⟨.hbm, 331, rfl⟩
abbrev main_call1_v18 : Ref sig .tc := ⟨.hbm, 332, rfl⟩
abbrev main_call1_v19 : Ref sig .tc := ⟨.hbm, 333, rfl⟩
abbrev main_call1_v20 : Ref sig .tc := ⟨.hbm, 334, rfl⟩
abbrev main_call1_c_4 : Ref sig .tc := ⟨.hbm, 335, rfl⟩
abbrev main_call1_v21 : Ref sig .tc := ⟨.hbm, 336, rfl⟩
abbrev main_call1_v22 : Ref sig .tc := ⟨.hbm, 337, rfl⟩
abbrev main_call1_c_5 : Ref sig .tc := ⟨.hbm, 338, rfl⟩
abbrev main_call1_v23 : Ref sig .tc := ⟨.hbm, 339, rfl⟩
abbrev main_call1_v24 : Ref sig .tc := ⟨.hbm, 340, rfl⟩
abbrev main_call1_v25 : Ref sig .tc := ⟨.hbm, 341, rfl⟩
abbrev main_call1_v26 : Ref sig .tc := ⟨.hbm, 342, rfl⟩
abbrev main_call1_v27 : Ref sig .tc := ⟨.hbm, 343, rfl⟩
abbrev main_call1_c_6 : Ref sig .tc := ⟨.hbm, 344, rfl⟩
abbrev main_call1_v28 : Ref sig .tc := ⟨.hbm, 345, rfl⟩
abbrev main_call1_v29 : Ref sig .tc := ⟨.hbm, 346, rfl⟩
abbrev main_call1_c_7 : Ref sig .tc := ⟨.hbm, 347, rfl⟩
abbrev main_call1_v30 : Ref sig .tc := ⟨.hbm, 348, rfl⟩
abbrev main_call1_v31 : Ref sig .tc := ⟨.hbm, 349, rfl⟩
abbrev main_call1_v32 : Ref sig .tc := ⟨.hbm, 350, rfl⟩
abbrev main_call1_v33 : Ref sig .tc := ⟨.hbm, 351, rfl⟩
abbrev main_call1_v34 : Ref sig .tc := ⟨.hbm, 352, rfl⟩
abbrev main_call1_v35 : Ref sig .tc := ⟨.hbm, 353, rfl⟩
abbrev main_call1_v36 : Ref sig .tc := ⟨.hbm, 354, rfl⟩
abbrev main_call1_v37 : Ref sig .tc := ⟨.hbm, 355, rfl⟩
abbrev main_call1_c_8 : Ref sig .tc := ⟨.hbm, 356, rfl⟩
abbrev main_call1_v38 : Ref sig .tc := ⟨.hbm, 357, rfl⟩
abbrev main_call1_v39 : Ref sig .tc := ⟨.hbm, 358, rfl⟩
abbrev main_call1_v40 : Ref sig .tc := ⟨.hbm, 359, rfl⟩
abbrev main_call1_c_9 : Ref sig .tc := ⟨.hbm, 360, rfl⟩
abbrev main_call1_v41 : Ref sig .tc := ⟨.hbm, 361, rfl⟩
abbrev main_call1_v42 : Ref sig .tc := ⟨.hbm, 362, rfl⟩
abbrev main_call1_c_10 : Ref sig .tc := ⟨.hbm, 363, rfl⟩
abbrev main_call1_v43 : Ref sig .tc := ⟨.hbm, 364, rfl⟩
abbrev main_call1_v44 : Ref sig .tc := ⟨.hbm, 365, rfl⟩
abbrev main_call1_v45 : Ref sig .tc := ⟨.hbm, 366, rfl⟩
abbrev main_call1_v46 : Ref sig .tc := ⟨.hbm, 367, rfl⟩
abbrev main_call1_v47 : Ref sig .tc := ⟨.hbm, 368, rfl⟩
abbrev main_call1_c_11 : Ref sig .tc := ⟨.hbm, 369, rfl⟩
abbrev main_call1_v48 : Ref sig .tc := ⟨.hbm, 370, rfl⟩
abbrev main_call1_v49 : Ref sig .tc := ⟨.hbm, 371, rfl⟩
abbrev main_call1_c_12 : Ref sig .tc := ⟨.hbm, 372, rfl⟩
abbrev main_call1_v50 : Ref sig .tc := ⟨.hbm, 373, rfl⟩
abbrev main_call1_v51 : Ref sig .tc := ⟨.hbm, 374, rfl⟩
abbrev main_call1_v52 : Ref sig .tc := ⟨.hbm, 375, rfl⟩
abbrev main_call1_v53 : Ref sig .tc := ⟨.hbm, 376, rfl⟩
abbrev main_call1_v54 : Ref sig .tc := ⟨.hbm, 377, rfl⟩
abbrev main_call1_c_13 : Ref sig .tc := ⟨.hbm, 378, rfl⟩
abbrev main_call1_v55 : Ref sig .tc := ⟨.hbm, 379, rfl⟩
abbrev main_call1_v56 : Ref sig .tc := ⟨.hbm, 380, rfl⟩
abbrev main_call1_c_14 : Ref sig .tc := ⟨.hbm, 381, rfl⟩
abbrev main_call1_v57 : Ref sig .tc := ⟨.hbm, 382, rfl⟩
abbrev main_call1_v58 : Ref sig .tc := ⟨.hbm, 383, rfl⟩
abbrev main_call1_v59 : Ref sig .tc := ⟨.hbm, 384, rfl⟩
abbrev main_call1_v60 : Ref sig .tc := ⟨.hbm, 385, rfl⟩
abbrev main_call1_v61 : Ref sig .tc := ⟨.hbm, 386, rfl⟩
abbrev main_call1_c_15 : Ref sig .tc := ⟨.hbm, 387, rfl⟩
abbrev main_call1_v62 : Ref sig .tc := ⟨.hbm, 388, rfl⟩
abbrev main_call1_v63 : Ref sig .tc := ⟨.hbm, 389, rfl⟩
abbrev main_call1_c_16 : Ref sig .tc := ⟨.hbm, 390, rfl⟩
abbrev main_call1_v64 : Ref sig .tc := ⟨.hbm, 391, rfl⟩
abbrev main_call1_v65 : Ref sig .tc := ⟨.hbm, 392, rfl⟩
abbrev main_call1_v66 : Ref sig .tc := ⟨.hbm, 393, rfl⟩
abbrev main_call1_v67 : Ref sig .tc := ⟨.hbm, 394, rfl⟩
abbrev main_call1_v68 : Ref sig .tc := ⟨.hbm, 395, rfl⟩
abbrev main_call1_v69 : Ref sig .tc := ⟨.hbm, 396, rfl⟩
abbrev main_call1_v70 : Ref sig .tc := ⟨.hbm, 397, rfl⟩
abbrev main_call1_v71 : Ref sig .tc := ⟨.hbm, 398, rfl⟩
abbrev main_call1_c_17 : Ref sig .tc := ⟨.hbm, 399, rfl⟩
abbrev main_call1_v72 : Ref sig .tc := ⟨.hbm, 400, rfl⟩
abbrev main_call1_v73 : Ref sig .tc := ⟨.hbm, 401, rfl⟩
abbrev main_call1_v74 : Ref sig .tc := ⟨.hbm, 402, rfl⟩
abbrev main_call1_c_18 : Ref sig .tc := ⟨.hbm, 403, rfl⟩
abbrev main_call1_v75 : Ref sig .tc := ⟨.hbm, 404, rfl⟩
abbrev main_call1_v76 : Ref sig .tc := ⟨.hbm, 405, rfl⟩
abbrev main_call1_c_19 : Ref sig .tc := ⟨.hbm, 406, rfl⟩
abbrev main_call1_v77 : Ref sig .tc := ⟨.hbm, 407, rfl⟩
abbrev main_call1_v78 : Ref sig .tc := ⟨.hbm, 408, rfl⟩
abbrev main_call1_v79 : Ref sig .tc := ⟨.hbm, 409, rfl⟩
abbrev main_call1_v80 : Ref sig .tc := ⟨.hbm, 410, rfl⟩
abbrev main_call1_v81 : Ref sig .tc := ⟨.hbm, 411, rfl⟩
abbrev main_call1_c_20 : Ref sig .tc := ⟨.hbm, 412, rfl⟩
abbrev main_call1_v82 : Ref sig .tc := ⟨.hbm, 413, rfl⟩
abbrev main_call1_v83 : Ref sig .tc := ⟨.hbm, 414, rfl⟩
abbrev main_call1_c_21 : Ref sig .tc := ⟨.hbm, 415, rfl⟩
abbrev main_call1_v84 : Ref sig .tc := ⟨.hbm, 416, rfl⟩
abbrev main_call1_v85 : Ref sig .tc := ⟨.hbm, 417, rfl⟩
abbrev main_call1_v86 : Ref sig .tc := ⟨.hbm, 418, rfl⟩
abbrev main_call1_v87 : Ref sig .tc := ⟨.hbm, 419, rfl⟩
abbrev main_call1_v88 : Ref sig .tc := ⟨.hbm, 420, rfl⟩
abbrev main_call1_c_22 : Ref sig .tc := ⟨.hbm, 421, rfl⟩
abbrev main_call1_v89 : Ref sig .tc := ⟨.hbm, 422, rfl⟩
abbrev main_call1_v90 : Ref sig .tc := ⟨.hbm, 423, rfl⟩
abbrev main_call1_c_23 : Ref sig .tc := ⟨.hbm, 424, rfl⟩
abbrev main_call1_v91 : Ref sig .tc := ⟨.hbm, 425, rfl⟩
abbrev main_call1_v92 : Ref sig .tc := ⟨.hbm, 426, rfl⟩
abbrev main_call1_v93 : Ref sig .tc := ⟨.hbm, 427, rfl⟩
abbrev main_call1_v94 : Ref sig .tc := ⟨.hbm, 428, rfl⟩
abbrev main_call1_v95 : Ref sig .tc := ⟨.hbm, 429, rfl⟩
abbrev main_call1_c_24 : Ref sig .tc := ⟨.hbm, 430, rfl⟩
abbrev main_call1_v96 : Ref sig .tc := ⟨.hbm, 431, rfl⟩
abbrev main_call1_v97 : Ref sig .tc := ⟨.hbm, 432, rfl⟩
abbrev main_call1_c_25 : Ref sig .tc := ⟨.hbm, 433, rfl⟩
abbrev main_call1_v98 : Ref sig .tc := ⟨.hbm, 434, rfl⟩
abbrev main_call1_v99 : Ref sig .tc := ⟨.hbm, 435, rfl⟩
abbrev main_call1_v100 : Ref sig .tc := ⟨.hbm, 436, rfl⟩
abbrev main_call1_v101 : Ref sig .tc := ⟨.hbm, 437, rfl⟩
abbrev main_call1_v102 : Ref sig .tc := ⟨.hbm, 438, rfl⟩
abbrev main_call1_v103 : Ref sig .tc := ⟨.hbm, 439, rfl⟩
abbrev main_call1_v104 : Ref sig .tc := ⟨.hbm, 440, rfl⟩
abbrev main_call1_v105 : Ref sig .tc := ⟨.hbm, 441, rfl⟩
abbrev main_call1_c_26 : Ref sig .tc := ⟨.hbm, 442, rfl⟩
abbrev main_call1_v106 : Ref sig .tc := ⟨.hbm, 443, rfl⟩
abbrev main_call1_v107 : Ref sig .tc := ⟨.hbm, 444, rfl⟩
abbrev main_call1_v108 : Ref sig .tc := ⟨.hbm, 445, rfl⟩
abbrev main_call1_c_27 : Ref sig .tc := ⟨.hbm, 446, rfl⟩
abbrev main_call1_v109 : Ref sig .tc := ⟨.hbm, 447, rfl⟩
abbrev main_call1_v110 : Ref sig .tc := ⟨.hbm, 448, rfl⟩
abbrev main_call1_c_28 : Ref sig .tc := ⟨.hbm, 449, rfl⟩
abbrev main_call1_v111 : Ref sig .tc := ⟨.hbm, 450, rfl⟩
abbrev main_call1_v112 : Ref sig .tc := ⟨.hbm, 451, rfl⟩
abbrev main_call1_v113 : Ref sig .tc := ⟨.hbm, 452, rfl⟩
abbrev main_call1_v114 : Ref sig .tc := ⟨.hbm, 453, rfl⟩
abbrev main_call1_v115 : Ref sig .tc := ⟨.hbm, 454, rfl⟩
abbrev main_call1_c_29 : Ref sig .tc := ⟨.hbm, 455, rfl⟩
abbrev main_call1_v116 : Ref sig .tc := ⟨.hbm, 456, rfl⟩
abbrev main_call1_v117 : Ref sig .tc := ⟨.hbm, 457, rfl⟩
abbrev main_call1_c_30 : Ref sig .tc := ⟨.hbm, 458, rfl⟩
abbrev main_call1_v118 : Ref sig .tc := ⟨.hbm, 459, rfl⟩
abbrev main_call1_v119 : Ref sig .tc := ⟨.hbm, 460, rfl⟩
abbrev main_call1_v120 : Ref sig .tc := ⟨.hbm, 461, rfl⟩
abbrev main_call1_v121 : Ref sig .tc := ⟨.hbm, 462, rfl⟩
abbrev main_call1_v122 : Ref sig .tc := ⟨.hbm, 463, rfl⟩
abbrev main_call1_c_31 : Ref sig .tc := ⟨.hbm, 464, rfl⟩
abbrev main_call1_v123 : Ref sig .tc := ⟨.hbm, 465, rfl⟩
abbrev main_call1_v124 : Ref sig .tc := ⟨.hbm, 466, rfl⟩
abbrev main_call1_c_32 : Ref sig .tc := ⟨.hbm, 467, rfl⟩
abbrev main_call1_v125 : Ref sig .tc := ⟨.hbm, 468, rfl⟩
abbrev main_call1_v126 : Ref sig .tc := ⟨.hbm, 469, rfl⟩
abbrev main_call1_v127 : Ref sig .tc := ⟨.hbm, 470, rfl⟩
abbrev main_call1_v128 : Ref sig .tc := ⟨.hbm, 471, rfl⟩
abbrev main_call1_v129 : Ref sig .tc := ⟨.hbm, 472, rfl⟩
abbrev main_call1_c_33 : Ref sig .tc := ⟨.hbm, 473, rfl⟩
abbrev main_call1_v130 : Ref sig .tc := ⟨.hbm, 474, rfl⟩
abbrev main_call1_v131 : Ref sig .tc := ⟨.hbm, 475, rfl⟩
abbrev main_call1_c_34 : Ref sig .tc := ⟨.hbm, 476, rfl⟩
abbrev main_call1_v132 : Ref sig .tc := ⟨.hbm, 477, rfl⟩
abbrev main_call1_v133 : Ref sig .tc := ⟨.hbm, 478, rfl⟩
abbrev main_call1_v134 : Ref sig .tc := ⟨.hbm, 479, rfl⟩
abbrev main_call1_v135 : Ref sig .tc := ⟨.hbm, 480, rfl⟩
abbrev main_call1_v136 : Ref sig .tc := ⟨.hbm, 481, rfl⟩
abbrev main_call1_v137 : Ref sig .tc := ⟨.hbm, 482, rfl⟩
abbrev main_call1_v138 : Ref sig .tc := ⟨.hbm, 483, rfl⟩
abbrev main_call1_v139 : Ref sig .tc := ⟨.hbm, 484, rfl⟩
abbrev main_call1_c_35 : Ref sig .tc := ⟨.hbm, 485, rfl⟩
abbrev main_call1_v140 : Ref sig .tc := ⟨.hbm, 486, rfl⟩
abbrev main_call1_v141 : Ref sig .tc := ⟨.hbm, 487, rfl⟩
abbrev main_call1_v142 : Ref sig .tc := ⟨.hbm, 488, rfl⟩
abbrev main_call1_c_36 : Ref sig .tc := ⟨.hbm, 489, rfl⟩
abbrev main_call1_v143 : Ref sig .tc := ⟨.hbm, 490, rfl⟩
abbrev main_call1_v144 : Ref sig .tc := ⟨.hbm, 491, rfl⟩
abbrev main_call1_c_37 : Ref sig .tc := ⟨.hbm, 492, rfl⟩
abbrev main_call1_v145 : Ref sig .tc := ⟨.hbm, 493, rfl⟩
abbrev main_call1_v146 : Ref sig .tc := ⟨.hbm, 494, rfl⟩
abbrev main_call1_v147 : Ref sig .tc := ⟨.hbm, 495, rfl⟩
abbrev main_call1_v148 : Ref sig .tc := ⟨.hbm, 496, rfl⟩
abbrev main_call1_v149 : Ref sig .tc := ⟨.hbm, 497, rfl⟩
abbrev main_call1_c_38 : Ref sig .tc := ⟨.hbm, 498, rfl⟩
abbrev main_call1_v150 : Ref sig .tc := ⟨.hbm, 499, rfl⟩
abbrev main_call1_v151 : Ref sig .tc := ⟨.hbm, 500, rfl⟩
abbrev main_call1_c_39 : Ref sig .tc := ⟨.hbm, 501, rfl⟩
abbrev main_call1_v152 : Ref sig .tc := ⟨.hbm, 502, rfl⟩
abbrev main_call1_v153 : Ref sig .tc := ⟨.hbm, 503, rfl⟩
abbrev main_call1_v154 : Ref sig .tc := ⟨.hbm, 504, rfl⟩
abbrev main_call1_v155 : Ref sig .tc := ⟨.hbm, 505, rfl⟩
abbrev main_call1_v156 : Ref sig .tc := ⟨.hbm, 506, rfl⟩
abbrev main_call1_c_40 : Ref sig .tc := ⟨.hbm, 507, rfl⟩
abbrev main_call1_v157 : Ref sig .tc := ⟨.hbm, 508, rfl⟩
abbrev main_call1_v158 : Ref sig .tc := ⟨.hbm, 509, rfl⟩
abbrev main_call1_c_41 : Ref sig .tc := ⟨.hbm, 510, rfl⟩
abbrev main_call1_v159 : Ref sig .tc := ⟨.hbm, 511, rfl⟩
abbrev main_call1_v160 : Ref sig .tc := ⟨.hbm, 512, rfl⟩
abbrev main_call1_v161 : Ref sig .tc := ⟨.hbm, 513, rfl⟩
abbrev main_call1_v162 : Ref sig .tc := ⟨.hbm, 514, rfl⟩
abbrev main_call1_v163 : Ref sig .tc := ⟨.hbm, 515, rfl⟩
abbrev main_call1_c_42 : Ref sig .tc := ⟨.hbm, 516, rfl⟩
abbrev main_call1_v164 : Ref sig .tc := ⟨.hbm, 517, rfl⟩
abbrev main_call1_v165 : Ref sig .tc := ⟨.hbm, 518, rfl⟩
abbrev main_call1_c_43 : Ref sig .tc := ⟨.hbm, 519, rfl⟩
abbrev main_call1_v166 : Ref sig .tc := ⟨.hbm, 520, rfl⟩
abbrev main_call1_v167 : Ref sig .tc := ⟨.hbm, 521, rfl⟩
abbrev main_call1_v168 : Ref sig .tc := ⟨.hbm, 522, rfl⟩
abbrev main_call1_v169 : Ref sig .tc := ⟨.hbm, 523, rfl⟩
abbrev main_call1_v170 : Ref sig .tc := ⟨.hbm, 524, rfl⟩
abbrev main_v64_0 : Ref sig .tc := ⟨.hbm, 525, rfl⟩
abbrev main_call1_v172 : Ref sig .tc := ⟨.hbm, 526, rfl⟩
abbrev main_call1_v173 : Ref sig .tc := ⟨.hbm, 527, rfl⟩
abbrev main_call1_c_44 : Ref sig .tc := ⟨.hbm, 528, rfl⟩
abbrev main_call1_v174 : Ref sig .tc := ⟨.hbm, 529, rfl⟩
abbrev main_v64_1 : Ref sig .tc := ⟨.hbm, 530, rfl⟩
abbrev main_v65 : Ref sig .tc := ⟨.hbm, 531, rfl⟩
abbrev main_c_14 : Ref sig .tc := ⟨.hbm, 532, rfl⟩
abbrev main_v66 : Ref sig .tc := ⟨.hbm, 533, rfl⟩
abbrev main_v67 : Ref sig .tc := ⟨.hbm, 534, rfl⟩
abbrev main_c_15 : Ref sig .tc := ⟨.hbm, 535, rfl⟩
abbrev main_v68 : Ref sig .tc := ⟨.hbm, 536, rfl⟩
abbrev main_v69 : Ref sig .tc := ⟨.hbm, 537, rfl⟩
abbrev main_v70 : Ref sig .tc := ⟨.hbm, 538, rfl⟩
abbrev main_cst : Ref sig .tc := ⟨.hbm, 539, rfl⟩
abbrev main_v71 : Ref sig .tc := ⟨.hbm, 540, rfl⟩
abbrev main_v72 : Ref sig .tc := ⟨.hbm, 541, rfl⟩
abbrev main_cst_16 : Ref sig .tc := ⟨.hbm, 542, rfl⟩
abbrev main_v73 : Ref sig .tc := ⟨.hbm, 543, rfl⟩
abbrev main_v74 : Ref sig .tc := ⟨.hbm, 544, rfl⟩
abbrev main_cst_17 : Ref sig .tc := ⟨.hbm, 545, rfl⟩
abbrev main_v75 : Ref sig .tc := ⟨.hbm, 546, rfl⟩
abbrev main_v76 : Ref sig .tc := ⟨.hbm, 547, rfl⟩
abbrev main_cst_18 : Ref sig .tc := ⟨.hbm, 548, rfl⟩
abbrev main_v77 : Ref sig .tc := ⟨.hbm, 549, rfl⟩
abbrev main_v78 : Ref sig .tc := ⟨.hbm, 550, rfl⟩
abbrev main_v79 : Ref sig .tc := ⟨.hbm, 551, rfl⟩
abbrev main_v80 : Ref sig .tc := ⟨.hbm, 552, rfl⟩
abbrev main_v81 : Ref sig .tc := ⟨.hbm, 553, rfl⟩
abbrev main_v82 : Ref sig .tc := ⟨.hbm, 554, rfl⟩
abbrev main_cst_19 : Ref sig .tc := ⟨.hbm, 555, rfl⟩
abbrev main_v83 : Ref sig .tc := ⟨.hbm, 556, rfl⟩
abbrev main_v84 : Ref sig .tc := ⟨.hbm, 557, rfl⟩
abbrev main_v85 : Ref sig .tc := ⟨.hbm, 558, rfl⟩
abbrev main_cst_20 : Ref sig .tc := ⟨.hbm, 559, rfl⟩
abbrev main_v86 : Ref sig .tc := ⟨.hbm, 560, rfl⟩
abbrev main_v87 : Ref sig .tc := ⟨.hbm, 561, rfl⟩
abbrev main_cst_21 : Ref sig .tc := ⟨.hbm, 562, rfl⟩
abbrev main_v88 : Ref sig .tc := ⟨.hbm, 563, rfl⟩
abbrev main_v89 : Ref sig .tc := ⟨.hbm, 564, rfl⟩
abbrev main_cst_22 : Ref sig .tc := ⟨.hbm, 565, rfl⟩
abbrev main_v90 : Ref sig .tc := ⟨.hbm, 566, rfl⟩
abbrev main_v91 : Ref sig .tc := ⟨.hbm, 567, rfl⟩
abbrev main_cst_23 : Ref sig .tc := ⟨.hbm, 568, rfl⟩
abbrev main_v92 : Ref sig .tc := ⟨.hbm, 569, rfl⟩
abbrev main_v93 : Ref sig .tc := ⟨.hbm, 570, rfl⟩
abbrev main_cst_24 : Ref sig .tc := ⟨.hbm, 571, rfl⟩
abbrev main_v94 : Ref sig .tc := ⟨.hbm, 572, rfl⟩
abbrev main_v95 : Ref sig .tc := ⟨.hbm, 573, rfl⟩
abbrev main_v96 : Ref sig .tc := ⟨.hbm, 574, rfl⟩
abbrev main_cst_25 : Ref sig .tc := ⟨.hbm, 575, rfl⟩
abbrev main_v97 : Ref sig .tc := ⟨.hbm, 576, rfl⟩
abbrev main_v98 : Ref sig .tc := ⟨.hbm, 577, rfl⟩
abbrev main_v99 : Ref sig .tc := ⟨.hbm, 578, rfl⟩
abbrev main_cst_26 : Ref sig .tc := ⟨.hbm, 579, rfl⟩
abbrev main_v100 : Ref sig .tc := ⟨.hbm, 580, rfl⟩
abbrev main_v101 : Ref sig .tc := ⟨.hbm, 581, rfl⟩
abbrev main_v102 : Ref sig .tc := ⟨.hbm, 582, rfl⟩
abbrev main_cst_27 : Ref sig .tc := ⟨.hbm, 583, rfl⟩
abbrev main_v103 : Ref sig .tc := ⟨.hbm, 584, rfl⟩
abbrev main_v104 : Ref sig .tc := ⟨.hbm, 585, rfl⟩
abbrev main_v105 : Ref sig .tc := ⟨.hbm, 586, rfl⟩
abbrev main_cst_28 : Ref sig .tc := ⟨.hbm, 587, rfl⟩
abbrev main_v106 : Ref sig .tc := ⟨.hbm, 588, rfl⟩
abbrev main_v107 : Ref sig .tc := ⟨.hbm, 589, rfl⟩
abbrev main_v108 : Ref sig .tc := ⟨.hbm, 590, rfl⟩
abbrev main_cst_29 : Ref sig .tc := ⟨.hbm, 591, rfl⟩
abbrev main_v109 : Ref sig .tc := ⟨.hbm, 592, rfl⟩
abbrev main_v110 : Ref sig .tc := ⟨.hbm, 593, rfl⟩
abbrev main_v111 : Ref sig .tc := ⟨.hbm, 594, rfl⟩
abbrev main_cst_30 : Ref sig .tc := ⟨.hbm, 595, rfl⟩
abbrev main_v112 : Ref sig .tc := ⟨.hbm, 596, rfl⟩
abbrev main_v113 : Ref sig .tc := ⟨.hbm, 597, rfl⟩
abbrev main_v114 : Ref sig .tc := ⟨.hbm, 598, rfl⟩
abbrev main_cst_31 : Ref sig .tc := ⟨.hbm, 599, rfl⟩
abbrev main_v115 : Ref sig .tc := ⟨.hbm, 600, rfl⟩
abbrev main_v116 : Ref sig .tc := ⟨.hbm, 601, rfl⟩
abbrev main_v117 : Ref sig .tc := ⟨.hbm, 602, rfl⟩
abbrev main_cst_32 : Ref sig .tc := ⟨.hbm, 603, rfl⟩
abbrev main_v118 : Ref sig .tc := ⟨.hbm, 604, rfl⟩
abbrev main_v119 : Ref sig .tc := ⟨.hbm, 605, rfl⟩
abbrev main_v120 : Ref sig .tc := ⟨.hbm, 606, rfl⟩
abbrev main_cst_33 : Ref sig .tc := ⟨.hbm, 607, rfl⟩
abbrev main_v121 : Ref sig .tc := ⟨.hbm, 608, rfl⟩
abbrev main_v122 : Ref sig .tc := ⟨.hbm, 609, rfl⟩
abbrev main_v123 : Ref sig .tc := ⟨.hbm, 610, rfl⟩
abbrev main_cst_34 : Ref sig .tc := ⟨.hbm, 611, rfl⟩
abbrev main_v124 : Ref sig .tc := ⟨.hbm, 612, rfl⟩
abbrev main_v125 : Ref sig .tc := ⟨.hbm, 613, rfl⟩
abbrev main_v126 : Ref sig .tc := ⟨.hbm, 614, rfl⟩
abbrev main_cst_35 : Ref sig .tc := ⟨.hbm, 615, rfl⟩
abbrev main_v127 : Ref sig .tc := ⟨.hbm, 616, rfl⟩
abbrev main_v128 : Ref sig .tc := ⟨.hbm, 617, rfl⟩
abbrev main_v129 : Ref sig .tc := ⟨.hbm, 618, rfl⟩
abbrev main_cst_36 : Ref sig .tc := ⟨.hbm, 619, rfl⟩
abbrev main_v130 : Ref sig .tc := ⟨.hbm, 620, rfl⟩
abbrev main_v131 : Ref sig .tc := ⟨.hbm, 621, rfl⟩
abbrev main_v132 : Ref sig .tc := ⟨.hbm, 622, rfl⟩
abbrev main_cst_37 : Ref sig .tc := ⟨.hbm, 623, rfl⟩
abbrev main_v133 : Ref sig .tc := ⟨.hbm, 624, rfl⟩
abbrev main_v134 : Ref sig .tc := ⟨.hbm, 625, rfl⟩
abbrev main_v135 : Ref sig .tc := ⟨.hbm, 626, rfl⟩
abbrev main_cst_38 : Ref sig .tc := ⟨.hbm, 627, rfl⟩
abbrev main_v136 : Ref sig .tc := ⟨.hbm, 628, rfl⟩
abbrev main_v137 : Ref sig .tc := ⟨.hbm, 629, rfl⟩
abbrev main_cst_39 : Ref sig .tc := ⟨.hbm, 630, rfl⟩
abbrev main_v138 : Ref sig .tc := ⟨.hbm, 631, rfl⟩
abbrev main_v139 : Ref sig .tc := ⟨.hbm, 632, rfl⟩
abbrev main_v140 : Ref sig .tc := ⟨.hbm, 633, rfl⟩
abbrev main_v141 : Ref sig .tc := ⟨.hbm, 634, rfl⟩
abbrev main_cst_40 : Ref sig .tc := ⟨.hbm, 635, rfl⟩
abbrev main_v142 : Ref sig .tc := ⟨.hbm, 636, rfl⟩
abbrev main_v143 : Ref sig .tc := ⟨.hbm, 637, rfl⟩
abbrev main_v144 : Ref sig .tc := ⟨.hbm, 638, rfl⟩
abbrev main_v145 : Ref sig .tc := ⟨.hbm, 639, rfl⟩
abbrev main_v146 : Ref sig .tc := ⟨.hbm, 640, rfl⟩
abbrev main_v147 : Ref sig .tc := ⟨.hbm, 641, rfl⟩
abbrev main_c_41 : Ref sig .tc := ⟨.hbm, 642, rfl⟩
abbrev main_v148 : Ref sig .tc := ⟨.hbm, 643, rfl⟩
abbrev main_v149 : Ref sig .tc := ⟨.hbm, 644, rfl⟩
abbrev main_call3_v0 : Ref sig .tc := ⟨.hbm, 645, rfl⟩
abbrev main_call3_v1 : Ref sig .tc := ⟨.hbm, 646, rfl⟩
abbrev main_call3_v2 : Ref sig .tc := ⟨.hbm, 647, rfl⟩
abbrev main_call3_v3 : Ref sig .tc := ⟨.hbm, 648, rfl⟩
abbrev main_call3_v4 : Ref sig .tc := ⟨.hbm, 649, rfl⟩
abbrev main_v150 : Ref sig .tc := ⟨.hbm, 650, rfl⟩
abbrev main_v151 : Ref sig .tc := ⟨.hbm, 651, rfl⟩
abbrev main_v152 : Ref sig .tc := ⟨.hbm, 652, rfl⟩
abbrev main_v153 : Ref sig .tc := ⟨.hbm, 653, rfl⟩
abbrev main_v154 : Ref sig .tc := ⟨.hbm, 654, rfl⟩
abbrev main_v155 : Ref sig .tc := ⟨.hbm, 655, rfl⟩
abbrev main_v156 : Ref sig .tc := ⟨.hbm, 656, rfl⟩
abbrev main_v157 : Ref sig .tc := ⟨.hbm, 657, rfl⟩
abbrev main_v158 : Ref sig .tc := ⟨.hbm, 658, rfl⟩
abbrev main_v159 : Ref sig .tc := ⟨.hbm, 659, rfl⟩
abbrev main_v160 : Ref sig .tc := ⟨.hbm, 660, rfl⟩
abbrev main_c_42 : Ref sig .tc := ⟨.hbm, 661, rfl⟩
abbrev main_v161 : Ref sig .tc := ⟨.hbm, 662, rfl⟩
abbrev main_v162 : Ref sig .tc := ⟨.hbm, 663, rfl⟩
abbrev main_c_43 : Ref sig .tc := ⟨.hbm, 664, rfl⟩
abbrev main_v163 : Ref sig .tc := ⟨.hbm, 665, rfl⟩
abbrev main_v164 : Ref sig .tc := ⟨.hbm, 666, rfl⟩
abbrev main_v165 : Ref sig .tc := ⟨.hbm, 667, rfl⟩
abbrev main_c_44 : Ref sig .tc := ⟨.hbm, 668, rfl⟩
abbrev main_v166 : Ref sig .tc := ⟨.hbm, 669, rfl⟩
abbrev main_v167 : Ref sig .tc := ⟨.hbm, 670, rfl⟩
abbrev main_v168 : Ref sig .tc := ⟨.hbm, 671, rfl⟩
abbrev main_v169 : Ref sig .tc := ⟨.hbm, 672, rfl⟩
abbrev main_call4_v0 : Ref sig .tc := ⟨.hbm, 673, rfl⟩
abbrev main_call4_c : Ref sig .tc := ⟨.hbm, 674, rfl⟩
abbrev main_call4_v1 : Ref sig .tc := ⟨.hbm, 675, rfl⟩
abbrev main_call4_v2 : Ref sig .tc := ⟨.hbm, 676, rfl⟩
abbrev main_call4_v3 : Ref sig .tc := ⟨.hbm, 677, rfl⟩
abbrev main_call4_v4 : Ref sig .tc := ⟨.hbm, 678, rfl⟩
abbrev main_call4_v5 : Ref sig .tc := ⟨.hbm, 679, rfl⟩
abbrev main_call4_v6 : Ref sig .tc := ⟨.hbm, 680, rfl⟩
abbrev main_call4_c_0 : Ref sig .tc := ⟨.hbm, 681, rfl⟩
abbrev main_call4_v7 : Ref sig .tc := ⟨.hbm, 682, rfl⟩
abbrev main_call4_v8 : Ref sig .tc := ⟨.hbm, 683, rfl⟩
abbrev main_call4_c_1 : Ref sig .tc := ⟨.hbm, 684, rfl⟩
abbrev main_call4_v9 : Ref sig .tc := ⟨.hbm, 685, rfl⟩
abbrev main_call4_v10 : Ref sig .tc := ⟨.hbm, 686, rfl⟩
abbrev main_call4_v11 : Ref sig .tc := ⟨.hbm, 687, rfl⟩
abbrev main_call4_v12 : Ref sig .tc := ⟨.hbm, 688, rfl⟩
abbrev main_call4_v13 : Ref sig .tc := ⟨.hbm, 689, rfl⟩
abbrev main_call4_c_2 : Ref sig .tc := ⟨.hbm, 690, rfl⟩
abbrev main_call4_v14 : Ref sig .tc := ⟨.hbm, 691, rfl⟩
abbrev main_call4_v15 : Ref sig .tc := ⟨.hbm, 692, rfl⟩
abbrev main_call4_c_3 : Ref sig .tc := ⟨.hbm, 693, rfl⟩
abbrev main_call4_v16 : Ref sig .tc := ⟨.hbm, 694, rfl⟩
abbrev main_call4_v17 : Ref sig .tc := ⟨.hbm, 695, rfl⟩
abbrev main_call4_v18 : Ref sig .tc := ⟨.hbm, 696, rfl⟩
abbrev main_call4_v19 : Ref sig .tc := ⟨.hbm, 697, rfl⟩
abbrev main_call4_v20 : Ref sig .tc := ⟨.hbm, 698, rfl⟩
abbrev main_call4_c_4 : Ref sig .tc := ⟨.hbm, 699, rfl⟩
abbrev main_call4_v21 : Ref sig .tc := ⟨.hbm, 700, rfl⟩
abbrev main_call4_v22 : Ref sig .tc := ⟨.hbm, 701, rfl⟩
abbrev main_call4_c_5 : Ref sig .tc := ⟨.hbm, 702, rfl⟩
abbrev main_call4_v23 : Ref sig .tc := ⟨.hbm, 703, rfl⟩
abbrev main_call4_v24 : Ref sig .tc := ⟨.hbm, 704, rfl⟩
abbrev main_call4_v25 : Ref sig .tc := ⟨.hbm, 705, rfl⟩
abbrev main_call4_v26 : Ref sig .tc := ⟨.hbm, 706, rfl⟩
abbrev main_call4_v27 : Ref sig .tc := ⟨.hbm, 707, rfl⟩
abbrev main_call4_c_6 : Ref sig .tc := ⟨.hbm, 708, rfl⟩
abbrev main_call4_v28 : Ref sig .tc := ⟨.hbm, 709, rfl⟩
abbrev main_call4_v29 : Ref sig .tc := ⟨.hbm, 710, rfl⟩
abbrev main_call4_c_7 : Ref sig .tc := ⟨.hbm, 711, rfl⟩
abbrev main_call4_v30 : Ref sig .tc := ⟨.hbm, 712, rfl⟩
abbrev main_call4_v31 : Ref sig .tc := ⟨.hbm, 713, rfl⟩
abbrev main_call4_v32 : Ref sig .tc := ⟨.hbm, 714, rfl⟩
abbrev main_call4_v33 : Ref sig .tc := ⟨.hbm, 715, rfl⟩
abbrev main_call4_v34 : Ref sig .tc := ⟨.hbm, 716, rfl⟩
abbrev main_call4_v35 : Ref sig .tc := ⟨.hbm, 717, rfl⟩
abbrev main_call4_v36 : Ref sig .tc := ⟨.hbm, 718, rfl⟩
abbrev main_call4_v37 : Ref sig .tc := ⟨.hbm, 719, rfl⟩
abbrev main_call4_c_8 : Ref sig .tc := ⟨.hbm, 720, rfl⟩
abbrev main_call4_v38 : Ref sig .tc := ⟨.hbm, 721, rfl⟩
abbrev main_call4_v39 : Ref sig .tc := ⟨.hbm, 722, rfl⟩
abbrev main_call4_v40 : Ref sig .tc := ⟨.hbm, 723, rfl⟩
abbrev main_call4_c_9 : Ref sig .tc := ⟨.hbm, 724, rfl⟩
abbrev main_call4_v41 : Ref sig .tc := ⟨.hbm, 725, rfl⟩
abbrev main_call4_v42 : Ref sig .tc := ⟨.hbm, 726, rfl⟩
abbrev main_call4_c_10 : Ref sig .tc := ⟨.hbm, 727, rfl⟩
abbrev main_call4_v43 : Ref sig .tc := ⟨.hbm, 728, rfl⟩
abbrev main_call4_v44 : Ref sig .tc := ⟨.hbm, 729, rfl⟩
abbrev main_call4_v45 : Ref sig .tc := ⟨.hbm, 730, rfl⟩
abbrev main_call4_v46 : Ref sig .tc := ⟨.hbm, 731, rfl⟩
abbrev main_call4_v47 : Ref sig .tc := ⟨.hbm, 732, rfl⟩
abbrev main_call4_c_11 : Ref sig .tc := ⟨.hbm, 733, rfl⟩
abbrev main_call4_v48 : Ref sig .tc := ⟨.hbm, 734, rfl⟩
abbrev main_call4_v49 : Ref sig .tc := ⟨.hbm, 735, rfl⟩
abbrev main_call4_c_12 : Ref sig .tc := ⟨.hbm, 736, rfl⟩
abbrev main_call4_v50 : Ref sig .tc := ⟨.hbm, 737, rfl⟩
abbrev main_call4_v51 : Ref sig .tc := ⟨.hbm, 738, rfl⟩
abbrev main_call4_v52 : Ref sig .tc := ⟨.hbm, 739, rfl⟩
abbrev main_call4_v53 : Ref sig .tc := ⟨.hbm, 740, rfl⟩
abbrev main_call4_v54 : Ref sig .tc := ⟨.hbm, 741, rfl⟩
abbrev main_call4_c_13 : Ref sig .tc := ⟨.hbm, 742, rfl⟩
abbrev main_call4_v55 : Ref sig .tc := ⟨.hbm, 743, rfl⟩
abbrev main_call4_v56 : Ref sig .tc := ⟨.hbm, 744, rfl⟩
abbrev main_call4_c_14 : Ref sig .tc := ⟨.hbm, 745, rfl⟩
abbrev main_call4_v57 : Ref sig .tc := ⟨.hbm, 746, rfl⟩
abbrev main_call4_v58 : Ref sig .tc := ⟨.hbm, 747, rfl⟩
abbrev main_call4_v59 : Ref sig .tc := ⟨.hbm, 748, rfl⟩
abbrev main_call4_v60 : Ref sig .tc := ⟨.hbm, 749, rfl⟩
abbrev main_call4_v61 : Ref sig .tc := ⟨.hbm, 750, rfl⟩
abbrev main_call4_c_15 : Ref sig .tc := ⟨.hbm, 751, rfl⟩
abbrev main_call4_v62 : Ref sig .tc := ⟨.hbm, 752, rfl⟩
abbrev main_call4_v63 : Ref sig .tc := ⟨.hbm, 753, rfl⟩
abbrev main_call4_c_16 : Ref sig .tc := ⟨.hbm, 754, rfl⟩
abbrev main_call4_v64 : Ref sig .tc := ⟨.hbm, 755, rfl⟩
abbrev main_call4_v65 : Ref sig .tc := ⟨.hbm, 756, rfl⟩
abbrev main_call4_v66 : Ref sig .tc := ⟨.hbm, 757, rfl⟩
abbrev main_call4_v67 : Ref sig .tc := ⟨.hbm, 758, rfl⟩
abbrev main_call4_v68 : Ref sig .tc := ⟨.hbm, 759, rfl⟩
abbrev main_call4_v69 : Ref sig .tc := ⟨.hbm, 760, rfl⟩
abbrev main_call4_v70 : Ref sig .tc := ⟨.hbm, 761, rfl⟩
abbrev main_call4_v71 : Ref sig .tc := ⟨.hbm, 762, rfl⟩
abbrev main_call4_c_17 : Ref sig .tc := ⟨.hbm, 763, rfl⟩
abbrev main_call4_v72 : Ref sig .tc := ⟨.hbm, 764, rfl⟩
abbrev main_call4_v73 : Ref sig .tc := ⟨.hbm, 765, rfl⟩
abbrev main_call4_v74 : Ref sig .tc := ⟨.hbm, 766, rfl⟩
abbrev main_call4_c_18 : Ref sig .tc := ⟨.hbm, 767, rfl⟩
abbrev main_call4_v75 : Ref sig .tc := ⟨.hbm, 768, rfl⟩
abbrev main_call4_v76 : Ref sig .tc := ⟨.hbm, 769, rfl⟩
abbrev main_call4_c_19 : Ref sig .tc := ⟨.hbm, 770, rfl⟩
abbrev main_call4_v77 : Ref sig .tc := ⟨.hbm, 771, rfl⟩
abbrev main_call4_v78 : Ref sig .tc := ⟨.hbm, 772, rfl⟩
abbrev main_call4_v79 : Ref sig .tc := ⟨.hbm, 773, rfl⟩
abbrev main_call4_v80 : Ref sig .tc := ⟨.hbm, 774, rfl⟩
abbrev main_call4_v81 : Ref sig .tc := ⟨.hbm, 775, rfl⟩
abbrev main_call4_c_20 : Ref sig .tc := ⟨.hbm, 776, rfl⟩
abbrev main_call4_v82 : Ref sig .tc := ⟨.hbm, 777, rfl⟩
abbrev main_call4_v83 : Ref sig .tc := ⟨.hbm, 778, rfl⟩
abbrev main_call4_c_21 : Ref sig .tc := ⟨.hbm, 779, rfl⟩
abbrev main_call4_v84 : Ref sig .tc := ⟨.hbm, 780, rfl⟩
abbrev main_call4_v85 : Ref sig .tc := ⟨.hbm, 781, rfl⟩
abbrev main_call4_v86 : Ref sig .tc := ⟨.hbm, 782, rfl⟩
abbrev main_call4_v87 : Ref sig .tc := ⟨.hbm, 783, rfl⟩
abbrev main_call4_v88 : Ref sig .tc := ⟨.hbm, 784, rfl⟩
abbrev main_call4_c_22 : Ref sig .tc := ⟨.hbm, 785, rfl⟩
abbrev main_call4_v89 : Ref sig .tc := ⟨.hbm, 786, rfl⟩
abbrev main_call4_v90 : Ref sig .tc := ⟨.hbm, 787, rfl⟩
abbrev main_call4_c_23 : Ref sig .tc := ⟨.hbm, 788, rfl⟩
abbrev main_call4_v91 : Ref sig .tc := ⟨.hbm, 789, rfl⟩
abbrev main_call4_v92 : Ref sig .tc := ⟨.hbm, 790, rfl⟩
abbrev main_call4_v93 : Ref sig .tc := ⟨.hbm, 791, rfl⟩
abbrev main_call4_v94 : Ref sig .tc := ⟨.hbm, 792, rfl⟩
abbrev main_call4_v95 : Ref sig .tc := ⟨.hbm, 793, rfl⟩
abbrev main_call4_c_24 : Ref sig .tc := ⟨.hbm, 794, rfl⟩
abbrev main_call4_v96 : Ref sig .tc := ⟨.hbm, 795, rfl⟩
abbrev main_call4_v97 : Ref sig .tc := ⟨.hbm, 796, rfl⟩
abbrev main_call4_c_25 : Ref sig .tc := ⟨.hbm, 797, rfl⟩
abbrev main_call4_v98 : Ref sig .tc := ⟨.hbm, 798, rfl⟩
abbrev main_call4_v99 : Ref sig .tc := ⟨.hbm, 799, rfl⟩
abbrev main_call4_v100 : Ref sig .tc := ⟨.hbm, 800, rfl⟩
abbrev main_call4_v101 : Ref sig .tc := ⟨.hbm, 801, rfl⟩
abbrev main_call4_v102 : Ref sig .tc := ⟨.hbm, 802, rfl⟩
abbrev main_call4_v103 : Ref sig .tc := ⟨.hbm, 803, rfl⟩
abbrev main_call4_v104 : Ref sig .tc := ⟨.hbm, 804, rfl⟩
abbrev main_call4_v105 : Ref sig .tc := ⟨.hbm, 805, rfl⟩
abbrev main_call4_c_26 : Ref sig .tc := ⟨.hbm, 806, rfl⟩
abbrev main_call4_v106 : Ref sig .tc := ⟨.hbm, 807, rfl⟩
abbrev main_call4_v107 : Ref sig .tc := ⟨.hbm, 808, rfl⟩
abbrev main_call4_v108 : Ref sig .tc := ⟨.hbm, 809, rfl⟩
abbrev main_call4_c_27 : Ref sig .tc := ⟨.hbm, 810, rfl⟩
abbrev main_call4_v109 : Ref sig .tc := ⟨.hbm, 811, rfl⟩
abbrev main_call4_v110 : Ref sig .tc := ⟨.hbm, 812, rfl⟩
abbrev main_call4_c_28 : Ref sig .tc := ⟨.hbm, 813, rfl⟩
abbrev main_call4_v111 : Ref sig .tc := ⟨.hbm, 814, rfl⟩
abbrev main_call4_v112 : Ref sig .tc := ⟨.hbm, 815, rfl⟩
abbrev main_call4_v113 : Ref sig .tc := ⟨.hbm, 816, rfl⟩
abbrev main_call4_v114 : Ref sig .tc := ⟨.hbm, 817, rfl⟩
abbrev main_call4_v115 : Ref sig .tc := ⟨.hbm, 818, rfl⟩
abbrev main_call4_c_29 : Ref sig .tc := ⟨.hbm, 819, rfl⟩
abbrev main_call4_v116 : Ref sig .tc := ⟨.hbm, 820, rfl⟩
abbrev main_call4_v117 : Ref sig .tc := ⟨.hbm, 821, rfl⟩
abbrev main_call4_c_30 : Ref sig .tc := ⟨.hbm, 822, rfl⟩
abbrev main_call4_v118 : Ref sig .tc := ⟨.hbm, 823, rfl⟩
abbrev main_call4_v119 : Ref sig .tc := ⟨.hbm, 824, rfl⟩
abbrev main_call4_v120 : Ref sig .tc := ⟨.hbm, 825, rfl⟩
abbrev main_call4_v121 : Ref sig .tc := ⟨.hbm, 826, rfl⟩
abbrev main_call4_v122 : Ref sig .tc := ⟨.hbm, 827, rfl⟩
abbrev main_call4_c_31 : Ref sig .tc := ⟨.hbm, 828, rfl⟩
abbrev main_call4_v123 : Ref sig .tc := ⟨.hbm, 829, rfl⟩
abbrev main_call4_v124 : Ref sig .tc := ⟨.hbm, 830, rfl⟩
abbrev main_call4_c_32 : Ref sig .tc := ⟨.hbm, 831, rfl⟩
abbrev main_call4_v125 : Ref sig .tc := ⟨.hbm, 832, rfl⟩
abbrev main_call4_v126 : Ref sig .tc := ⟨.hbm, 833, rfl⟩
abbrev main_call4_v127 : Ref sig .tc := ⟨.hbm, 834, rfl⟩
abbrev main_call4_v128 : Ref sig .tc := ⟨.hbm, 835, rfl⟩
abbrev main_call4_v129 : Ref sig .tc := ⟨.hbm, 836, rfl⟩
abbrev main_call4_c_33 : Ref sig .tc := ⟨.hbm, 837, rfl⟩
abbrev main_call4_v130 : Ref sig .tc := ⟨.hbm, 838, rfl⟩
abbrev main_call4_v131 : Ref sig .tc := ⟨.hbm, 839, rfl⟩
abbrev main_call4_c_34 : Ref sig .tc := ⟨.hbm, 840, rfl⟩
abbrev main_call4_v132 : Ref sig .tc := ⟨.hbm, 841, rfl⟩
abbrev main_call4_v133 : Ref sig .tc := ⟨.hbm, 842, rfl⟩
abbrev main_call4_v134 : Ref sig .tc := ⟨.hbm, 843, rfl⟩
abbrev main_call4_v135 : Ref sig .tc := ⟨.hbm, 844, rfl⟩
abbrev main_call4_v136 : Ref sig .tc := ⟨.hbm, 845, rfl⟩
abbrev main_call4_v137 : Ref sig .tc := ⟨.hbm, 846, rfl⟩
abbrev main_call4_v138 : Ref sig .tc := ⟨.hbm, 847, rfl⟩
abbrev main_call4_v139 : Ref sig .tc := ⟨.hbm, 848, rfl⟩
abbrev main_call4_c_35 : Ref sig .tc := ⟨.hbm, 849, rfl⟩
abbrev main_call4_v140 : Ref sig .tc := ⟨.hbm, 850, rfl⟩
abbrev main_call4_v141 : Ref sig .tc := ⟨.hbm, 851, rfl⟩
abbrev main_call4_v142 : Ref sig .tc := ⟨.hbm, 852, rfl⟩
abbrev main_call4_c_36 : Ref sig .tc := ⟨.hbm, 853, rfl⟩
abbrev main_call4_v143 : Ref sig .tc := ⟨.hbm, 854, rfl⟩
abbrev main_call4_v144 : Ref sig .tc := ⟨.hbm, 855, rfl⟩
abbrev main_call4_c_37 : Ref sig .tc := ⟨.hbm, 856, rfl⟩
abbrev main_call4_v145 : Ref sig .tc := ⟨.hbm, 857, rfl⟩
abbrev main_call4_v146 : Ref sig .tc := ⟨.hbm, 858, rfl⟩
abbrev main_call4_v147 : Ref sig .tc := ⟨.hbm, 859, rfl⟩
abbrev main_call4_v148 : Ref sig .tc := ⟨.hbm, 860, rfl⟩
abbrev main_call4_v149 : Ref sig .tc := ⟨.hbm, 861, rfl⟩
abbrev main_call4_c_38 : Ref sig .tc := ⟨.hbm, 862, rfl⟩
abbrev main_call4_v150 : Ref sig .tc := ⟨.hbm, 863, rfl⟩
abbrev main_call4_v151 : Ref sig .tc := ⟨.hbm, 864, rfl⟩
abbrev main_call4_c_39 : Ref sig .tc := ⟨.hbm, 865, rfl⟩
abbrev main_call4_v152 : Ref sig .tc := ⟨.hbm, 866, rfl⟩
abbrev main_call4_v153 : Ref sig .tc := ⟨.hbm, 867, rfl⟩
abbrev main_call4_v154 : Ref sig .tc := ⟨.hbm, 868, rfl⟩
abbrev main_call4_v155 : Ref sig .tc := ⟨.hbm, 869, rfl⟩
abbrev main_call4_v156 : Ref sig .tc := ⟨.hbm, 870, rfl⟩
abbrev main_call4_c_40 : Ref sig .tc := ⟨.hbm, 871, rfl⟩
abbrev main_call4_v157 : Ref sig .tc := ⟨.hbm, 872, rfl⟩
abbrev main_call4_v158 : Ref sig .tc := ⟨.hbm, 873, rfl⟩
abbrev main_call4_c_41 : Ref sig .tc := ⟨.hbm, 874, rfl⟩
abbrev main_call4_v159 : Ref sig .tc := ⟨.hbm, 875, rfl⟩
abbrev main_call4_v160 : Ref sig .tc := ⟨.hbm, 876, rfl⟩
abbrev main_call4_v161 : Ref sig .tc := ⟨.hbm, 877, rfl⟩
abbrev main_call4_v162 : Ref sig .tc := ⟨.hbm, 878, rfl⟩
abbrev main_call4_v163 : Ref sig .tc := ⟨.hbm, 879, rfl⟩
abbrev main_call4_c_42 : Ref sig .tc := ⟨.hbm, 880, rfl⟩
abbrev main_call4_v164 : Ref sig .tc := ⟨.hbm, 881, rfl⟩
abbrev main_call4_v165 : Ref sig .tc := ⟨.hbm, 882, rfl⟩
abbrev main_call4_c_43 : Ref sig .tc := ⟨.hbm, 883, rfl⟩
abbrev main_call4_v166 : Ref sig .tc := ⟨.hbm, 884, rfl⟩
abbrev main_call4_v167 : Ref sig .tc := ⟨.hbm, 885, rfl⟩
abbrev main_call4_v168 : Ref sig .tc := ⟨.hbm, 886, rfl⟩
abbrev main_call4_v169 : Ref sig .tc := ⟨.hbm, 887, rfl⟩
abbrev main_call4_v170 : Ref sig .tc := ⟨.hbm, 888, rfl⟩
abbrev main_v170_0 : Ref sig .tc := ⟨.hbm, 889, rfl⟩
abbrev main_call4_v172 : Ref sig .tc := ⟨.hbm, 890, rfl⟩
abbrev main_call4_v173 : Ref sig .tc := ⟨.hbm, 891, rfl⟩
abbrev main_call4_c_44 : Ref sig .tc := ⟨.hbm, 892, rfl⟩
abbrev main_call4_v174 : Ref sig .tc := ⟨.hbm, 893, rfl⟩
abbrev main_v170_1 : Ref sig .tc := ⟨.hbm, 894, rfl⟩
abbrev main_v171 : Ref sig .tc := ⟨.hbm, 895, rfl⟩
abbrev main_c_45 : Ref sig .tc := ⟨.hbm, 896, rfl⟩
abbrev main_v172 : Ref sig .tc := ⟨.hbm, 897, rfl⟩
abbrev main_v173 : Ref sig .tc := ⟨.hbm, 898, rfl⟩
abbrev main_c_46 : Ref sig .tc := ⟨.hbm, 899, rfl⟩
abbrev main_v174 : Ref sig .tc := ⟨.hbm, 900, rfl⟩
abbrev main_v175 : Ref sig .tc := ⟨.hbm, 901, rfl⟩
abbrev main_v176 : Ref sig .tc := ⟨.hbm, 902, rfl⟩
abbrev main_cst_47 : Ref sig .tc := ⟨.hbm, 903, rfl⟩
abbrev main_v177 : Ref sig .tc := ⟨.hbm, 904, rfl⟩
abbrev main_v178 : Ref sig .tc := ⟨.hbm, 905, rfl⟩
abbrev main_cst_48 : Ref sig .tc := ⟨.hbm, 906, rfl⟩
abbrev main_v179 : Ref sig .tc := ⟨.hbm, 907, rfl⟩
abbrev main_v180 : Ref sig .tc := ⟨.hbm, 908, rfl⟩
abbrev main_cst_49 : Ref sig .tc := ⟨.hbm, 909, rfl⟩
abbrev main_v181 : Ref sig .tc := ⟨.hbm, 910, rfl⟩
abbrev main_v182 : Ref sig .tc := ⟨.hbm, 911, rfl⟩
abbrev main_cst_50 : Ref sig .tc := ⟨.hbm, 912, rfl⟩
abbrev main_v183 : Ref sig .tc := ⟨.hbm, 913, rfl⟩
abbrev main_v184 : Ref sig .tc := ⟨.hbm, 914, rfl⟩
abbrev main_v185 : Ref sig .tc := ⟨.hbm, 915, rfl⟩
abbrev main_v186 : Ref sig .tc := ⟨.hbm, 916, rfl⟩
abbrev main_v187 : Ref sig .tc := ⟨.hbm, 917, rfl⟩
abbrev main_v188 : Ref sig .tc := ⟨.hbm, 918, rfl⟩
abbrev main_v189 : Ref sig .tc := ⟨.hbm, 919, rfl⟩
abbrev main_v190 : Ref sig .tc := ⟨.hbm, 920, rfl⟩
abbrev main_call5_v0 : Ref sig .tc := ⟨.hbm, 921, rfl⟩
abbrev main_call5_cst : Ref sig .tc := ⟨.hbm, 922, rfl⟩
abbrev main_call5_c : Ref sig .tc := ⟨.hbm, 923, rfl⟩
abbrev main_call5_v1_0 : Ref sig .tc := ⟨.hbm, 924, rfl⟩
abbrev main_v191 : Ref sig .tc := ⟨.hbm, 925, rfl⟩
abbrev main_c_51 : Ref sig .tc := ⟨.hbm, 926, rfl⟩
abbrev main_v192 : Ref sig .tc := ⟨.hbm, 927, rfl⟩
abbrev main_v193 : Ref sig .tc := ⟨.hbm, 928, rfl⟩

abbrev nD : Nat := 1
abbrev τ : Topo := Topo.v7x

variable {F : FTy → Type} [FloatOps F]
-- ==== Proof.Draw.lean ====
/-
  The random word of a counter, as a function of words: the two-word hash of `jax.random`'s generator (twenty
  rounds, four to a group, a key injected after every group), the float in [0, 1) that a word's top bits make, and the
  draw that each word of the result holds. Then the sixteen lanes that one trip of the SparseCore loop stores are these
  draws.
-/
module

public import proofs.«01_k».proof.Defs
public import Idealize.ShloMosaic.Lib.Tactic
public import Idealize.ShloMosaic.Lib.Pipeline.Value
public import proofs.«01_k».proof.Proof.Gen.KernelIdeal
public import proofs.«01_k».proof.Proof.Gen.KernelIdeal.Skeleton

@[expose] public section

noncomputable section

namespace Cert.Proof.Draw

open Idealize.ShloMosaic

variable {F : FTy → Type}

/-! ## The hash of two words -/

/-- A word turned left by `r` places. -/
def rot (r : ℕ) (x : BitVec 32) : BitVec 32 := x <<< r ||| x >>> (32 - r)

/-- One round. -/
def rnd (r : ℕ) (p : BitVec 32 × BitVec 32) : BitVec 32 × BitVec 32 := (p.1 + p.2, (p.1 + p.2) ^^^ rot r p.2)

/-- The addition of a pair of key words. -/
def inj (a b : BitVec 32) (p : BitVec 32 × BitVec 32) : BitVec 32 × BitVec 32 := (p.1 + a, p.2 + b)

/-- The four rounds of an even group, -/
def rndsA (p : BitVec 32 × BitVec 32) : BitVec 32 × BitVec 32 := rnd 6 (rnd 26 (rnd 15 (rnd 13 p)))

/-- and of an odd one. -/
def rndsB (p : BitVec 32 × BitVec 32) : BitVec 32 × BitVec 32 := rnd 24 (rnd 16 (rnd 29 (rnd 17 p)))

/-- The hash of `p` under the key `(a, b)`, `c` the key's third word. -/
def hash3 (a b c : BitVec 32) (p : BitVec 32 × BitVec 32) : BitVec 32 × BitVec 32 :=
  inj c (a + 5#32) (rndsA (inj b (c + 4#32) (rndsB (inj a (b + 3#32) (rndsA (inj c (a + 2#32) (rndsB
    (inj b (c + 1#32) (rndsA (inj a b p))))))))))

def hash (a b : BitVec 32) (p : BitVec 32 × BitVec 32) : BitVec 32 × BitVec 32 := hash3 a b (a ^^^ b ^^^ 466688986#32) p

/-- The random word of a counter under a key. -/
def bits (a b x : BitVec 32) : BitVec 32 := (hash a b (0#32, x)).1 ^^^ (hash a b (0#32, x)).2

/-- The word of a float in [1, 2), its mantissa the top 23 bits of `w`. -/
def mant (w : BitVec 32) : BitVec 32 := w >>> 9 ||| 1065353216#32

/-- The uniform draw that a word makes. -/
def unit [FloatOps F] (w : BitVec 32) : F .f32 :=
  FloatOps.subf (FloatOps.ofBits .f32 (mant w)) (FloatOps.ofBits .f32 1065353216#32)

/-- The counter that the result's word `q` draws from: row `q / 128` starts at draw 100 · (q / 128). -/
def ctr (q : ℕ) : BitVec 32 := BitVec.ofNat 32 (100 * (q / 128) + q % 128)

/-- The draw that the result's word `q` holds. -/
def draw [FloatOps F] (q : ℕ) : F .f32 := unit (bits 3134548294#32 894150801#32 (ctr q))

/-! ## The same on vectors -/

variable {s : Shape}

def vrnd (a b : BitVec 32) (p : IVec s 32 × IVec s 32) : IVec s 32 × IVec s 32 :=
  (addi p.1 p.2, xori (addi p.1 p.2) (ori (shli p.2 (broadcast s a)) (shrui p.2 (broadcast s b))))

def vinj (a b : BitVec 32) (p : IVec s 32 × IVec s 32) : IVec s 32 × IVec s 32 :=
  (addi p.1 (broadcast s a), addi p.2 (broadcast s b))

/-- A pair of vectors at a lane. -/
def at_ (p : IVec s 32 × IVec s 32) (l : s.Idx) : BitVec 32 × BitVec 32 := (p.1 l, p.2 l)

theorem shl_const (r : ℕ) (h : r < 32) (x : BitVec 32) (u : ArithUnit) : IntOp.shli u x (BitVec.ofNat 32 r) = x <<< r := by
  unfold IntOp.shli
  have e : (BitVec.ofNat 32 r).toNat = r := by simp; omega
  rw [if_pos (by rw [e]; exact h), BitVec.shiftLeft_eq', e]

theorem shr_const (r : ℕ) (h : r < 32) (x : BitVec 32) (u : ArithUnit) : IntOp.shrui u x (BitVec.ofNat 32 r) = x >>> r := by
  unfold IntOp.shrui
  have e : (BitVec.ofNat 32 r).toNat = r := by simp; omega
  rw [if_pos (by rw [e]; exact h), BitVec.ushiftRight_eq', e]

theorem at_vrnd (r : ℕ) (h0 : 0 < r) (h : r < 32) (p : IVec s 32 × IVec s 32) (l : s.Idx) :
    at_ (vrnd (BitVec.ofNat 32 r) (BitVec.ofNat 32 (32 - r)) p) l = rnd r (at_ p l) := by
  show (p.1 l + p.2 l, (p.1 l + p.2 l) ^^^ (IntOp.shli _ (p.2 l) (BitVec.ofNat 32 r) ||| IntOp.shrui _ (p.2 l) (BitVec.ofNat 32 (32 - r)))) = _
  rw [shl_const r h, shr_const (32 - r) (by omega)]
  rfl

theorem at_vinj (a b : BitVec 32) (p : IVec s 32 × IVec s 32) (l : s.Idx) : at_ (vinj a b p) l = inj a b (at_ p l) := rfl

def vrndsA (p : IVec s 32 × IVec s 32) : IVec s 32 × IVec s 32 := vrnd 6#32 26#32 (vrnd 26#32 6#32 (vrnd 15#32 17#32 (vrnd 13#32 19#32 p)))
def vrndsB (p : IVec s 32 × IVec s 32) : IVec s 32 × IVec s 32 := vrnd 24#32 8#32 (vrnd 16#32 16#32 (vrnd 29#32 3#32 (vrnd 17#32 15#32 p)))

theorem at_vrndsA (p : IVec s 32 × IVec s 32) (l : s.Idx) : at_ (vrndsA p) l = rndsA (at_ p l) := by
  unfold vrndsA rndsA
  rw [at_vrnd 6 (by decide) (by decide), at_vrnd 26 (by decide) (by decide), at_vrnd 15 (by decide) (by decide), at_vrnd 13 (by decide) (by decide)]

theorem at_vrndsB (p : IVec s 32 × IVec s 32) (l : s.Idx) : at_ (vrndsB p) l = rndsB (at_ p l) := by
  unfold vrndsB rndsB
  rw [at_vrnd 24 (by decide) (by decide), at_vrnd 16 (by decide) (by decide), at_vrnd 29 (by decide) (by decide), at_vrnd 17 (by decide) (by decide)]

/-! ## One trip's lanes -/

open Cert.KernelIdeal Cert.KernelIdeal.Gen

/-- The counter's first words: lane `l` of trip `t` draws for word `base + 16 t + l`. -/
def vctr (v3 : IVec S16 32) (v4 : BitVec 32) (t : Fin k1_t1_loop.trips) : IVec S16 32 :=
  let q : IVec S16 32 := addi (broadcast S16 (Scalar.addi v4 (Scalar.muli (Scf.iv 0#32 1#32 t) 16#32))) v3
  addi (muli (broadcast S16 100#32) (shrui q (broadcast S16 7#32))) (andi q (broadcast S16 127#32))

/-- The lanes' state before the first group, its key already in the second words, -/
def st0 (v3 : IVec S16 32) (v4 : BitVec 32) (t : Fin k1_t1_loop.trips) : IVec S16 32 × IVec S16 32 :=
  (broadcast S16 3134548294#32, addi (vctr v3 v4 t) (broadcast S16 894150801#32))

/-- after the first group and its key, -/
def st1 (p : IVec S16 32 × IVec S16 32) : IVec S16 32 × IVec S16 32 := vinj 894150801#32 2488261134#32 (vrndsA p)

/-- one round into the third group, -/
def st2 (p : IVec S16 32 × IVec S16 32) : IVec S16 32 × IVec S16 32 :=
  vrnd 13#32 19#32 (vinj 2488261133#32 3134548296#32 (vrndsB p))

/-- three rounds into the fourth, -/
def st3 (p : IVec S16 32 × IVec S16 32) : IVec S16 32 × IVec S16 32 :=
  vrnd 16#32 16#32 (vrnd 29#32 3#32 (vrnd 17#32 15#32 (vinj 3134548294#32 894150804#32
    (vrnd 6#32 26#32 (vrnd 26#32 6#32 (vrnd 15#32 17#32 p))))))

/-- and at the end. -/
def st4 (p : IVec S16 32 × IVec S16 32) : IVec S16 32 × IVec S16 32 :=
  vinj 2488261133#32 3134548299#32 (vrndsA (vinj 894150801#32 2488261137#32 (vrnd 24#32 8#32 p)))

variable (v3 : IVec S16 32) (v4 : BitVec 32) (t : Fin k1_t1_loop.trips)

theorem part1_fst : k1_pay12 v3 v4 0#32 1#32 t = (st1 (st0 v3 v4 t)).1 := rfl

theorem part1_snd : addi (k1_pay11 v3 v4 0#32 1#32 t) (broadcast S16 2488261134#32) = (st1 (st0 v3 v4 t)).2 := rfl

theorem part2_eq (x y : IVec S16 32) : k1_pay23 x y = (st2 (y, addi x (broadcast S16 2488261134#32))).2
    ∧ k1_pay24 x y = addi (st2 (y, addi x (broadcast S16 2488261134#32))).1 (st2 (y, addi x (broadcast S16 2488261134#32))).2
    ∧ k1_pay25 x y = shli (st2 (y, addi x (broadcast S16 2488261134#32))).2 (broadcast S16 15#32) := ⟨rfl, rfl, rfl⟩

theorem part3_eq (p : IVec S16 32 × IVec S16 32) :
    k1_pay37 p.2 (addi p.1 p.2) (shli p.2 (broadcast S16 15#32)) k1_pay26 = (st3 p).2
    ∧ k1_pay38 p.2 (addi p.1 p.2) (shli p.2 (broadcast S16 15#32)) k1_pay26 = addi (st3 p).1 (st3 p).2
    ∧ k1_pay39 p.2 (addi p.1 p.2) (shli p.2 (broadcast S16 15#32)) k1_pay26 = shli (st3 p).2 (broadcast S16 24#32) := ⟨rfl, rfl, rfl⟩

theorem part4_eq [FloatOps F] (p : IVec S16 32 × IVec S16 32) :
    k1_pay41 (F := F) p.2 (addi p.1 p.2) (shli p.2 (broadcast S16 24#32)) k1_pay40
      = bitcastToFloat .f32 (ori (shrui (xori (st4 p).1 (st4 p).2) (broadcast S16 9#32)) (broadcast S16 1065353216#32)) := rfl

/-- What the trip stores, from the printed payloads. -/
def stored [FloatOps F] : FVec F S16 .f32 :=
  let x := k1_pay11 v3 v4 0#32 1#32 t
  let y := k1_pay12 v3 v4 0#32 1#32 t
  let a := k1_pay23 x y
  let b := k1_pay24 x y
  let c := k1_pay25 x y
  k1_pay1 (k1_pay41 (k1_pay37 a b c k1_pay26) (k1_pay38 a b c k1_pay26) (k1_pay39 a b c k1_pay26) k1_pay40)
    (Scalar.ofBits .f32 0x3F800000#32)

theorem stored_eq [FloatOps F] : stored (F := F) v3 v4 t
    = k1_pay1 (bitcastToFloat .f32 (ori (shrui (xori (st4 (st3 (st2 (st1 (st0 v3 v4 t))))).1 (st4 (st3 (st2 (st1 (st0 v3 v4 t))))).2)
        (broadcast S16 9#32)) (broadcast S16 1065353216#32))) (Scalar.ofBits .f32 0x3F800000#32) := by
  unfold stored
  obtain ⟨h1, h2, h3⟩ := part2_eq (k1_pay11 v3 v4 0#32 1#32 t) (k1_pay12 v3 v4 0#32 1#32 t)
  rw [part1_snd, part1_fst] at h1 h2 h3
  dsimp only
  rw [part1_fst, h1, h2, h3]
  obtain ⟨g1, g2, g3⟩ := part3_eq (st2 (st1 (st0 v3 v4 t)))
  rw [show ((st1 (st0 v3 v4 t)).1, (st1 (st0 v3 v4 t)).2) = st1 (st0 v3 v4 t) from rfl, g1, g2, g3, part4_eq]

/-- The state at a lane is the hash of the lane's counter. -/
theorem at_states (l : S16.Idx) : at_ (st4 (st3 (st2 (st1 (st0 v3 v4 t))))) l
    = hash 3134548294#32 894150801#32 (0#32, vctr v3 v4 t l) := by
  have h0 : at_ (st0 v3 v4 t) l = inj 3134548294#32 894150801#32 (0#32, vctr v3 v4 t l) := by
    show ((3134548294#32, vctr v3 v4 t l + 894150801#32) : BitVec 32 × BitVec 32) = _
    simp [inj]
  unfold st4 st3 st2 st1
  simp only [at_vinj, at_vrndsA, at_vrndsB, at_vrnd 24 (by decide) (by decide), at_vrnd 16 (by decide) (by decide),
    at_vrnd 29 (by decide) (by decide), at_vrnd 17 (by decide) (by decide), at_vrnd 6 (by decide) (by decide),
    at_vrnd 26 (by decide) (by decide), at_vrnd 15 (by decide) (by decide), at_vrnd 13 (by decide) (by decide), h0]
  rfl

/-- A lane of what the trip stores is the draw of the lane's counter. -/
theorem stored_apply [FloatOps F] (l : S16.Idx) :
    stored (F := F) v3 v4 t l = unit (bits 3134548294#32 894150801#32 (vctr v3 v4 t l)) := by
  rw [stored_eq]
  have e := at_states v3 v4 t l
  have e1 : ∀ (w : IVec S16 32), k1_pay1 (F := F) (bitcastToFloat .f32 (ori (shrui w (broadcast S16 9#32)) (broadcast S16 1065353216#32)))
      (Scalar.ofBits .f32 0x3F800000#32) l = unit (w l) := by
    intro w
    unfold k1_pay1
    show shapeCast S16 _ shapeCasts_S16_S16 l = _
    rw [shapeCast_self]
    show FloatOps.subf (FloatOps.ofBits .f32 (IntOp.shrui _ (w l) (BitVec.ofNat 32 9) ||| 1065353216#32)) _ = _
    rw [shr_const 9 (by decide)]
    rfl
  rw [e1]
  unfold bits
  rw [← e]
  rfl

/-- The counter of lane `l` of trip `t`, from the word that it draws for. -/
theorem vctr_apply (base : ℕ) (hb : base + 16384 ≤ 6291456) (l : S16.Idx) :
    vctr (iota .scVector S16 32 [0] iota_S16_d0_w32_scVector) (BitVec.ofNat 32 base) t l = ctr (base + 16 * t.val + (l 0).val) := by
  have ht : t.val < 1024 := t.isLt
  have hl : (l 0).val < 16 := (l 0).isLt
  have hq : (addi (broadcast S16 (Scalar.addi (BitVec.ofNat 32 base) (Scalar.muli (Scf.iv 0#32 1#32 t) 16#32)))
      (iota .scVector S16 32 [0] iota_S16_d0_w32_scVector)) l = BitVec.ofNat 32 (base + 16 * t.val + (l 0).val) := by
    show (BitVec.ofNat 32 base + (0#32 + BitVec.ofNat 32 t.val * 1#32) * 16#32) + BitVec.ofNat 32 (0 * 16 + (l 0).val) = _
    apply BitVec.eq_of_toNat_eq
    simp [BitVec.toNat_add, BitVec.toNat_mul]
    omega
  unfold vctr
  dsimp only
  show 100#32 * IntOp.shrui _ _ (BitVec.ofNat 32 7) + (_ &&& 127#32) = _
  rw [shr_const 7 (by decide), hq]
  unfold ctr
  generalize hn : base + 16 * t.val + (l 0).val = n
  have hn' : n < 6291456 := by omega
  apply BitVec.eq_of_toNat_eq
  have e127 : n % 4294967296 &&& 127 = n % 128 := by
    rw [show (127 : ℕ) = 2 ^ 7 - 1 from rfl, Nat.and_two_pow_sub_one_eq_mod]; omega
  simp [BitVec.toNat_add, BitVec.toNat_mul, Nat.shiftRight_eq_div_pow, e127]
  omega

end Cert.Proof.Draw

end
-- ==== Proof.Base.lean ====
/-
  The program as the launch theorem sees it, the algebra its proof owns, and what a TensorCore call's body keeps of the
  core's own buffers between its points.
-/
module

public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Writes

@[expose] public section

noncomputable section

namespace Cert.Proof.Tile

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 3) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's rounds, the pipelines' rounds and the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The core's own buffers that a call does not stage -/

/-- Every one of them at some contents, and the generator register at some state; -/
def keep {gr W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

/-- and all but some. -/
def keepBut {gr W : Nat} (win : Fin W → Pipeline.WinSpec sig gr) (S : Finset (Ref sig .tc)) (c : Dev nD) : sProp 𝕄 :=
  iprop((bigSep (((Finset.univ.filter fun b : Ref sig .tc => b.isScoped) \ Finset.univ.image (Pipeline.stageRef win)) \ S)
    fun b => iprop(∃ f : Buf (Elt F) ((c.tc : Thread nD τ).loc b), ((c.tc : Thread nD τ).loc b) ↦{fullShare} f)) ∗ ∃ r, prngReg c r)

theorem sep_regroup (P₁ P₂ P₃ P₄ : sProp 𝕄) : iprop((P₁ ∗ P₂ ∗ P₃) ∗ P₄) ⊢ iprop(P₁ ∗ P₂ ∗ P₃ ∗ P₄) := by
  iintro ⟨⟨H1, H2, H3⟩, H4⟩
  isplitl [H1]; · iexact H1
  isplitl [H2]; · iexact H2
  isplitl [H3] <;> iassumption
theorem sep_group (P₁ P₂ P₃ P₄ : sProp 𝕄) : iprop(P₁ ∗ P₂ ∗ P₃ ∗ P₄) ⊢ iprop((P₁ ∗ P₂ ∗ P₃) ∗ P₄) := by
  iintro ⟨H1, H2, H3, H4⟩
  isplitl [H1 H2 H3]
  · isplitl [H1]; · iexact H1
    isplitl [H2] <;> iassumption
  iexact H4

theorem keep_split {gr W : Nat} (win : Fin W → Pipeline.WinSpec sig gr) (c : Dev nD) {a b : Ref sig .tc} (hab : a ≠ b)
    (ha : a ∈ (Finset.univ.filter fun b : Ref sig .tc => b.isScoped) \ Finset.univ.image (Pipeline.stageRef win))
    (hb : b ∈ (Finset.univ.filter fun b : Ref sig .tc => b.isScoped) \ Finset.univ.image (Pipeline.stageRef win)) :
    (keep win c : sProp 𝕄)
      = iprop((∃ f : Buf (Elt F) ((c.tc : Thread nD τ).loc a), ((c.tc : Thread nD τ).loc a) ↦{fullShare} f)
        ∗ (∃ f : Buf (Elt F) ((c.tc : Thread nD τ).loc b), ((c.tc : Thread nD τ).loc b) ↦{fullShare} f) ∗ keepBut win {a, b} c) := by
  unfold keep keepBut Pipeline.scopedRest
  rw [BI.bigSep_erase ha, BI.bigSep_erase (i := b) (Finset.mem_erase.mpr ⟨hab.symm, hb⟩), ← Finset.sdiff_singleton_eq_erase,
    ← Finset.sdiff_singleton_eq_erase, sdiff_sdiff_left]
  have : ({a} ⊔ {b} : Finset (Ref sig .tc)) = {a, b} := rfl
  rw [this]
  exact BI.Entails.antisymm (sep_regroup _ _ _ _) (sep_group _ _ _ _)

end Cert.Proof.Tile

end
-- ==== Proof.Fill.lean ====
/-
  The loop that fills a chunk buffer. Its twelve printed copies are one loop over the buffer and the chunk's first word;
  run once at a symbolic buffer, it leaves in every word of the buffer the draw of the chunk's word.
-/
module

public import proofs.«01_k».proof.Proof.Draw
public import proofs.«01_k».proof.Proof.Base

@[expose] public section

noncomputable section

namespace Cert.Proof.Tile

open Cert.KernelIdeal Cert.KernelIdeal.Gen
open Cert.Proof.Draw (draw stored stored_apply vctr_apply)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid1.Coords) : Fin τ.nSC := (L 0).castLE hcore1
abbrev jV (L : grid1.Coords) : Fin τ.nSub := (L 1).castLE hsub1

variable [FloatOps F]

/-- The lane numbers, as the kernel makes them. -/
abbrev lanes : IVec S16 32 := iota .scVector S16 32 [0] iota_S16_d0_w32_scVector

/-- One trip of a fill, its pure parts gone. -/
def fillBody (i : grid1.Coords) (b : Memref sig .scVector .vmem S16384 .f32) (v3 : IVec S16 32) (v4 : BitVec 32) :
    Fin k1_t1_loop.trips → BitVec 32 → Prog (TpuEff nD τ sig (Elt F) Λ₀ (.scVector ((i 0).castLE hcore1) ((i 1).castLE hsub1))) (BitVec 32) :=
  fun t _ => do
    let _ : Vec F S16 .f32 ← Prog.lift (.load b (Rect.unit (s := S16384) (k1_off1 t) S16.size (k1_off1_inb t)).toLoadRect (View.loadsAt_vmem h_S16))
    Prog.lift (.store b (Rect.unit (s := S16384) (k1_off1 t) S16.size (k1_off1_inb t)) (stored v3 v4 t) Finset.univ (View.stores_vmem_bits_univ h_S16 rfl) (.inl rfl))
    pure 0#32

section Bodies

variable (i : grid1.Coords) (arg2 : Memref sig .scVector .hbm S6291456 .f32) (harg2 : arg2.IsWhole)
  (arg3 : Memref sig .scVector .vmem S16384 .f32) (harg3 : arg3.IsWhole) (arg4 : Memref sig .scVector .vmem S16384 .f32) (harg4 : arg4.IsWhole)
  (arg5 arg6 : DmaSems sig S_) (v2 : BitVec 32) (v3 : IVec S16 32) (v26 w : BitVec 32)

theorem body1 : k1_t1_body (F := F) i arg2 harg2 arg3 harg3 arg4 harg4 arg5 arg6 v3 w = fillBody i arg3 v3 w := rfl
theorem body2 : k1_t2_body (F := F) i arg2 harg2 arg3 harg3 arg4 harg4 arg5 arg6 v3 w = fillBody i arg4 v3 w := rfl
theorem body3 : k1_t3_body (F := F) i arg2 harg2 arg3 harg3 arg4 harg4 arg5 arg6 v3 w = fillBody i arg3 v3 w := rfl
theorem body4 : k1_t4_body (F := F) i arg2 harg2 arg3 harg3 arg4 harg4 arg5 arg6 v2 v3 w 0#32 0#32 = fillBody i arg4 v3 w := rfl
theorem body5 : k1_t5_body (F := F) i arg2 harg2 arg3 harg3 arg4 harg4 arg5 arg6 v2 v3 v26 0#32 0#32 w = fillBody i arg3 v3 w := rfl
theorem body6 : k1_t6_body (F := F) i arg2 harg2 arg3 harg3 arg4 harg4 arg5 arg6 v2 v3 v26 0#32 0#32 w = fillBody i arg4 v3 w := rfl
theorem body7 : k1_t7_body (F := F) i arg2 harg2 arg3 harg3 arg4 harg4 arg5 arg6 v2 v3 v26 0#32 0#32 w = fillBody i arg3 v3 w := rfl
theorem body8 : k1_t8_body (F := F) i arg2 harg2 arg3 harg3 arg4 harg4 arg5 arg6 v2 v3 w = fillBody i arg4 v3 w := rfl
theorem body9 : k1_t9_body (F := F) i arg2 harg2 arg3 harg3 arg4 harg4 arg5 arg6 v2 v3 w = fillBody i arg3 v3 w := rfl
theorem body10 : k1_t10_body (F := F) i arg2 harg2 arg3 harg3 arg4 harg4 arg5 arg6 v2 v3 w = fillBody i arg4 v3 w := rfl
theorem body11 : k1_t11_body (F := F) i arg2 harg2 arg3 harg3 arg4 harg4 arg5 arg6 v3 w 0#32 = fillBody i arg3 v3 w := rfl
theorem body12 : k1_t12_body (F := F) i arg2 harg2 arg3 harg3 arg4 harg4 arg5 arg6 v3 w = fillBody i arg4 v3 w := rfl

end Bodies

/-- The buffer, read through `b`, holds the draws of the words from `base` on in its first `n` words. -/
def Filled (thr : Thread nD τ) (b : Memref sig thr.2.kind .vmem S16384 .f32) (base n : ℕ) (f : Buf (Elt F) (b.view.loc thr)) : Prop :=
  ∀ j : S16384.Idx, (j 0).val < n → b.view.read (Elt F) f j = draw (F := F) (base + (j 0).val)

/-- One trip extends the filled part by its sixteen lanes. -/
theorem filled_step (thr : Thread nD τ) (b : Memref sig thr.2.kind .vmem S16384 .f32) (base : ℕ) (hb : base + 16384 ≤ 6291456)
    (t : Fin k1_t1_loop.trips) (f : Buf (Elt F) (b.view.loc thr)) (hf : Filled thr b base (16 * t.val) f) :
    Filled thr b base (16 * (t.val + 1)) ((b.view.slice (Rect.unit (s := S16384) (k1_off1 t) S16.size (k1_off1_inb t))).write (Elt F) f
      (stored lanes (BitVec.ofNat 32 base) t) Finset.univ) := by
  intro j hj
  rw [← View.writes_singleton]
  by_cases h : (j 0).val < 16 * t.val
  · rw [View.read_writes_cons_miss_of_axis _ _ _ _ j 0 (16 * t.val) 16 (by simp [k1_off1_eq]) rfl rfl (.inl h)]
    exact hf j h
  · let l : S16.Idx := fun | 0 => ⟨(j 0).val - 16 * t.val, by show _ < 16; omega⟩
    rw [View.read_writes_cons_hit_of_coords _ _ _ _ _ l j ?_]
    · rw [stored_apply, vctr_apply _ base hb]
      unfold draw
      congr 3
      show base + 16 * t.val + ((j 0).val - 16 * t.val) = _
      omega
    · intro a
      match a with
      | 0 =>
        show (j 0).val = k1_off1 t 0 + 1 * ((j 0).val - 16 * t.val)
        rw [k1_off1_eq]
        show (j 0).val = 16 * t.val + 1 * ((j 0).val - 16 * t.val)
        omega

/-- The loop over a buffer, whole at any contents: it leaves the chunk's draws there. -/
theorem wp_fill (d : Dev nD) (L : grid1.Coords) (b : Memref sig .scVector .vmem S16384 .f32) (base : ℕ) (hb : base + 16384 ≤ 6291456)
    (a₀ : BitVec 32) (Q : BitVec 32 → sProp 𝕄) :
    iprop((∃ f, b.view.loc (V d (cV L) (jV L)) ↦{fullShare} f)
        ∗ (∀ (a : BitVec 32) (f : Buf (Elt F) (b.view.loc (V d (cV L) (jV L)))), ⌜Filled (V d (cV L) (jV L)) b base 16384 f⌝ -∗ (b.view.loc (V d (cV L) (jV L)) ↦{fullShare} f) -∗ Q a))
      ⊢ wp frame (wpE (defs₀ (F := F)) 𝒱₀ (V d (cV L) (jV L)) none) Set.univ
          (Scf.Loop.for k1_t1_loop k1_t1_ok a₀ (fillBody L b lanes (BitVec.ofNat 32 base))) Q := by
  have htrips : k1_t1_loop.trips = 1024 := rfl
  iintro ⟨⟨%f₀, Hb⟩, HQ⟩
  iapply (Scf.wp_for frame (wpE (defs₀ (F := F)) 𝒱₀ (V d (cV L) (jV L)) none) Set.univ _ _ _ k1_t1_ok a₀ (fillBody L b lanes (BitVec.ofNat 32 base))
    (fun k _ => iprop(∃ f, ⌜Filled (V d (cV L) (jV L)) b base (16 * k) f⌝ ∗ b.view.loc (V d (cV L) (jV L)) ↦{fullShare} f)) ?hbody) $$ [Hb HQ]
  case hbody =>
    intro t a
    iintro ⟨%f, %hf, Hb⟩
    unfold fillBody
    sl_exec
    sl_step
    iexists _
    isplitr
    · ipureintro; exact filled_step (V d (cV L) (jV L)) b base hb t f hf
    · iexact Hb
  isplitl [Hb]
  · iexists f₀
    isplitr
    · ipureintro; intro j hj; omega
    · iassumption
  iintro %a ⟨%f, %hf, Hb⟩
  iapply HQ $$ %a %f [] [Hb]
  · ipureintro; exact hf
  · iassumption

end Cert.Proof.Tile

end
-- ==== Proof.Tile.lean ====
/-
  The SparseCore kernel on one vector subcore: twelve chunks of its words, each filled in one of two buffers and copied
  out while the next is filled. One chunk's fill and copy, and one chunk's wait, are run once at a symbolic chunk and
  buffer; the body is these in the printed order.
-/
module

public import proofs.«01_k».proof.Proof.Fill

@[expose] public section

noncomputable section

namespace Cert.Proof.Tile

open Cert.KernelIdeal Cert.KernelIdeal.Gen
open Cert.Proof.Draw (draw stored stored_apply vctr_apply)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type}

local notation "𝕄" => MT nD τ sig (HIx 1) (Elt F) ℕ UU ℕ

/-- The result, as a location of device `d`. -/
abbrev oLoc (d : Dev nD) : Loc nD τ sig := (SparseCore.T d).loc main_v2

local notation "oV" => (Memref.whole Cert.KernelIdeal.main_v2_scv : Memref Cert.KernelIdeal.sig Kind.scVector Space.hbm Cert.KernelIdeal.S6291456 EltTy.f32)
local notation "b0V" => (Memref.whole Cert.KernelIdeal.cc1_scratch0 : Memref Cert.KernelIdeal.sig Kind.scVector Space.vmem Cert.KernelIdeal.S16384 EltTy.f32)
local notation "b1V" => (Memref.whole Cert.KernelIdeal.cc1_scratch1 : Memref Cert.KernelIdeal.sig Kind.scVector Space.vmem Cert.KernelIdeal.S16384 EltTy.f32)

variable [FloatOps F]

/-! ## The result's chunks -/

/-- The result in 384 chunks of 16384 words. -/
theorem hdiv : 384 ∣ S6291456.size 0 := ⟨16384, rfl⟩
abbrev cset (g : Fin 384) : Finset S6291456.Idx := (Rect.part (s := S6291456) (a₀ := 0) hdiv g).set

/-- Chunk `r` of the subcore `s` of SparseCore `c`. -/
def chunkOf (c : Fin 2) (s : Fin 16) (r : Fin 12) : Fin 384 := ⟨24 * s.val + 12 * c.val + r.val, by omega⟩

/-- The result's draws. -/
def drawn (d : Dev nD) : Buf (Elt F) (oLoc d) := fun j : S6291456.Idx => (draw (j 0).val : F .f32)

abbrev chunkAt (d : Dev nD) (g : Fin 384) (f : Buf (Elt F) (oLoc d)) : sProp 𝕄 := oLoc d ↦[cset g]{fullShare} f

section Tile

variable (d : Dev nD) (L : grid1.Coords)

omit [FloatOps F] in
theorem bound_zero : grid1.bound 0 = 2 := rfl
omit [FloatOps F] in
theorem bound_one : grid1.bound 1 = 16 := rfl

/-- The subcore's chunk `r`, -/
abbrev gL (L : grid1.Coords) (r : Fin 12) : Fin 384 := chunkOf (Fin.cast bound_zero (L 0)) (Fin.cast bound_one (L 1)) r

omit [FloatOps F] in
theorem gL_val (r : Fin 12) : (gL L r).val = 24 * (L 1).val + 12 * (L 0).val + r.val := rfl

/-- its first word, -/
def base (L : grid1.Coords) (r : Fin 12) : ℕ := 16384 * (gL L r).val

omit [FloatOps F] in
theorem base_le (r : Fin 12) : base L r + 16384 ≤ 6291456 := by
  have := (gL L r).isLt
  unfold base; omega

/-- that word as the kernel computes it, -/
abbrev baseK (L : grid1.Coords) (r : Fin 12) : BitVec 32 :=
  Scalar.addi (Scalar.muli (Scalar.addi (Scalar.muli (BitVec.ofNat 32 (L 1).val) 2#32) (BitVec.ofNat 32 (L 0).val)) 196608#32) (BitVec.ofNat 32 (16384 * r.val))

omit [FloatOps F] in
theorem baseK_eq (r : Fin 12) : baseK L r = BitVec.ofNat 32 (base L r) := by
  have h0 : (L 0).val < 2 := (L 0).isLt
  have h1 : (L 1).val < 16 := (L 1).isLt
  show ((BitVec.ofNat 32 (L 1).val * 2#32 + BitVec.ofNat 32 (L 0).val) * 196608#32) + BitVec.ofNat 32 (16384 * r.val) = _
  apply BitVec.eq_of_toNat_eq
  rw [base, gL_val]
  simp only [BitVec.toNat_add, BitVec.toNat_mul, BitVec.toNat_ofNat]
  omega

/-- and the chunk as the kernel slices it out of the result. -/
abbrev outK (L : grid1.Coords) (r : Fin 12) : Memref sig .scVector .hbm S16384 .f32 :=
  (oV).slice (Rect.unit (s := S6291456) (k1_off2 L (BitVec.ofNat 32 (16384 * r.val))) S16384.size (k1_off2_inb L r)) (fun _ => rfl)

omit [FloatOps F] in
theorem off_eq (r : Fin 12) : k1_off2 L (BitVec.ofNat 32 (16384 * r.val)) 0 = base L r := by
  rw [k1_off2_eq]
  show 393216 * (L 1).val + 196608 * (L 0).val + 16384 * r.val = 16384 * (24 * (L 1).val + 12 * (L 0).val + r.val)
  omega

omit [FloatOps F] in
theorem rect_eq (r : Fin 12) : Rect.unit (s := S6291456) (k1_off2 L (BitVec.ofNat 32 (16384 * r.val))) S16384.size (k1_off2_inb L r)
    = Rect.part (s := S6291456) (a₀ := 0) hdiv (gL L r) := by
  unfold Rect.part Rect.block
  congr 1 <;> funext a
  · match a with
    | 0 => rw [off_eq]; simp [Shape.partIx, Shape.partSize, base]; omega
  · match a with
    | 0 => simp [Shape.partSize]

omit [FloatOps F] in
theorem set_outK (r : Fin 12) : (outK L r).view.set = cset (gL L r) := by
  show ((oV).view.slice (Rect.unit (s := S6291456) (k1_off2 L (BitVec.ofNat 32 (16384 * r.val))) S16384.size (k1_off2_inb L r))).set = _
  rw [View.set_slice]
  refine (Finset.map_refl (s := (Rect.unit (s := S6291456) (k1_off2 L (BitVec.ofNat 32 (16384 * r.val))) S16384.size (k1_off2_inb L r)).set)).trans ?_
  exact congrArg (fun q : Rect S6291456 => q.set) (rect_eq L r)

omit [FloatOps F] in
theorem pts_outK (r : Fin 12) (f : Buf (Elt F) (oLoc d)) :
    ((outK L r).view.loc (V d (cV L) (jV L)) ↦[(outK L r).view.set]{fullShare} f : sProp 𝕄) = chunkAt d (gL L r) f := by
  rw [set_outK]

/-- A full buffer copied onto the chunk leaves the draws there. -/
theorem copied (r : Fin 12) (b : Memref sig .scVector .vmem S16384 .f32) (fs : Buf (Elt F) (b.view.loc (V d (cV L) (jV L))))
    (hfs : Filled (V d (cV L) (jV L)) b (base L r) 16384 fs) (fd : Buf (Elt F) (oLoc d)) :
    ((outK L r).view.loc (V d (cV L) (jV L)) ↦[(outK L r).view.set]{fullShare}
        ((outK L r).view.write (Elt F) fd (b.view.read (Elt F) fs) Finset.univ) : sProp 𝕄) = chunkAt d (gL L r) (drawn d) := by
  rw [← pts_outK d L r]
  refine pointsTo_congr fun i hi => ?_
  obtain ⟨x, -, rfl⟩ := Finset.mem_map.mp hi
  rw [View.write_emb_of_mem _ _ (Finset.mem_univ x), hfs x (show (x 0).val < 16384 from (x 0).isLt)]
  unfold drawn
  show cast _ (draw (base L r + (x 0).val)) = draw (((outK L r).view.emb x : S6291456.Idx) 0).val
  rw [cast_eq]
  congr 1
  show _ = k1_off2 L (BitVec.ofNat 32 (16384 * r.val)) 0 + 1 * (x 0).val
  rw [off_eq]; omega

/-- What a chunk's copy brings back: its draws and the buffer. -/
abbrev back (r : Fin 12) (b : Memref sig .scVector .vmem S16384 .f32) : sProp 𝕄 :=
  iprop(chunkAt d (gL L r) (drawn d) ∗ ∃ f : Buf (Elt F) (b.view.loc (V d (cV L) (jV L))), b.view.loc (V d (cV L) (jV L)) ↦{fullShare} f)

abbrev credit (r : Fin 12) : ℕ := (outK L r).view.dmaCredit

/-- One chunk filled and its copy started. -/
theorem wp_send (r : Fin 12) (b : Memref sig .scVector .vmem S16384 .f32) (hset : b.view.set = Finset.univ) (sem : DmaSem sig)
    {hsrc : b.view.WordExact} {hdst : (outK L r).view.WordExact} {hsem : DmaTarget.Typed (nD := nD) (τ := τ) (p := Proc.scVector (cV L) (jV L)) .vmem (.dma sem) (.here (outK L r))}
    {α : Type} {k : BitVec 32 → PUnit → Prog (TpuEff nD τ sig (Elt F) Λ₀ (.scVector (cV L) (jV L))) α} {Q : α → sProp 𝕄} (a₀ : BitVec 32)
    (f₀ : Buf (Elt F) (oLoc d)) :
    iprop((∃ f, b.view.loc (V d (cV L) (jV L)) ↦{fullShare} f) ∗ chunkAt d (gL L r) f₀ ∗ semVal (V d (cV L) (jV L), SemLoc.dma sem) 0)
      ⊢ iprop((∀ a, Flight (countersEmb : UEmb Counters 𝕄) (V d (cV L) (jV L)) (.dma sem) (none : HIx 1) (credit L r) (back d L r b)
          -∗ wp frame (wpE (defs₀ (F := F)) 𝒱₀ (V d (cV L) (jV L)) none) Set.univ (k a ⟨⟩) Q)
        -∗ wp frame (wpE (defs₀ (F := F)) 𝒱₀ (V d (cV L) (jV L)) none) Set.univ
          (Scf.Loop.for k1_t1_loop k1_t1_ok a₀ (fillBody L b lanes (baseK L r)) >>= fun a =>
            .op (.enqueueDma b (.here (outK L r)) (.dma sem) hsrc hdst hsem) (k a)) Q) := by
  iintro ⟨Hb, Hc, Hs⟩ Hk
  rw [wp_bind, baseK_eq]
  iapply (wp_fill d L b (base L r) (base_le L r))
  isplitl [Hb]; · iexact Hb
  iintro %a %f %hf Hb
  ihave Hc' := (Entails.of_eq (pts_outK (F := F) d L r f₀).symm) $$ Hc
  iapply (Transfers.wp_dmaLocal countersEmb 𝒱₀ (V d (cV L) (jV L)) none (q := fullShare) (fs := f) (fd := f₀) (none : HIx 1) (credit L r) rfl
    (View.dmaCredit_pos _ (by decide)) (Finset.Subset.refl _)) $$ [Hb Hc' Hs]
  · isplitl [Hb]; · rw [hset]; iexact Hb
    isplitl [Hc']; · iexact Hc'
    iexact Hs
  iintro Hf
  iapply Hk
  iapply (Transfers.Flight_mono countersEmb (V d (cV L) (jV L)) ?_) $$ Hf
  iintro ⟨Ho, Hb⟩
  isplitl [Ho]
  · iapply (Entails.of_eq (copied d L r b f hf f₀)); iexact Ho
  · rw [hset]; iexists f; iexact Hb

/-- One chunk's copy waited for. -/
theorem wp_collect (r : Fin 12) (b : Memref sig .scVector .vmem S16384 .f32) (sem : DmaSem sig)
    {hsrc : b.view.WordExact} {hdst : (outK L r).view.WordExact}
    {α : Type} {k : PUnit → Prog (TpuEff nD τ sig (Elt F) Λ₀ (.scVector (cV L) (jV L))) α} {Q : α → sProp 𝕄}
    {O : CellTallies nD τ sig (HIx 1)} {W : Waits sig (HIx 1)} :
    iprop(Flight (countersEmb : UEmb Counters 𝕄) (V d (cV L) (jV L)) (.dma sem) (none : HIx 1) (credit L r) (back d L r b)
        ∗ MayWaits (V d (cV L) (jV L)) (none : HIx 1) O
        ∗ ∃ W', ⌜∀ p ∈ W', p ∈ W ∨ p.2 = none⌝ ∗ owes (V d (cV L) (jV L)) O W')
      ⊢ iprop((iprop(chunkAt d (gL L r) (drawn d) ∗ (∃ f : Buf (Elt F) (b.view.loc (V d (cV L) (jV L))), b.view.loc (V d (cV L) (jV L)) ↦{fullShare} f)
            ∗ semVal (V d (cV L) (jV L), SemLoc.dma sem) 0
            ∗ ∃ W', ⌜∀ p ∈ W', p ∈ W ∨ p.2 = none⌝ ∗ owes (V d (cV L) (jV L)) O W')
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (.op (.waitDma2 sem b (outK L r) hsrc hdst) k) Q) := by
  iintro ⟨Hf, Hmw, %W', %hW, HO⟩ Hk
  iapply (Transfers.wp_waitLocalO countersEmb 𝒱₀ (V d (cV L) (jV L)) none (none : HIx 1) (N := credit L r) rfl) $$ [Hf Hmw HO]
  · isplitl [Hf]; · iexact Hf
    isplitl [HO]; · iexact HO
    iapply (Transfers.MayWaits.elim (SemLoc.dma sem)); iexact Hmw
  iintro ⟨⟨Ho, Hb⟩, Hs, HO⟩
  iapply Hk
  isplitl [Ho]; · iexact Ho
  isplitl [Hb]; · iexact Hb
  isplitl [Hs]; · iexact Hs
  iexists (insert (SemLoc.dma sem, none) W')
  isplitr
  · ipureintro; intro p hp
    rcases Finset.mem_insert.mp hp with rfl | hp
    · exact .inr rfl
    · exact hW p hp
  · iexact HO

/-- One chunk filled and its copy started, then the copy before it waited for. -/
theorem wp_turn (r r' : Fin 12) (b b' : Memref sig .scVector .vmem S16384 .f32) (hset : b.view.set = Finset.univ) (sem sem' : DmaSem sig)
    {hsrc : b.view.WordExact} {hdst : (outK L r).view.WordExact} {hsem : DmaTarget.Typed (nD := nD) (τ := τ) (p := Proc.scVector (cV L) (jV L)) .vmem (.dma sem) (.here (outK L r))}
    {hsrc' : b'.view.WordExact} {hdst' : (outK L r').view.WordExact}
    {α : Type} {k : BitVec 32 → PUnit → PUnit → Prog (TpuEff nD τ sig (Elt F) Λ₀ (.scVector (cV L) (jV L))) α} {Q : α → sProp 𝕄} (a₀ : BitVec 32)
    (f₀ : Buf (Elt F) (oLoc d)) {O : CellTallies nD τ sig (HIx 1)} {W : Waits sig (HIx 1)} :
    iprop(MayWaits (V d (cV L) (jV L)) (none : HIx 1) O ∗ (∃ f, b.view.loc (V d (cV L) (jV L)) ↦{fullShare} f) ∗ chunkAt d (gL L r) f₀
        ∗ semVal (V d (cV L) (jV L), SemLoc.dma sem) 0
        ∗ Flight (countersEmb : UEmb Counters 𝕄) (V d (cV L) (jV L)) (.dma sem') (none : HIx 1) (credit L r') (back d L r' b')
        ∗ ∃ W', ⌜∀ p ∈ W', p ∈ W ∨ p.2 = none⌝ ∗ owes (V d (cV L) (jV L)) O W')
      ⊢ iprop((∀ a, iprop(Flight (countersEmb : UEmb Counters 𝕄) (V d (cV L) (jV L)) (.dma sem) (none : HIx 1) (credit L r) (back d L r b)
            ∗ chunkAt d (gL L r') (drawn d) ∗ (∃ f : Buf (Elt F) (b'.view.loc (V d (cV L) (jV L))), b'.view.loc (V d (cV L) (jV L)) ↦{fullShare} f)
            ∗ semVal (V d (cV L) (jV L), SemLoc.dma sem') 0
            ∗ ∃ W', ⌜∀ p ∈ W', p ∈ W ∨ p.2 = none⌝ ∗ owes (V d (cV L) (jV L)) O W')
          -∗ wp frame (wpE (defs₀ (F := F)) 𝒱₀ (V d (cV L) (jV L)) none) Set.univ (k a ⟨⟩ ⟨⟩) Q)
        -∗ wp frame (wpE (defs₀ (F := F)) 𝒱₀ (V d (cV L) (jV L)) none) Set.univ
          (Scf.Loop.for k1_t1_loop k1_t1_ok a₀ (fillBody L b lanes (baseK L r)) >>= fun a =>
            .op (.enqueueDma b (.here (outK L r)) (.dma sem) hsrc hdst hsem) fun x =>
              .op (.waitDma2 sem' b' (outK L r') hsrc' hdst') (k a x)) Q) := by
  iintro ⟨Hmw, Hb, Hc, Hs, Hf, HO⟩ Hk
  iapply (wp_send d L r b hset sem a₀ f₀) $$ [Hb Hc Hs]
  · isplitl [Hb]; · iexact Hb
    isplitl [Hc] <;> iassumption
  iintro %a Hf'
  iapply (wp_collect d L r' b' sem' (W := W)) $$ [Hf Hmw HO]
  · isplitl [Hf]; · iexact Hf
    isplitl [Hmw] <;> iassumption
  iintro Hrest
  iapply Hk
  isplitl [Hf'] <;> iassumption

abbrev c0cell (c : Fin τ.nSC) (i : Fin τ.nSub) : GSem nD τ sig := (V d c i, .dma cc1_scratch2.sem)
abbrev c1cell (c : Fin τ.nSC) (i : Fin τ.nSub) : GSem nD τ sig := (V d c i, .dma cc1_scratch3.sem)

omit [FloatOps F] in
/-- The two semaphores among the subcore's own, -/
theorem ownSems0_V (c : Fin τ.nSC) (i : Fin τ.nSub) : (ownSems0 (V d c i) : sProp 𝕄)
    = iprop(semVal (c0cell d c i) 0 ∗ semVal (c1cell d c i) 0
        ∗ bigSep (((ownCells (V d c i)).erase (c0cell d c i)).erase (c1cell d c i)) fun g => semVal g 0) := by
  unfold SparseCore.Cfg.ownSems0
  rw [SparseCore.bigSep_erase' ((mem_ownCells (g := c0cell d c i)).mpr ⟨rfl, by
      show (SemLoc.dma cc1_scratch2.sem : SemLoc sig).isScoped .scVector = true; decide⟩),
    SparseCore.bigSep_erase' (Finset.mem_erase.mpr ⟨by simp [c0cell, c1cell]; decide, (mem_ownCells (g := c1cell d c i)).mpr ⟨rfl, by
      show (SemLoc.dma cc1_scratch3.sem : SemLoc sig).isScoped .scVector = true; decide⟩⟩)]

omit [FloatOps F] in
/-- and its two buffers. -/
theorem ownBufs_V (c : Fin τ.nSC) (i : Fin τ.nSub) : (ownBufs (V d c i) : sProp 𝕄)
    = iprop((∃ f, (V d c i).loc cc1_scratch0 ↦{fullShare} f) ∗ (∃ f, (V d c i).loc cc1_scratch1 ↦{fullShare} f)
        ∗ bigSep (((ownRefs (τ := τ) (.scVector c i)).erase ((Proc.scVector c i).devRef cc1_scratch0)).erase ((Proc.scVector c i).devRef cc1_scratch1))
            fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector c i) (b := (Proc.scVector c i).devRef cc1_scratch1) rfl⟩)]

omit [FloatOps F] in
theorem owes_start (O : CellTallies nD τ sig (HIx 1)) (W : Waits sig (HIx 1)) : (owes (V d (cV L) (jV L)) O W : sProp 𝕄)
    ⊢ iprop(∃ W', ⌜∀ p ∈ W', p ∈ W ∨ p.2 = none⌝ ∗ owes (V d (cV L) (jV L)) O W') := by
  iintro HO
  iexists W
  isplitr
  · ipureintro; exact fun p hp => .inl hp
  · iexact HO

/-- The task on one vector subcore: its twelve chunks of the result, drawn. -/
theorem tile_body (hF : (K (F := F)).Facts) (f₀ : Buf (Elt F) (oLoc d)) (O : CellTallies nD τ sig (HIx 1)) (W : Waits sig (HIx 1)) (hO : ∀ g, O g none = 0) :
    iprop(levAts (K (F := F)).L (K (F := F)).lev ∗ emp
        ∗ (bigSep Finset.univ fun r : Fin 12 => chunkAt d (gL L r) f₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_uniform_kernel L oV (Memref.isWhole_whole _) b0V (Memref.isWhole_whole _) b1V (Memref.isWhole_whole _) cc1_scratch2 cc1_scratch3)
          fun _ => iprop((bigSep Finset.univ fun r : Fin 12 => chunkAt d (gL L r) (drawn d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h0 : (b0V).view.set = Finset.univ := View.set_whole _
  have h1 : (b1V).view.set = Finset.univ := View.set_whole _
  rw [show (Finset.univ : Finset (Fin 12)) = {0, 1, 2, 3, 4, 5, 6, 7, 8, 9, 10, 11} by decide]
  simp only [SparseCore.bigSep_insert' (show (0 : Fin 12) ∉ ({1, 2, 3, 4, 5, 6, 7, 8, 9, 10, 11} : Finset (Fin 12)) by decide),
    SparseCore.bigSep_insert' (show (1 : Fin 12) ∉ ({2, 3, 4, 5, 6, 7, 8, 9, 10, 11} : Finset (Fin 12)) by decide),
    SparseCore.bigSep_insert' (show (2 : Fin 12) ∉ ({3, 4, 5, 6, 7, 8, 9, 10, 11} : Finset (Fin 12)) by decide),
    SparseCore.bigSep_insert' (show (3 : Fin 12) ∉ ({4, 5, 6, 7, 8, 9, 10, 11} : Finset (Fin 12)) by decide),
    SparseCore.bigSep_insert' (show (4 : Fin 12) ∉ ({5, 6, 7, 8, 9, 10, 11} : Finset (Fin 12)) by decide),
    SparseCore.bigSep_insert' (show (5 : Fin 12) ∉ ({6, 7, 8, 9, 10, 11} : Finset (Fin 12)) by decide),
    SparseCore.bigSep_insert' (show (6 : Fin 12) ∉ ({7, 8, 9, 10, 11} : Finset (Fin 12)) by decide),
    SparseCore.bigSep_insert' (show (7 : Fin 12) ∉ ({8, 9, 10, 11} : Finset (Fin 12)) by decide),
    SparseCore.bigSep_insert' (show (8 : Fin 12) ∉ ({9, 10, 11} : Finset (Fin 12)) by decide),
    SparseCore.bigSep_insert' (show (9 : Fin 12) ∉ ({10, 11} : Finset (Fin 12)) by decide),
    SparseCore.bigSep_insert' (show (10 : Fin 12) ∉ ({11} : Finset (Fin 12)) by decide), bigSep_singleton]
  rw [(K (F := F)).scopedBufs_V hF d (cV L) (jV L), SparseCore.Cfg.scopedSems0_V (Val := Elt F) d (cV L) (jV L), ownSems0_V, ownBufs_V]
  rw [cc1__sc_uniform_kernel_eq_skeleton]
  unfold cc1__sc_uniform_kernel_skel
  simp only [k1_part49_eq_skeleton, k1_part50_eq_skeleton, k1_part51_eq_skeleton]
  unfold k1_part49_skel k1_part50_skel k1_part51_skel
  simp only [Prog.lift, bind_assoc, Prog.bind_op, Prog.bind_ret, Prog.pure_eq_ret, body1, body2, body3, body4, body5, body6, body7, body8, body9, body10, body11, body12]
  iintro ⟨#Hlv, -, ⟨Hc0, Hc1, Hc2, Hc3, Hc4, Hc5, Hc6, Hc7, Hc8, Hc9, Hc10, Hc11⟩, ⟨Hb0, Hb1, Hbufs⟩, ⟨Hs0, Hs1, Hsems⟩, HO⟩
  ihave #Hmw := ((K (F := F)).mayWaits_none (thr := V d (cV L) (jV L)) hO) $$ Hlv
  ihave HO := (owes_start d L O W) $$ HO
  iapply (wp_send d L 0 b0V h0 _ _ f₀) $$ [Hb0 Hc0 Hs0]
  · isplitl [Hb0]; · iexact Hb0
    isplitl [Hc0] <;> iassumption
  iintro %_ Hf0
  iapply (wp_turn d L 1 0 b1V b0V h1 _ _ _ f₀ (W := W)) $$ [Hb1 Hc1 Hs1 Hf0 HO]
  · isplitr; · iexact Hmw
    isplitl [Hb1]; · iexact Hb1
    isplitl [Hc1]; · iexact Hc1
    isplitl [Hs1]; · iexact Hs1
    isplitl [Hf0] <;> iassumption
  iintro %_ ⟨Hf1, Hc0, Hb0, Hs0, HO⟩
  iapply (wp_turn d L 2 1 b0V b1V h0 _ _ _ f₀ (W := W)) $$ [Hb0 Hc2 Hs0 Hf1 HO]
  · isplitr; · iexact Hmw
    isplitl [Hb0]; · iexact Hb0
    isplitl [Hc2]; · iexact Hc2
    isplitl [Hs0]; · iexact Hs0
    isplitl [Hf1] <;> iassumption
  iintro %_ ⟨Hf0, Hc1, Hb1, Hs1, HO⟩
  iapply (wp_turn d L 3 2 b1V b0V h1 _ _ _ f₀ (W := W)) $$ [Hb1 Hc3 Hs1 Hf0 HO]
  · isplitr; · iexact Hmw
    isplitl [Hb1]; · iexact Hb1
    isplitl [Hc3]; · iexact Hc3
    isplitl [Hs1]; · iexact Hs1
    isplitl [Hf0] <;> iassumption
  iintro %_ ⟨Hf1, Hc2, Hb0, Hs0, HO⟩
  iapply (wp_turn d L 4 3 b0V b1V h0 _ _ _ f₀ (W := W)) $$ [Hb0 Hc4 Hs0 Hf1 HO]
  · isplitr; · iexact Hmw
    isplitl [Hb0]; · iexact Hb0
    isplitl [Hc4]; · iexact Hc4
    isplitl [Hs0]; · iexact Hs0
    isplitl [Hf1] <;> iassumption
  iintro %_ ⟨Hf0, Hc3, Hb1, Hs1, HO⟩
  iapply (wp_turn d L 5 4 b1V b0V h1 _ _ _ f₀ (W := W)) $$ [Hb1 Hc5 Hs1 Hf0 HO]
  · isplitr; · iexact Hmw
    isplitl [Hb1]; · iexact Hb1
    isplitl [Hc5]; · iexact Hc5
    isplitl [Hs1]; · iexact Hs1
    isplitl [Hf0] <;> iassumption
  iintro %_ ⟨Hf1, Hc4, Hb0, Hs0, HO⟩
  iapply (wp_turn d L 6 5 b0V b1V h0 _ _ _ f₀ (W := W)) $$ [Hb0 Hc6 Hs0 Hf1 HO]
  · isplitr; · iexact Hmw
    isplitl [Hb0]; · iexact Hb0
    isplitl [Hc6]; · iexact Hc6
    isplitl [Hs0]; · iexact Hs0
    isplitl [Hf1] <;> iassumption
  iintro %_ ⟨Hf0, Hc5, Hb1, Hs1, HO⟩
  iapply (wp_turn d L 7 6 b1V b0V h1 _ _ _ f₀ (W := W)) $$ [Hb1 Hc7 Hs1 Hf0 HO]
  · isplitr; · iexact Hmw
    isplitl [Hb1]; · iexact Hb1
    isplitl [Hc7]; · iexact Hc7
    isplitl [Hs1]; · iexact Hs1
    isplitl [Hf0] <;> iassumption
  iintro %_ ⟨Hf1, Hc6, Hb0, Hs0, HO⟩
  iapply (wp_turn d L 8 7 b0V b1V h0 _ _ _ f₀ (W := W)) $$ [Hb0 Hc8 Hs0 Hf1 HO]
  · isplitr; · iexact Hmw
    isplitl [Hb0]; · iexact Hb0
    isplitl [Hc8]; · iexact Hc8
    isplitl [Hs0]; · iexact Hs0
    isplitl [Hf1] <;> iassumption
  iintro %_ ⟨Hf0, Hc7, Hb1, Hs1, HO⟩
  iapply (wp_turn d L 9 8 b1V b0V h1 _ _ _ f₀ (W := W)) $$ [Hb1 Hc9 Hs1 Hf0 HO]
  · isplitr; · iexact Hmw
    isplitl [Hb1]; · iexact Hb1
    isplitl [Hc9]; · iexact Hc9
    isplitl [Hs1]; · iexact Hs1
    isplitl [Hf0] <;> iassumption
  iintro %_ ⟨Hf1, Hc8, Hb0, Hs0, HO⟩
  iapply (wp_turn d L 10 9 b0V b1V h0 _ _ _ f₀ (W := W)) $$ [Hb0 Hc10 Hs0 Hf1 HO]
  · isplitr; · iexact Hmw
    isplitl [Hb0]; · iexact Hb0
    isplitl [Hc10]; · iexact Hc10
    isplitl [Hs0]; · iexact Hs0
    isplitl [Hf1] <;> iassumption
  iintro %_ ⟨Hf0, Hc9, Hb1, Hs1, HO⟩
  iapply (wp_turn d L 11 10 b1V b0V h1 _ _ _ f₀ (W := W)) $$ [Hb1 Hc11 Hs1 Hf0 HO]
  · isplitr; · iexact Hmw
    isplitl [Hb1]; · iexact Hb1
    isplitl [Hc11]; · iexact Hc11
    isplitl [Hs1]; · iexact Hs1
    isplitl [Hf0] <;> iassumption
  iintro %_ ⟨Hf1, Hc10, Hb0, Hs0, HO⟩
  iapply (wp_collect d L 11 b1V _ (W := W)) $$ [Hf1 HO]
  · isplitl [Hf1]; · iexact Hf1
    isplitr; · iexact Hmw
    iexact HO
  iintro ⟨Hc11, Hb1, Hs1, HO⟩
  rw [wp_ret]; imodintro
  isplitl [Hc0 Hc1 Hc2 Hc3 Hc4 Hc5 Hc6 Hc7 Hc8 Hc9 Hc10 Hc11]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    iexact Hc11
  isplitl [Hb0 Hb1 Hbufs]
  · isplitl [Hb0]; · iexact Hb0
    isplitl [Hb1] <;> iassumption
  isplitl [Hs0 Hs1 Hsems]
  · isplitl [Hs0]; · iexact Hs0
    isplitl [Hs1] <;> iassumption
  iexact HO

end Tile

end Cert.Proof.Tile

end
-- ==== Proof.Call.lean ====
/-
  The SparseCore call: its result by SparseCore, subcore and chunk, and its obligations at the launch.
-/
module

public import proofs.«01_k».proof.Proof.Tile

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The result, by SparseCore, subcore and chunk -/

omit [FloatOps F] in
theorem chunkOf_ne {p q : Fin 2 × Fin 16 × Fin 12} (h : p ≠ q) : chunkOf p.1 p.2.1 p.2.2 ≠ chunkOf q.1 q.2.1 q.2.2 := by
  obtain ⟨c, s, r⟩ := p
  obtain ⟨c', s', r'⟩ := q
  intro e
  have e' : 24 * s.val + 12 * c.val + r.val = 24 * s'.val + 12 * c'.val + r'.val := congrArg Fin.val e
  apply h
  rw [Prod.mk.injEq, Prod.mk.injEq]
  refine ⟨Fin.ext ?_, Fin.ext ?_, Fin.ext ?_⟩ <;> omega

omit [FloatOps F] in
theorem chunks_cover : (Finset.univ : Finset (Fin 2 × Fin 16 × Fin 12)).biUnion (fun p => cset (chunkOf p.1 p.2.1 p.2.2)) = Finset.univ := by
  apply Finset.eq_univ_of_forall
  intro j
  have hj : j ∈ (Finset.univ : Finset (Fin 384)).biUnion fun g => cset g := by rw [Rect.biUnion_part hdiv]; exact Finset.mem_univ j
  obtain ⟨g, -, hg⟩ := Finset.mem_biUnion.mp hj
  refine Finset.mem_biUnion.mpr ⟨(⟨g.val / 12 % 2, by omega⟩, ⟨g.val / 24, by omega⟩, ⟨g.val % 12, by omega⟩), Finset.mem_univ _, ?_⟩
  convert hg using 2
  apply Fin.ext
  show 24 * (g.val / 24) + 12 * (g.val / 12 % 2) + g.val % 12 = g.val
  omega

/-- What one subcore holds of the result, -/
abbrev subAt (d : Dev nD) (c : Fin 2) (s : Fin 16) (f : Buf (Elt F) (oLoc d)) : sProp 𝕄 :=
  bigSep Finset.univ fun r : Fin 12 => chunkAt d (chunkOf c s r) f

/-- what one SparseCore holds, -/
abbrev coreAt (d : Dev nD) (c : Fin 2) (f : Buf (Elt F) (oLoc d)) : sProp 𝕄 := bigSep Finset.univ fun s : Fin 16 => subAt d c s f

omit [FloatOps F] in
/-- and the whole of it. -/
theorem whole_eq (d : Dev nD) (f : Buf (Elt F) (oLoc d)) :
    (oLoc d ↦{fullShare} f : sProp 𝕄) = bigSep Finset.univ fun c : Fin 2 => coreAt d c f := by
  have h : (oLoc d ↦{fullShare} f : sProp 𝕄) = bigSep Finset.univ fun p : Fin 2 × Fin 16 × Fin 12 => chunkAt d (chunkOf p.1 p.2.1 p.2.2) f := by
    rw [← pointsTo_biUnion Finset.univ (ℓ := oLoc d) (fun p : Fin 2 × Fin 16 × Fin 12 => cset (chunkOf p.1 p.2.1 p.2.2))
      (fun p _ q _ h => Rect.part_disjoint hdiv (chunkOf_ne h)), chunks_cover]
  rw [h, bigSep_univ_prod]
  exact bigSep_congr fun c _ => bigSep_univ_prod _

/-! ## The call's obligations -/

omit [FloatOps F] in
theorem nCore_zero : (K (F := F)).nCore 0 = 2 := rfl
omit [FloatOps F] in
theorem nSub_zero : (K (F := F)).nSub 0 = 16 := rfl

/-- The call hands each SparseCore, and this each of its subcores, their chunks, and brings them back drawn. -/
def P : (K (F := F)).Pay (nD := nD) (Val := Elt F) (Name := ℕ) (U := UU) where
  st := fun q d c => match q with | 0 => coreAt d (Fin.cast nCore_zero c) (m (oLoc d))
  dn := fun q d c => match q with | 0 => coreAt d (Fin.cast nCore_zero c) (drawn d)
  go := fun q d c i => match q with | 0 => subAt d (Fin.cast nCore_zero c) (Fin.cast nSub_zero i) (m (oLoc d))
  td := fun q d c i => match q with | 0 => subAt d (Fin.cast nCore_zero c) (Fin.cast nSub_zero i) (drawn d)
  x := fun _ _ => iprop(emp)

instance P_storable : (P (F := F) m).IsStorable where
  st q d c := match q with
    | 0 => (inferInstance : BI.Storable (upEmb : UEmb _ 𝕄) (coreAt d (Fin.cast nCore_zero c) (m (oLoc d))))
  dn q d c := match q with
    | 0 => (inferInstance : BI.Storable (upEmb : UEmb _ 𝕄) (coreAt (F := F) d (Fin.cast nCore_zero c) (drawn d)))
  go q d c i := match q with
    | 0 => (inferInstance : BI.Storable (upEmb : UEmb _ 𝕄) (subAt d (Fin.cast nCore_zero c) (Fin.cast nSub_zero i) (m (oLoc d))))
  td q d c i := match q with
    | 0 => (inferInstance : BI.Storable (upEmb : UEmb _ 𝕄) (subAt (F := F) d (Fin.cast nCore_zero c) (Fin.cast nSub_zero i) (drawn d)))

/-- A subcore's place in the grid. -/
def place (c : Fin (grid1.bound 0)) (s : Fin (grid1.bound 1)) : grid1.Coords :=
  fun | 0 => c | 1 => s | ⟨_ + 2, h⟩ => absurd h (Nat.not_lt.2 (Nat.le_add_left _ _))

theorem defs₀_task (c : Fin τ.nSC) (s : Fin τ.nSub) :
    defs₀ (F := F) (.scVector c s) 1 ()
      = SparseCore.onTile hcore1 hsub1 (fun c s => cc1__sc_uniform_kernel (place c s) (Memref.whole main_v2_scv) (Memref.isWhole_whole _)
          (Memref.whole cc1_scratch0) (Memref.isWhole_whole _) (Memref.whole cc1_scratch1) (Memref.isWhole_whole _) cc1_scratch2 cc1_scratch3) ⟨⟩ c s := rfl

omit [FloatOps F] in
theorem owes_more {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  · iexact HO

theorem task : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have h : ((K (F := F)).core 0 c).val < grid1.bound 0 ∧ ((K (F := F)).sub 0 i).val < grid1.bound 1 := ⟨c.isLt, i.isLt⟩
  rw [defs₀_task]
  simp only [SparseCore.onTile, h, and_self, ↓reduceDIte]
  exact (tile_body d (place ⟨_, h.1⟩ ⟨_, h.2⟩) facts (m (oLoc d)) O W hO).trans (wp_mono frame _ _ fun _ => owes_more)

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem deal : (K (F := F)).VecSplit' (P m) 0 := by
  intro d c
  show coreAt d (Fin.cast nCore_zero c) (m (oLoc d)) ⊢ |={Set.univ}=> iprop(
      (bigSep Finset.univ fun i : Fin ((K (F := F)).nSub 0) => subAt d (Fin.cast nCore_zero c) (Fin.cast nSub_zero i) (m (oLoc d)))
      ∗ ((bigSep Finset.univ fun i : Fin ((K (F := F)).nSub 0) => subAt d (Fin.cast nCore_zero c) (Fin.cast nSub_zero i) (drawn d))
          -∗ coreAt d (Fin.cast nCore_zero c) (drawn d)))
  rw [bigSep_subs (F := F) fun i => subAt d (Fin.cast nCore_zero c) i (m (oLoc d)), bigSep_subs (F := F) fun i => subAt d (Fin.cast nCore_zero c) i (drawn d)]
  iintro H; imodintro
  isplitl [H]; · iexact H
  iintro H; iexact H

end Cert.Proof.Tile

end
-- ==== Proof.Region.lean ====
/-
  One TensorCore call of @main, whichever: from every unscoped buffer at some contents and the SparseCore call's debts to
  the same buffers with the call's arrays at what it leaves.
-/
module

public import proofs.«01_k».proof.Proof.Base
public import Idealize.ShloMosaic.Lib.Pipeline.RegionsLoop
public import Idealize.ShloMosaic.Lib.Pipeline.FrameSuffix
public import Idealize.ShloMosaic.Lib.Pipeline.FrameBody

@[expose] public section

noncomputable section

namespace Cert.Proof.Tile

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig (HIx 1) (Elt F) ℕ UU ℕ

/-- No call prefetches a table. -/
abbrev adm : (p : Fin 3) → (pcfgs (F := F) p).Adm := fun p => (cfgs p).toPCfg_adm

/-- Proof data of the three calls. -/
abbrev Dats (F : FTy → Type) [FloatOps F] : Type _ := (p : Fin 3) → (c : Dev nD) → Dat τ (Elt F) (HIx 1) ℕ UU ℕ (Pipeline.pin (pcfgs (F := F)) adm p) c

/-- Beside the buffers: the generator register at some state, and what the core owes with what it has waited for bounded. -/
def rest (O : Dev nD → CellTallies nD τ sig (HIx 1)) (B : Dev nD → Set (SemLoc sig × HIx 1)) (c : Dev nD) : sProp 𝕄 :=
  iprop((∃ r, prngReg c r) ∗ ∃ W, ⌜↑W ⊆ B c⌝ ∗ owes (c : Thread nD τ) (O c) W)

/-- What a call's proof data must be for its run from `V` to `V'`. -/
structure Runs (pdats : Dats F) (p : Fin 3) (O : Dev nD → CellTallies nD τ sig (HIx 1)) (B : Dev nD → Set (SemLoc sig × HIx 1))
    (V V' : Dev nD → Valuation τ sig (Elt F)) : Prop where
  body : ∀ c, BodyObligation (pdats p c) (defs₀ (F := F)) Variants.none (none : HIx 1) Set.univ
  inv : ∀ c t, (pdats p c).Φ t = keep (pcfgs (F := F) p).spec c
  share : ∀ c w, (pdats p c).q w = fullShare
  arr : ∀ c w, (pdats p c).A w = V c (Proc.devRef .tc (Pipeline.arrRef (pcfgs (F := F) p).spec w))
  owed : ∀ c t, (pdats p c).owed t = O c
  rec' : ∀ c t, (pdats p c).recorded t = B c
  lone : ∀ c g, O c g none = 0
  own : ∀ c (x : SemLoc sig × HIx 1), x.2 = none → x ∈ B c
  left : ∀ c w, V' c (Proc.devRef .tc (Pipeline.arrRef (pcfgs (F := F) p).spec w)) = (pdats p c).arrAt w (Pipeline.pin (pcfgs (F := F)) adm p).N
  kept : ∀ c b, b ∉ Finset.univ.image (Pipeline.arrRef (pcfgs (F := F) p).spec) → V' c (Proc.devRef .tc b) = V c (Proc.devRef .tc b)

set_option backward.isDefEq.respectTransparency.types false in
def region {pdats : Dats F} {p : Fin 3} {O B V V'} (hl : Pipeline.LaunchFacts (nD := nD) (τ := τ) cfgs p) (h : Runs pdats p O B V V') :
    Pipeline.RegionSeg (pcfgs (F := F)) adm pdats (none : HIx 1) (defs₀ (F := F)) Variants.none (K (F := F)).L (K (F := F)).lev p where
  win := hl.win.to₀
  block_pos := hl.block_pos
  stage_whole := hl.stage_whole
  K := PEmpty
  osem k := k.elim
  ho := Pipeline.OwnSemFacts.none _
  hbody c := (h.body c).loose
  hwaits c := Pipeline.cellsWaits_intro _ _ _ _ _ fun w s t => by
    rw [h.owed c t]; exact (K (F := F)).mayWait_none _ (h.lone c)
  pre c := iprop(StableHlo.held (c : Thread nD τ) (Pipeline.ucRefs τ sig) (V c) ∗ rest O B c)
  post c := iprop(StableHlo.held (c : Thread nD τ) (Pipeline.ucRefs τ sig) (V' c) ∗ rest O B c)
  X c := iprop(∃ r, prngReg c r)
  Y c := iprop(∃ r, prngReg c r)
  Z c := Pipeline.unscopedRest (Ix := HIx 1) (Name := ℕ) (U := UU) (Lvl := ℕ) (pcfgs (F := F) p).spec c (fun b => V c (Proc.devRef .tc b))
  hentry c := by
    rw [Pipeline.ownSems0_none]
    have hsplit := Pipeline.arrays_of_unscopedBufs (p := p) (pcfgs (F := F)) adm pdats hl.win hl.arr_whole c
      ((pdats p c).share_full (h.share c)) (fun b => V c (Proc.devRef .tc b)) (h.arr c)
    rw [Pipeline.unscopedBufs_held] at hsplit
    unfold rest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h.owed c, h.rec' c]
      icases HO with ⟨%W, %hW, HO⟩; iexists W; isplitr; · ipureintro; exact fun x hx => Or.inl (hW hx)
      iexact HO
    isplitl [Hp]; · iexact Hp
    iexact Hrest
  hin c := by
    rw [h.inv c]; unfold keep
    iintro ⟨Hp, -, Hr⟩
    isplitl [Hr]; · iexact Hr
    iexact Hp
  hout c := by
    rw [Pipeline.ownSems0_none, h.inv c]; unfold keep
    iintro ⟨Hr, Hp⟩
    isplitl [Hp]; · iexact Hp
    isplitr; · iempintro
    iexact Hr
  hexit c := by
    have hjoin := Pipeline.unscopedBufs_of_arrays (p := p) (pcfgs (F := F)) adm (Ix := HIx 1) (Name := ℕ) (U := UU) (Lvl := ℕ)
      hl.win hl.arr_whole c pdats ((pdats p c).share_full (h.share c))
      (fun b => V c (Proc.devRef .tc b)) (fun b => V' c (Proc.devRef .tc b)) ((pdats p c).arrAt · (Pipeline.pin (pcfgs (F := F)) adm p).N)
      (fun w => (h.left c w).symm) (h.kept c)
    rw [Pipeline.unscopedBufs_held] at hjoin
    iintro ⟨Ha, HO, HY, Hrest⟩
    imodintro
    isplitl [Ha Hrest]
    · iapply hjoin; isplitl [Ha] <;> iassumption
    unfold rest
    isplitl [HY]; · iexact HY
    unfold Pipeline.Dat.owesAt Pipeline.owesWithin Pipeline.Dat.bound
    rw [h.owed c, h.rec' c]
    icases HO with ⟨%W, %hW, HO⟩; iexists W; isplitr
    · ipureintro
      intro x hx
      rcases hW hx with hb | ⟨w, s, rfl⟩
      · exact hb
      · exact h.own c _ rfl
    iexact HO

omit [FloatOps F] in
theorem wand_fupd (A X Q : sProp 𝕄) : iprop((A -∗ Q) ∗ X) ⊢ iprop((A -∗ |={Set.univ}=> Q) ∗ X) := by
  iintro ⟨Hk, HX⟩
  isplitl [Hk]
  · iintro HA
    imodintro
    iapply Hk; iexact HA
  iexact HX

/-- The call's run, in the whole program's signature. -/
theorem region_runs [∀ e, Nonempty (Elt F e)] {pdats : Dats F} {p : Fin 3} {O B V V'} (hl : Pipeline.LaunchFacts (nD := nD) (τ := τ) cfgs p)
    (h : Runs pdats p O B V V') (c : Dev nD) (Q : PUnit → sProp 𝕄) :
    iprop((boundary (c : Thread nD τ) ∗ StableHlo.held (c : Thread nD τ) (Pipeline.ucRefs τ sig) (V' c) ∗ rest O B c -∗ Q ⟨⟩)
        ∗ boundary (c : Thread nD τ) ∗ (StableHlo.held (c : Thread nD τ) (Pipeline.ucRefs τ sig) (V c) ∗ rest O B c)
        ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs (D (F := F))) 𝒱 (c : Thread nD τ) none) Set.univ (Prog.lift (.customCall (SparseCore.inner (Pipeline.entry p)) ())) Q := by
  have hr := (Pipeline.RegionSeg.wp (pcfgs (F := F)) adm pdats (none : HIx 1) cellOf_inj EP (defs₀ (F := F)) Variants.none (K (F := F)).L (K (F := F)).lev
    (region hl h) c none (fun u hu => nomatch hu) (fun x => .ret x) Q)
  refine BI.Entails.trans ?_ ((K (F := F)).wp_liftProg (D (F := F)) 𝒱 (c : Thread nD τ) Set.univ none (Prog.lift (.customCall (Pipeline.entry p) ())) Q)
  refine BI.Entails.trans ?_ hr
  simp only [wp_ret]
  exact wand_fupd _ _ _

end Cert.Proof.Tile

end
-- ==== Proof.Levels.lean ====
/-
  The call that draws the levels and looks up their two tables: what its body stores, found by running it, and its proof data.
-/
module

public import proofs.«01_k».proof.Proof.Base
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.WordCmp

@[expose] public section

set_option maxRecDepth 16384

noncomputable section

namespace Cert.Proof.Tile

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))
variable (O : Dev nD → CellTallies nD τ sig (HIx 1)) (B : Dev nD → Set (SemLoc sig × HIx 1))

/-- The block of array `w` that step `t` of the grid sees, read from the arrays' contents at the call. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block of the array at every step, whatever the proof data are that leave it unchanged. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 holds its block of the array at every step, whatever the proof data are that leave it unchanged. -/
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of output window 2, as a view. -/
abbrev VO0_2 : View sig .tc .vmem S32x128 .f32 := (Memref.whole cc0_stg2_0 : Memref sig .tc .vmem S32x128 .f32).view
/-- The staging buffer of output window 3, as a view. -/
abbrev VO0_3 : View sig .tc .vmem S32x128 .f32 := (Memref.whole cc0_stg3_0 : Memref sig .tc .vmem S32x128 .f32).view
/-- The buffer of window 0 that step `t` uses. -/
abbrev ms0_0 (t : Fin cfg0.N) : Memref sig .tc .smem S50 .f32 := win0_0.stage (cfg0.slots t 0)
/-- It is a whole buffer. -/
abbrev hs0_0 (t : Fin cfg0.N) : (ms0_0 t).IsWhole := hstage0_0 0
/-- The buffer of window 1 that step `t` uses. -/
abbrev ms0_1 (t : Fin cfg0.N) : Memref sig .tc .smem S50 .f32 := win0_1.stage (cfg0.slots t 1)
/-- It is a whole buffer. -/
abbrev hs0_1 (t : Fin cfg0.N) : (ms0_1 t).IsWhole := hstage0_1 0
/-- The buffer of window 2 that step `t` uses. -/
abbrev ms0_2 (t : Fin cfg0.N) : Memref sig .tc .vmem S32x128 .f32 := win0_2.stage (cfg0.slots t 2)
/-- It is a whole buffer. -/
abbrev hs0_2 (t : Fin cfg0.N) : (ms0_2 t).IsWhole := hstage0_2 0
/-- The buffer of window 3 that step `t` uses. -/
abbrev ms0_3 (t : Fin cfg0.N) : Memref sig .tc .vmem S32x128 .f32 := win0_3.stage (cfg0.slots t 3)
/-- It is a whole buffer. -/
abbrev hs0_3 (t : Fin cfg0.N) : (ms0_3 t).IsWhole := hstage0_3 0

set_option maxHeartbeats 1000000 in
/-- The body run once on whole buffers that hold the given inputs: the pieces that it stores into each output and scratch buffer, with the proof that it ends there and leaves its inputs alone. -/
noncomputable def kernelRun0_A (c : Dev nD) (arg0 : Memref sig .tc .smem S50 .f32) (harg0 : arg0.IsWhole) (arg1 : Memref sig .tc .smem S50 .f32) (harg1 : arg1.IsWhole) (arg2 : Memref sig .tc .vmem S32x128 .f32) (harg2 : arg2.IsWhole) (arg3 : Memref sig .tc .vmem S32x128 .f32) (harg3 : arg3.IsWhole)
    (x0 : Vec F S50 .f32) (x1 : Vec F S50 .f32) :
    Σ' (L2 : List (View.Piece (Elt F) S32x128 .f32)), { L3 : List (View.Piece (Elt F) S32x128 .f32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3)) -∗ K ⟨⟩))
          ⊢ wp frame (wpE (defs₀ (F := F)) Variants.none c none) E (cc0__levels_kernel arg0 harg0 arg1 harg1 arg2 harg2 arg3 harg3) K } := by
  refine ⟨?_, ?_, fun E K => ?run⟩
  case run =>
    simp only [cc0__levels_kernel_eq_skeleton]; unfold cc0__levels_kernel_skel
    simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%d2, %f2, -, H2⟩, ⟨%d3, %f3, -, H3⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]; · iexists _; iexact H2
    iexists _; iexact H3

/-- The pieces stored into output 2 leave no element of it out. -/
theorem cover0_A_2 (c : Dev nD) (arg0 : Memref sig .tc .smem S50 .f32) (harg0 : arg0.IsWhole) (arg1 : Memref sig .tc .smem S50 .f32) (harg1 : arg1.IsWhole) (arg2 : Memref sig .tc .vmem S32x128 .f32) (harg2 : arg2.IsWhole) (arg3 : Memref sig .tc .vmem S32x128 .f32) (harg3 : arg3.IsWhole)
    (x0 : Vec F S50 .f32) (x1 : Vec F S50 .f32) (y : S32x128.Idx) :
    ∃ pc ∈ (kernelRun0_A c arg0 harg0 arg1 harg1 arg2 harg2 arg3 harg3 x0 x1).1, y ∈ pc.1.set :=
  View.cover_of_tiledL (kernelRun0_A c arg0 harg0 arg1 harg1 arg2 harg2 arg3 harg3 x0 x1).1 S32x128.size (by sl_kernel_rfl) y

/-- What output 2 holds after the body, as a function of the inputs. -/
def out0_A_2 (c : Dev nD) (arg0 : Memref sig .tc .smem S50 .f32) (harg0 : arg0.IsWhole) (arg1 : Memref sig .tc .smem S50 .f32) (harg1 : arg1.IsWhole) (arg2 : Memref sig .tc .vmem S32x128 .f32) (harg2 : arg2.IsWhole) (arg3 : Memref sig .tc .vmem S32x128 .f32) (harg3 : arg3.IsWhole)
    (x0 : Vec F S50 .f32) (x1 : Vec F S50 .f32) : Vec F S32x128 .f32 :=
  VO0_2.read (Elt F) (VO0_2.writes (Elt F) VO0_2.junk (kernelRun0_A c arg0 harg0 arg1 harg1 arg2 harg2 arg3 harg3 x0 x1).1)

/-- The pieces stored into output 3 leave no element of it out. -/
theorem cover0_A_3 (c : Dev nD) (arg0 : Memref sig .tc .smem S50 .f32) (harg0 : arg0.IsWhole) (arg1 : Memref sig .tc .smem S50 .f32) (harg1 : arg1.IsWhole) (arg2 : Memref sig .tc .vmem S32x128 .f32) (harg2 : arg2.IsWhole) (arg3 : Memref sig .tc .vmem S32x128 .f32) (harg3 : arg3.IsWhole)
    (x0 : Vec F S50 .f32) (x1 : Vec F S50 .f32) (y : S32x128.Idx) :
    ∃ pc ∈ (kernelRun0_A c arg0 harg0 arg1 harg1 arg2 harg2 arg3 harg3 x0 x1).2.1, y ∈ pc.1.set :=
  View.cover_of_tiledL (kernelRun0_A c arg0 harg0 arg1 harg1 arg2 harg2 arg3 harg3 x0 x1).2.1 S32x128.size (by sl_kernel_rfl) y

/-- What output 3 holds after the body, as a function of the inputs. -/
def out0_A_3 (c : Dev nD) (arg0 : Memref sig .tc .smem S50 .f32) (harg0 : arg0.IsWhole) (arg1 : Memref sig .tc .smem S50 .f32) (harg1 : arg1.IsWhole) (arg2 : Memref sig .tc .vmem S32x128 .f32) (harg2 : arg2.IsWhole) (arg3 : Memref sig .tc .vmem S32x128 .f32) (harg3 : arg3.IsWhole)
    (x0 : Vec F S50 .f32) (x1 : Vec F S50 .f32) : Vec F S32x128 .f32 :=
  VO0_3.read (Elt F) (VO0_3.writes (Elt F) VO0_3.junk (kernelRun0_A c arg0 harg0 arg1 harg1 arg2 harg2 arg3 harg3 x0 x1).2.1)

/-- The outputs' contents after step `t`. -/
def outsAt0 (c : Dev nD) (t : Fin cfg0.N) : Vec F S32x128 .f32 × Vec F S32x128 .f32 :=
  (out0_A_2 c (ms0_0 t) (hs0_0 t) (ms0_1 t) (hs0_1 t) (ms0_2 t) (hs0_2 t) (ms0_3 t) (hs0_3 t) (iblk0 V c 0 t) (iblk0 V c 1 t), out0_A_3 c (ms0_0 t) (hs0_0 t) (ms0_1 t) (hs0_1 t) (ms0_2 t) (hs0_2 t) (ms0_3 t) (hs0_3 t) (iblk0 V c 0 t) (iblk0 V c 1 t))

/-- The proof data of the call: the arrays at entry, what each window holds after a step, what is kept and owed. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2
  Φ _ := keep spec0 c
  q _ := fullShare
  owed _ := O c
  recorded _ := B c

/-- The arrays that the data start from. -/
theorem A_eq0 (c : Dev nD) (w : Fin cfg0.W) : (dat0 V O B c).A w = V c (Pipeline.arrRef spec0 w) := by
  dsimp only [dat0]

/-- Window 0 after step `t`. -/
theorem after0_0 (c : Dev nD) (t : Fin cfg0.N) : (dat0 V O B c).after 0 t = iblk0 V c 0 t := by dsimp only [dat0]
/-- Window 1 after step `t`. -/
theorem after0_1 (c : Dev nD) (t : Fin cfg0.N) : (dat0 V O B c).after 1 t = iblk0 V c 1 t := by dsimp only [dat0]
/-- Window 2 after step `t`. -/
theorem after0_2 (c : Dev nD) (t : Fin cfg0.N) : (dat0 V O B c).after 2 t = (outsAt0 V c t).1 := by dsimp only [dat0]
/-- Window 3 after step `t`. -/
theorem after0_3 (c : Dev nD) (t : Fin cfg0.N) : (dat0 V O B c).after 3 t = (outsAt0 V c t).2 := by dsimp only [dat0]

/-- Input window 0 before step `t` holds its block. -/
theorem before0_0 (c : Dev nD) (t : Fin cfg0.N) (d) : (dat0 V O B c).before 0 t d = iblk0 V c 0 t :=
  before0_0_of V (dat0 V O B c) (A_eq0 V O B c 0) (after0_0 V O B c) t d
/-- Input window 1 before step `t` holds its block. -/
theorem before0_1 (c : Dev nD) (t : Fin cfg0.N) (d) : (dat0 V O B c).before 1 t d = iblk0 V c 1 t :=
  before0_1_of V (dat0 V O B c) (A_eq0 V O B c 1) (after0_1 V O B c) t d

/-- What the body is given at step `t`. -/
def bodyPre0 (c : Dev nD) (t : Fin cfg0.N) : sProp 𝕄 :=
  iprop((dat0 V O B c).Φ t.castSucc ∗ (dat0 V O B c).owesAt (none : HIx 1) t.castSucc
    ∗ (∃ d, owns (c : Thread nD τ) (ms0_0 t) fullShare ((dat0 V O B c).before 0 t d))
    ∗ (∃ d, owns (c : Thread nD τ) (ms0_1 t) fullShare ((dat0 V O B c).before 1 t d))
    ∗ (∃ d, owns (c : Thread nD τ) (ms0_2 t) fullShare ((dat0 V O B c).before 2 t d))
    ∗ (∃ d, owns (c : Thread nD τ) (ms0_3 t) fullShare ((dat0 V O B c).before 3 t d)))

/-- What the body leaves at step `t`. -/
def bodyPost0 (c : Dev nD) (t : Fin cfg0.N) : sProp 𝕄 :=
  iprop((dat0 V O B c).Φ t.succ ∗ (dat0 V O B c).owesAt (none : HIx 1) t.succ
    ∗ owns (c : Thread nD τ) (ms0_0 t) fullShare ((dat0 V O B c).after 0 t)
    ∗ owns (c : Thread nD τ) (ms0_1 t) fullShare ((dat0 V O B c).after 1 t)
    ∗ owns (c : Thread nD τ) (ms0_2 t) fullShare ((dat0 V O B c).after 2 t)
    ∗ owns (c : Thread nD τ) (ms0_3 t) fullShare ((dat0 V O B c).after 3 t))

/-- The body takes the one to the other at every step. -/
theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1]
  rw [show (dat0 V O B c).Φ t.succ = (dat0 V O B c).Φ t.castSucc from rfl,
    show (dat0 V O B c).owesAt (none : HIx 1) t.succ = (dat0 V O B c).owesAt (none : HIx 1) t.castSucc from rfl,
    after0_0, after0_1, after0_2, after0_3]
  unfold outsAt0
  unfold out0_A_2 out0_A_3; (try dsimp only)
  iintro ⟨HΦ, Ho, ⟨%d0, H0⟩, ⟨%d1, H1⟩, ⟨%d2, H2⟩, ⟨%d3, H3⟩⟩
  iapply ((kernelRun0_A c _ _ _ _ _ _ _ _ (iblk0 V c 0 t) (iblk0 V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _)
  unfold owns; iexists _; isplitr
  swap; · iexact H3
  ipureintro; exact View.read_writes_of_cover _ _ _ _ _ (cover0_A_3 c _ _ _ _ _ _ _ _ _ _)

/-- The program's body at step `t` is the one that was run. -/
theorem defs₀_row0 (t : Fin cfg0.N) :
    defs₀ (F := F) .tc cfg0.body (cfg0.bodyArgs t (cfg0.slots t)) = bodyAt0 t := rfl

/-- The body's obligation of the pipelined call. -/
theorem body_obligation0 (c : Dev nD) : BodyObligation (dat0 (F := F) V O B c) (defs₀ (F := F)) Variants.none (none : HIx 1) Set.univ := fun t => by
  rw [bigSep_W0, bigSep_W0, defs₀_row0]
  exact triple_restated (sound_body0 V O B c t) rfl .rfl fun _ => .rfl
end Cert.Proof.Tile

end
-- ==== Proof.Full.lean ====
/-
  The call that makes the positions of every atom and the types of those it draws itself: what its body stores, found by running it at a symbolic point, and its proof data.
-/
module

public import proofs.«01_k».proof.Proof.Base
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.WordCmp

@[expose] public section

set_option maxRecDepth 16384

noncomputable section

namespace Cert.Proof.Tile

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))
variable (O : Dev nD → CellTallies nD τ sig (HIx 1)) (B : Dev nD → Set (SemLoc sig × HIx 1))

/-- The block of array `w` that step `t` of the grid sees, read from the arrays' contents at the call. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block of the array at every step, whatever the proof data are that leave it unchanged. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 holds its block of the array at every step, whatever the proof data are that leave it unchanged. -/
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 holds its block of the array at every step, whatever the proof data are that leave it unchanged. -/
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 holds its block of the array at every step, whatever the proof data are that leave it unchanged. -/
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 holds its block of the array at every step, whatever the proof data are that leave it unchanged. -/
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of output window 5, as a view. -/
abbrev VO2_5 : View sig .tc .vmem S3x4096 .f32 := (Memref.whole cc2_stg5_0 : Memref sig .tc .vmem S3x4096 .f32).view
/-- The staging buffer of output window 6, as a view. -/
abbrev VO2_6 : View sig .tc .vmem S1x1x4096 .i32 := (Memref.whole cc2_stg6_0 : Memref sig .tc .vmem S1x1x4096 .i32).view
/-- The buffer of window 0 that step `t` uses. -/
abbrev ms2_0 (t : Fin cfg2.N) : Memref sig .tc .vmem S100x4096 .f32 := win2_0.stage (cfg2.slots t 0)
/-- It is a whole buffer. -/
abbrev hs2_0 (t : Fin cfg2.N) : (ms2_0 t).IsWhole := hstage2_0 ((cfg2.slots t 0).cast nbuf2_0)
/-- The buffer of window 1 that step `t` uses. -/
abbrev ms2_1 (t : Fin cfg2.N) : Memref sig .tc .vmem S1x1x4096 .i32 := win2_1.stage (cfg2.slots t 1)
/-- It is a whole buffer. -/
abbrev hs2_1 (t : Fin cfg2.N) : (ms2_1 t).IsWhole := hstage2_1 ((cfg2.slots t 1).cast nbuf2_1)
/-- The buffer of window 2 that step `t` uses. -/
abbrev ms2_2 (t : Fin cfg2.N) : Memref sig .tc .vmem S3x4096 .f32 := win2_2.stage (cfg2.slots t 2)
/-- It is a whole buffer. -/
abbrev hs2_2 (t : Fin cfg2.N) : (ms2_2 t).IsWhole := hstage2_2 ((cfg2.slots t 2).cast nbuf2_2)
/-- The buffer of window 3 that step `t` uses. -/
abbrev ms2_3 (t : Fin cfg2.N) : Memref sig .tc .smem S4096 .f32 := win2_3.stage (cfg2.slots t 3)
/-- It is a whole buffer. -/
abbrev hs2_3 (t : Fin cfg2.N) : (ms2_3 t).IsWhole := hstage2_3 ((cfg2.slots t 3).cast nbuf2_3)
/-- The buffer of window 4 that step `t` uses. -/
abbrev ms2_4 (t : Fin cfg2.N) : Memref sig .tc .smem S4096 .f32 := win2_4.stage (cfg2.slots t 4)
/-- It is a whole buffer. -/
abbrev hs2_4 (t : Fin cfg2.N) : (ms2_4 t).IsWhole := hstage2_4 ((cfg2.slots t 4).cast nbuf2_4)
/-- The buffer of window 5 that step `t` uses. -/
abbrev ms2_5 (t : Fin cfg2.N) : Memref sig .tc .vmem S3x4096 .f32 := win2_5.stage (cfg2.slots t 5)
/-- It is a whole buffer. -/
abbrev hs2_5 (t : Fin cfg2.N) : (ms2_5 t).IsWhole := hstage2_5 ((cfg2.slots t 5).cast nbuf2_5)
/-- The buffer of window 6 that step `t` uses. -/
abbrev ms2_6 (t : Fin cfg2.N) : Memref sig .tc .vmem S1x1x4096 .i32 := win2_6.stage (cfg2.slots t 6)
/-- It is a whole buffer. -/
abbrev hs2_6 (t : Fin cfg2.N) : (ms2_6 t).IsWhole := hstage2_6 ((cfg2.slots t 6).cast nbuf2_6)
/-- The scratch buffer 0 of the body. -/
abbrev scM2_0 : Memref sig .tc .vmem S1x4096 .f32 := Memref.whole cc2_scratch0
/-- The scratch buffer 1 of the body. -/
abbrev scM2_1 : Memref sig .tc .vmem S1x4096 .f32 := Memref.whole cc2_scratch1

/-- What the call keeps from step to step: its scratch buffers, whatever they hold, and the rest. -/
theorem PhiA2_eq (c : Dev nD) :
    (keep spec2 c : sProp 𝕄)
      = iprop((∃ d, owns (c : Thread nD τ) scM2_0 fullShare d) ∗ (∃ d, owns (c : Thread nD τ) scM2_1 fullShare d) ∗ keepBut spec2 {cc2_scratch0, cc2_scratch1} c) := by
  rw [keep_split spec2 c (by decide : cc2_scratch0 ≠ cc2_scratch1) (by decide) (by decide)]
  simp only [scM2_0, scM2_1, owns_whole]
  rfl

set_option maxHeartbeats 6672000 in
/-- The body run once on whole buffers that hold the given inputs: the pieces that it stores into each output and scratch buffer, with the proof that it ends there and leaves its inputs alone. -/
noncomputable def kernelRun2_A (c : Dev nD) (i : grid2.Coords) (arg1 : Memref sig .tc .vmem S100x4096 .f32) (harg1 : arg1.IsWhole) (arg2 : Memref sig .tc .vmem S1x1x4096 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S3x4096 .f32) (harg6 : arg6.IsWhole) (arg7 : Memref sig .tc .vmem S1x1x4096 .i32) (harg7 : arg7.IsWhole) (arg8 : Memref sig .tc .vmem S1x4096 .f32) (harg8 : arg8.IsWhole) (arg9 : Memref sig .tc .vmem S1x4096 .f32) (harg9 : arg9.IsWhole)
    (x0 : Vec F S100x4096 .f32) (x1 : Vec F S1x1x4096 .i32) (x2 : Vec F S3x4096 .f32) (x3 : Vec F S4096 .f32) (x4 : Vec F S4096 .f32) :
    Σ' (L5 : List (View.Piece (Elt F) S3x4096 .f32)), Σ' (L6 : List (View.Piece (Elt F) S1x1x4096 .i32)), Σ' (LT0 : List (View.Piece (Elt F) S1x4096 .f32)), { LT1 : List (View.Piece (Elt F) S1x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1)) -∗ K ⟨⟩))
          ⊢ wp frame (wpE (defs₀ (F := F)) Variants.none c none) E (cc2__tc_full_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc2__tc_full_body_eq_skeleton]; unfold cc2__tc_full_body_skel
    simp only [k2_part58_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton, k2_part46_eq_skeleton, k2_part47_eq_skeleton, k2_part48_eq_skeleton, k2_part49_eq_skeleton, k2_part50_eq_skeleton, k2_part51_eq_skeleton, k2_part52_eq_skeleton, k2_part53_eq_skeleton, k2_part54_eq_skeleton, k2_part55_eq_skeleton, k2_part56_eq_skeleton, k2_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

/-- The pieces stored into output 5 leave no element of it out. -/
theorem cover2_A_5 (c : Dev nD) (i : grid2.Coords) (arg1 : Memref sig .tc .vmem S100x4096 .f32) (harg1 : arg1.IsWhole) (arg2 : Memref sig .tc .vmem S1x1x4096 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S3x4096 .f32) (harg6 : arg6.IsWhole) (arg7 : Memref sig .tc .vmem S1x1x4096 .i32) (harg7 : arg7.IsWhole) (arg8 : Memref sig .tc .vmem S1x4096 .f32) (harg8 : arg8.IsWhole) (arg9 : Memref sig .tc .vmem S1x4096 .f32) (harg9 : arg9.IsWhole)
    (x0 : Vec F S100x4096 .f32) (x1 : Vec F S1x1x4096 .i32) (x2 : Vec F S3x4096 .f32) (x3 : Vec F S4096 .f32) (x4 : Vec F S4096 .f32) (y : S3x4096.Idx) :
    ∃ pc ∈ (kernelRun2_A c i arg1 harg1 arg2 harg2 arg3 harg3 arg4 harg4 arg5 harg5 arg6 harg6 arg7 harg7 arg8 harg8 arg9 harg9 x0 x1 x2 x3 x4).1, y ∈ pc.1.set :=
  View.cover_of_tiledL (kernelRun2_A c i arg1 harg1 arg2 harg2 arg3 harg3 arg4 harg4 arg5 harg5 arg6 harg6 arg7 harg7 arg8 harg8 arg9 harg9 x0 x1 x2 x3 x4).1 S3x4096.size (by sl_kernel_rfl) y

/-- What output 5 holds after the body, as a function of the inputs. -/
def out2_A_5 (c : Dev nD) (i : grid2.Coords) (arg1 : Memref sig .tc .vmem S100x4096 .f32) (harg1 : arg1.IsWhole) (arg2 : Memref sig .tc .vmem S1x1x4096 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S3x4096 .f32) (harg6 : arg6.IsWhole) (arg7 : Memref sig .tc .vmem S1x1x4096 .i32) (harg7 : arg7.IsWhole) (arg8 : Memref sig .tc .vmem S1x4096 .f32) (harg8 : arg8.IsWhole) (arg9 : Memref sig .tc .vmem S1x4096 .f32) (harg9 : arg9.IsWhole)
    (x0 : Vec F S100x4096 .f32) (x1 : Vec F S1x1x4096 .i32) (x2 : Vec F S3x4096 .f32) (x3 : Vec F S4096 .f32) (x4 : Vec F S4096 .f32) : Vec F S3x4096 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 x0 x1 x2 x3 x4).1)

/-- The pieces stored into output 6 leave no element of it out. -/
theorem cover2_A_6 (c : Dev nD) (i : grid2.Coords) (arg1 : Memref sig .tc .vmem S100x4096 .f32) (harg1 : arg1.IsWhole) (arg2 : Memref sig .tc .vmem S1x1x4096 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S3x4096 .f32) (harg6 : arg6.IsWhole) (arg7 : Memref sig .tc .vmem S1x1x4096 .i32) (harg7 : arg7.IsWhole) (arg8 : Memref sig .tc .vmem S1x4096 .f32) (harg8 : arg8.IsWhole) (arg9 : Memref sig .tc .vmem S1x4096 .f32) (harg9 : arg9.IsWhole)
    (x0 : Vec F S100x4096 .f32) (x1 : Vec F S1x1x4096 .i32) (x2 : Vec F S3x4096 .f32) (x3 : Vec F S4096 .f32) (x4 : Vec F S4096 .f32) (y : S1x1x4096.Idx) :
    ∃ pc ∈ (kernelRun2_A c i arg1 harg1 arg2 harg2 arg3 harg3 arg4 harg4 arg5 harg5 arg6 harg6 arg7 harg7 arg8 harg8 arg9 harg9 x0 x1 x2 x3 x4).2.1, y ∈ pc.1.set :=
  View.cover_of_tiledL (kernelRun2_A c i arg1 harg1 arg2 harg2 arg3 harg3 arg4 harg4 arg5 harg5 arg6 harg6 arg7 harg7 arg8 harg8 arg9 harg9 x0 x1 x2 x3 x4).2.1 S1x1x4096.size (by sl_kernel_rfl) y

/-- What output 6 holds after the body, as a function of the inputs. -/
def out2_A_6 (c : Dev nD) (i : grid2.Coords) (arg1 : Memref sig .tc .vmem S100x4096 .f32) (harg1 : arg1.IsWhole) (arg2 : Memref sig .tc .vmem S1x1x4096 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S3x4096 .f32) (harg6 : arg6.IsWhole) (arg7 : Memref sig .tc .vmem S1x1x4096 .i32) (harg7 : arg7.IsWhole) (arg8 : Memref sig .tc .vmem S1x4096 .f32) (harg8 : arg8.IsWhole) (arg9 : Memref sig .tc .vmem S1x4096 .f32) (harg9 : arg9.IsWhole)
    (x0 : Vec F S100x4096 .f32) (x1 : Vec F S1x1x4096 .i32) (x2 : Vec F S3x4096 .f32) (x3 : Vec F S4096 .f32) (x4 : Vec F S4096 .f32) : Vec F S1x1x4096 .i32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 x0 x1 x2 x3 x4).2.1)

/-- The outputs' contents after step `t`. -/
def outsAt2 (c : Dev nD) (t : Fin cfg2.N) : Vec F S3x4096 .f32 × Vec F S1x1x4096 .i32 :=
  (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (iblk2 V c 0 t) (iblk2 V c 1 t) (iblk2 V c 2 t) (iblk2 V c 3 t) (iblk2 V c 4 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (iblk2 V c 0 t) (iblk2 V c 1 t) (iblk2 V c 2 t) (iblk2 V c 3 t) (iblk2 V c 4 t))

/-- The proof data of the call: the arrays at entry, what each window holds after a step, what is kept and owed. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t).1
    | ⟨6, _⟩ => (outsAt2 V c t).2
  Φ _ := keep spec2 c
  q _ := fullShare
  owed _ := O c
  recorded _ := B c

/-- The arrays that the data start from. -/
theorem A_eq2 (c : Dev nD) (w : Fin cfg2.W) : (dat2 V O B c).A w = V c (Pipeline.arrRef spec2 w) := by
  dsimp only [dat2]

/-- Window 0 after step `t`. -/
theorem after2_0 (c : Dev nD) (t : Fin cfg2.N) : (dat2 V O B c).after 0 t = iblk2 V c 0 t := by dsimp only [dat2]
/-- Window 1 after step `t`. -/
theorem after2_1 (c : Dev nD) (t : Fin cfg2.N) : (dat2 V O B c).after 1 t = iblk2 V c 1 t := by dsimp only [dat2]
/-- Window 2 after step `t`. -/
theorem after2_2 (c : Dev nD) (t : Fin cfg2.N) : (dat2 V O B c).after 2 t = iblk2 V c 2 t := by dsimp only [dat2]
/-- Window 3 after step `t`. -/
theorem after2_3 (c : Dev nD) (t : Fin cfg2.N) : (dat2 V O B c).after 3 t = iblk2 V c 3 t := by dsimp only [dat2]
/-- Window 4 after step `t`. -/
theorem after2_4 (c : Dev nD) (t : Fin cfg2.N) : (dat2 V O B c).after 4 t = iblk2 V c 4 t := by dsimp only [dat2]
/-- Window 5 after step `t`. -/
theorem after2_5 (c : Dev nD) (t : Fin cfg2.N) : (dat2 V O B c).after 5 t = (outsAt2 V c t).1 := by dsimp only [dat2]
/-- Window 6 after step `t`. -/
theorem after2_6 (c : Dev nD) (t : Fin cfg2.N) : (dat2 V O B c).after 6 t = (outsAt2 V c t).2 := by dsimp only [dat2]

/-- Input window 0 before step `t` holds its block. -/
theorem before2_0 (c : Dev nD) (t : Fin cfg2.N) (d) : (dat2 V O B c).before 0 t d = iblk2 V c 0 t :=
  before2_0_of V (dat2 V O B c) (A_eq2 V O B c 0) (after2_0 V O B c) t d
/-- Input window 1 before step `t` holds its block. -/
theorem before2_1 (c : Dev nD) (t : Fin cfg2.N) (d) : (dat2 V O B c).before 1 t d = iblk2 V c 1 t :=
  before2_1_of V (dat2 V O B c) (A_eq2 V O B c 1) (after2_1 V O B c) t d
/-- Input window 2 before step `t` holds its block. -/
theorem before2_2 (c : Dev nD) (t : Fin cfg2.N) (d) : (dat2 V O B c).before 2 t d = iblk2 V c 2 t :=
  before2_2_of V (dat2 V O B c) (A_eq2 V O B c 2) (after2_2 V O B c) t d
/-- Input window 3 before step `t` holds its block. -/
theorem before2_3 (c : Dev nD) (t : Fin cfg2.N) (d) : (dat2 V O B c).before 3 t d = iblk2 V c 3 t :=
  before2_3_of V (dat2 V O B c) (A_eq2 V O B c 3) (after2_3 V O B c) t d
/-- Input window 4 before step `t` holds its block. -/
theorem before2_4 (c : Dev nD) (t : Fin cfg2.N) (d) : (dat2 V O B c).before 4 t d = iblk2 V c 4 t :=
  before2_4_of V (dat2 V O B c) (A_eq2 V O B c 4) (after2_4 V O B c) t d

/-- What the body is given at step `t`. -/
def bodyPre2 (c : Dev nD) (t : Fin cfg2.N) : sProp 𝕄 :=
  iprop((dat2 V O B c).Φ t.castSucc ∗ (dat2 V O B c).owesAt (none : HIx 1) t.castSucc
    ∗ (∃ d, owns (c : Thread nD τ) (ms2_0 t) fullShare ((dat2 V O B c).before 0 t d))
    ∗ (∃ d, owns (c : Thread nD τ) (ms2_1 t) fullShare ((dat2 V O B c).before 1 t d))
    ∗ (∃ d, owns (c : Thread nD τ) (ms2_2 t) fullShare ((dat2 V O B c).before 2 t d))
    ∗ (∃ d, owns (c : Thread nD τ) (ms2_3 t) fullShare ((dat2 V O B c).before 3 t d))
    ∗ (∃ d, owns (c : Thread nD τ) (ms2_4 t) fullShare ((dat2 V O B c).before 4 t d))
    ∗ (∃ d, owns (c : Thread nD τ) (ms2_5 t) fullShare ((dat2 V O B c).before 5 t d))
    ∗ (∃ d, owns (c : Thread nD τ) (ms2_6 t) fullShare ((dat2 V O B c).before 6 t d)))

/-- What the body leaves at step `t`. -/
def bodyPost2 (c : Dev nD) (t : Fin cfg2.N) : sProp 𝕄 :=
  iprop((dat2 V O B c).Φ t.succ ∗ (dat2 V O B c).owesAt (none : HIx 1) t.succ
    ∗ owns (c : Thread nD τ) (ms2_0 t) fullShare ((dat2 V O B c).after 0 t)
    ∗ owns (c : Thread nD τ) (ms2_1 t) fullShare ((dat2 V O B c).after 1 t)
    ∗ owns (c : Thread nD τ) (ms2_2 t) fullShare ((dat2 V O B c).after 2 t)
    ∗ owns (c : Thread nD τ) (ms2_3 t) fullShare ((dat2 V O B c).after 3 t)
    ∗ owns (c : Thread nD τ) (ms2_4 t) fullShare ((dat2 V O B c).after 4 t)
    ∗ owns (c : Thread nD τ) (ms2_5 t) fullShare ((dat2 V O B c).after 5 t)
    ∗ owns (c : Thread nD τ) (ms2_6 t) fullShare ((dat2 V O B c).after 6 t))

set_option maxHeartbeats 800000 in
/-- The body takes the one to the other at every step. -/
theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3, before2_4]
  rw [show (dat2 V O B c).Φ t.succ = (dat2 V O B c).Φ t.castSucc from rfl,
    show (dat2 V O B c).owesAt (none : HIx 1) t.succ = (dat2 V O B c).owesAt (none : HIx 1) t.castSucc from rfl,
    after2_0, after2_1, after2_2, after2_3, after2_4, after2_5, after2_6]
  rw [show (dat2 V O B c).Φ t.castSucc = keep spec2 c from rfl, PhiA2_eq]
  unfold outsAt2
  unfold out2_A_5 out2_A_6; (try dsimp only)
  iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩⟩
  iapply ((kernelRun2_A c (grid2.coords t) _ _ _ _ _ _ _ _ _ _ _ _ _ _ _ _ _ _ (iblk2 V c 0 t) (iblk2 V c 1 t) (iblk2 V c 2 t) (iblk2 V c 3 t) (iblk2 V c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, ⟨%e5, H5⟩, ⟨%e6, H6⟩, ⟨%fT0, HS0⟩, ⟨%fT1, HS1⟩⟩
  isplitl [HR HS0 HS1]
  · isplitl [HS0]
    · iexists _; unfold owns; iexists _; isplitr
      swap; · iexact HS0
      ipureintro; rfl
    isplitl [HS1]
    · iexists _; unfold owns; iexists _; isplitr
      swap; · iexact HS1
      ipureintro; rfl
    iexact HR
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover2_A_5 c _ _ _ _ _ _ _ _ _ _ _ _ _ _ _ _ _ _ _ _ _ _ _ _)
  unfold owns; iexists _; isplitr
  swap; · iexact H6
  ipureintro; exact View.read_writes_of_cover _ _ _ _ _ (cover2_A_6 c _ _ _ _ _ _ _ _ _ _ _ _ _ _ _ _ _ _ _ _ _ _ _ _)

/-- The program's body at step `t` is the one that was run. -/
theorem defs₀_row2 (t : Fin cfg2.N) :
    defs₀ (F := F) .tc cfg2.body (cfg2.bodyArgs t (cfg2.slots t)) = bodyAt2 t := rfl

/-- The body's obligation of the pipelined call. -/
theorem body_obligation2 (c : Dev nD) : BodyObligation (dat2 (F := F) V O B c) (defs₀ (F := F)) Variants.none (none : HIx 1) Set.univ := fun t => by
  rw [bigSep_W2, bigSep_W2, defs₀_row2]
  exact triple_restated (sound_body2 V O B c t) rfl .rfl fun _ => .rfl
end Cert.Proof.Tile

end
-- ==== Proof.Consume.lean ====
/-
  The call that makes types from the words drawn on the SparseCores: what its body stores, found by running it at a symbolic point, and its proof data.
-/
module

public import proofs.«01_k».proof.Proof.Base
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.WordCmp

@[expose] public section

set_option maxRecDepth 16384

noncomputable section

namespace Cert.Proof.Tile

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))
variable (O : Dev nD → CellTallies nD τ sig (HIx 1)) (B : Dev nD → Set (SemLoc sig × HIx 1))

/-- The block of array `w` that step `t` of the grid sees, read from the arrays' contents at the call. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its block of the array at every step, whatever the proof data are that leave it unchanged. -/
theorem before3_0_of {c : Dev nD} (dat : Dat τ (Elt F) (HIx 1) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 holds its block of the array at every step, whatever the proof data are that leave it unchanged. -/
theorem before3_1_of {c : Dev nD} (dat : Dat τ (Elt F) (HIx 1) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 holds its block of the array at every step, whatever the proof data are that leave it unchanged. -/
theorem before3_2_of {c : Dev nD} (dat : Dat τ (Elt F) (HIx 1) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3 holds its block of the array at every step, whatever the proof data are that leave it unchanged. -/
theorem before3_3_of {c : Dev nD} (dat : Dat τ (Elt F) (HIx 1) ℕ UU ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4 holds its block of the array at every step, whatever the proof data are that leave it unchanged. -/
theorem before3_4_of {c : Dev nD} (dat : Dat τ (Elt F) (HIx 1) ℕ UU ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5 holds its block of the array at every step, whatever the proof data are that leave it unchanged. -/
theorem before3_5_of {c : Dev nD} (dat : Dat τ (Elt F) (HIx 1) ℕ UU ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The staging buffer of output window 6, as a view. -/
abbrev VO3_6 : View sig .tc .vmem S3x4096 .f32 := (Memref.whole cc3_stg6_0 : Memref sig .tc .vmem S3x4096 .f32).view
/-- The staging buffer of output window 7, as a view. -/
abbrev VO3_7 : View sig .tc .vmem S4096x1 .i32 := (Memref.whole cc3_stg7_0 : Memref sig .tc .vmem S4096x1 .i32).view
/-- The buffer of window 0 that step `t` uses. -/
abbrev ms3_0 (t : Fin cfg3.N) : Memref sig .tc .vmem S4096x100 .f32 := win3_0.stage (cfg3.slots t 0)
/-- It is a whole buffer. -/
abbrev hs3_0 (t : Fin cfg3.N) : (ms3_0 t).IsWhole := hstage3_0 ((cfg3.slots t 0).cast nbuf3_0)
/-- The buffer of window 1 that step `t` uses. -/
abbrev ms3_1 (t : Fin cfg3.N) : Memref sig .tc .vmem S4096x1 .i32 := win3_1.stage (cfg3.slots t 1)
/-- It is a whole buffer. -/
abbrev hs3_1 (t : Fin cfg3.N) : (ms3_1 t).IsWhole := hstage3_1 ((cfg3.slots t 1).cast nbuf3_1)
/-- The buffer of window 2 that step `t` uses. -/
abbrev ms3_2 (t : Fin cfg3.N) : Memref sig .tc .vmem S3x4096 .f32 := win3_2.stage (cfg3.slots t 2)
/-- It is a whole buffer. -/
abbrev hs3_2 (t : Fin cfg3.N) : (ms3_2 t).IsWhole := hstage3_2 ((cfg3.slots t 2).cast nbuf3_2)
/-- The buffer of window 3 that step `t` uses. -/
abbrev ms3_3 (t : Fin cfg3.N) : Memref sig .tc .smem S4096 .f32 := win3_3.stage (cfg3.slots t 3)
/-- It is a whole buffer. -/
abbrev hs3_3 (t : Fin cfg3.N) : (ms3_3 t).IsWhole := hstage3_3 ((cfg3.slots t 3).cast nbuf3_3)
/-- The buffer of window 4 that step `t` uses. -/
abbrev ms3_4 (t : Fin cfg3.N) : Memref sig .tc .smem S4096 .f32 := win3_4.stage (cfg3.slots t 4)
/-- It is a whole buffer. -/
abbrev hs3_4 (t : Fin cfg3.N) : (ms3_4 t).IsWhole := hstage3_4 ((cfg3.slots t 4).cast nbuf3_4)
/-- The buffer of window 5 that step `t` uses. -/
abbrev ms3_5 (t : Fin cfg3.N) : Memref sig .tc .vmem S4096x128 .f32 := win3_5.stage (cfg3.slots t 5)
/-- It is a whole buffer. -/
abbrev hs3_5 (t : Fin cfg3.N) : (ms3_5 t).IsWhole := hstage3_5 ((cfg3.slots t 5).cast nbuf3_5)
/-- The buffer of window 6 that step `t` uses. -/
abbrev ms3_6 (t : Fin cfg3.N) : Memref sig .tc .vmem S3x4096 .f32 := win3_6.stage (cfg3.slots t 6)
/-- It is a whole buffer. -/
abbrev hs3_6 (t : Fin cfg3.N) : (ms3_6 t).IsWhole := hstage3_6 ((cfg3.slots t 6).cast nbuf3_6)
/-- The buffer of window 7 that step `t` uses. -/
abbrev ms3_7 (t : Fin cfg3.N) : Memref sig .tc .vmem S4096x1 .i32 := win3_7.stage (cfg3.slots t 7)
/-- It is a whole buffer. -/
abbrev hs3_7 (t : Fin cfg3.N) : (ms3_7 t).IsWhole := hstage3_7 ((cfg3.slots t 7).cast nbuf3_7)
/-- The scratch buffer 0 of the body. -/
abbrev scM3_0 : Memref sig .tc .vmem S4096x1 .f32 := Memref.whole cc3_scratch0
/-- The scratch buffer 1 of the body. -/
abbrev scM3_1 : Memref sig .tc .vmem S1x4096 .f32 := Memref.whole cc3_scratch1

/-- What the call keeps from step to step: its scratch buffers, whatever they hold, and the rest. -/
theorem PhiA3_eq (c : Dev nD) :
    (keep spec3 c : sProp 𝕄)
      = iprop((∃ d, owns (c : Thread nD τ) scM3_0 fullShare d) ∗ (∃ d, owns (c : Thread nD τ) scM3_1 fullShare d) ∗ keepBut spec3 {cc3_scratch0, cc3_scratch1} c) := by
  rw [keep_split spec3 c (by decide : cc3_scratch0 ≠ cc3_scratch1) (by decide) (by decide)]
  simp only [scM3_0, scM3_1, owns_whole]
  rfl

set_option maxHeartbeats 6640000 in
/-- The body run once on whole buffers that hold the given inputs: the pieces that it stores into each output and scratch buffer, with the proof that it ends there and leaves its inputs alone. -/
noncomputable def kernelRun3_A (c : Dev nD) (i : grid3.Coords) (arg1 : Memref sig .tc .vmem S4096x100 .f32) (harg1 : arg1.IsWhole) (arg2 : Memref sig .tc .vmem S4096x1 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S4096x128 .f32) (harg6 : arg6.IsWhole) (arg8 : Memref sig .tc .vmem S3x4096 .f32) (harg8 : arg8.IsWhole) (arg9 : Memref sig .tc .vmem S4096x1 .i32) (harg9 : arg9.IsWhole) (arg10 : Memref sig .tc .vmem S4096x1 .f32) (harg10 : arg10.IsWhole) (arg11 : Memref sig .tc .vmem S1x4096 .f32) (harg11 : arg11.IsWhole)
    (x0 : Vec F S4096x100 .f32) (x1 : Vec F S4096x1 .i32) (x2 : Vec F S3x4096 .f32) (x3 : Vec F S4096 .f32) (x4 : Vec F S4096 .f32) (x5 : Vec F S4096x128 .f32) :
    Σ' (L6 : List (View.Piece (Elt F) S3x4096 .f32)), Σ' (L7 : List (View.Piece (Elt F) S4096x1 .i32)), Σ' (LT0 : List (View.Piece (Elt F) S4096x1 .f32)), { LT1 : List (View.Piece (Elt F) S1x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LT0) ∗ (∃ f, arg11.view.loc (c : Thread nD τ) ↦[arg11.view.set]{fullShare} arg11.view.writes (Elt F) f LT1)) -∗ K ⟨⟩))
          ⊢ wp frame (wpE (defs₀ (F := F)) Variants.none c none) E (cc3__tc_consume_body i arg1 harg1 arg2 harg2 arg3 harg3 arg4 harg4 arg5 harg5 arg6 harg6 (Memref.whole main_v8_0) (Memref.isWhole_whole _) arg8 harg8 arg9 harg9 arg10 harg10 arg11 harg11) K } := by
  refine ⟨?_, ?_, ?_, ?_, fun E K => ?run⟩
  case run =>
    simp only [cc3__tc_consume_body_eq_skeleton]; unfold cc3__tc_consume_body_skel
    simp only [k3_part54_eq_skeleton, k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton, k3_part10_eq_skeleton, k3_part11_eq_skeleton, k3_part12_eq_skeleton, k3_part13_eq_skeleton, k3_part14_eq_skeleton, k3_part15_eq_skeleton, k3_part16_eq_skeleton, k3_part17_eq_skeleton, k3_part18_eq_skeleton, k3_part19_eq_skeleton, k3_part20_eq_skeleton, k3_part21_eq_skeleton, k3_part22_eq_skeleton, k3_part23_eq_skeleton, k3_part24_eq_skeleton, k3_part25_eq_skeleton, k3_part26_eq_skeleton, k3_part27_eq_skeleton, k3_part28_eq_skeleton, k3_part29_eq_skeleton, k3_part30_eq_skeleton, k3_part31_eq_skeleton, k3_part32_eq_skeleton, k3_part33_eq_skeleton, k3_part34_eq_skeleton, k3_part35_eq_skeleton, k3_part36_eq_skeleton, k3_part37_eq_skeleton, k3_part38_eq_skeleton, k3_part39_eq_skeleton, k3_part40_eq_skeleton, k3_part41_eq_skeleton, k3_part42_eq_skeleton, k3_part43_eq_skeleton, k3_part44_eq_skeleton, k3_part45_eq_skeleton, k3_part46_eq_skeleton, k3_part47_eq_skeleton, k3_part48_eq_skeleton, k3_part49_eq_skeleton, k3_part50_eq_skeleton, k3_part51_eq_skeleton, k3_part52_eq_skeleton, k3_part53_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    iexists _; iexact HS1

/-- The pieces stored into output 6 leave no element of it out. -/
theorem cover3_A_6 (c : Dev nD) (i : grid3.Coords) (arg1 : Memref sig .tc .vmem S4096x100 .f32) (harg1 : arg1.IsWhole) (arg2 : Memref sig .tc .vmem S4096x1 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S4096x128 .f32) (harg6 : arg6.IsWhole) (arg8 : Memref sig .tc .vmem S3x4096 .f32) (harg8 : arg8.IsWhole) (arg9 : Memref sig .tc .vmem S4096x1 .i32) (harg9 : arg9.IsWhole) (arg10 : Memref sig .tc .vmem S4096x1 .f32) (harg10 : arg10.IsWhole) (arg11 : Memref sig .tc .vmem S1x4096 .f32) (harg11 : arg11.IsWhole)
    (x0 : Vec F S4096x100 .f32) (x1 : Vec F S4096x1 .i32) (x2 : Vec F S3x4096 .f32) (x3 : Vec F S4096 .f32) (x4 : Vec F S4096 .f32) (x5 : Vec F S4096x128 .f32) (y : S3x4096.Idx) :
    ∃ pc ∈ (kernelRun3_A c i arg1 harg1 arg2 harg2 arg3 harg3 arg4 harg4 arg5 harg5 arg6 harg6 arg8 harg8 arg9 harg9 arg10 harg10 arg11 harg11 x0 x1 x2 x3 x4 x5).1, y ∈ pc.1.set :=
  View.cover_of_tiledL (kernelRun3_A c i arg1 harg1 arg2 harg2 arg3 harg3 arg4 harg4 arg5 harg5 arg6 harg6 arg8 harg8 arg9 harg9 arg10 harg10 arg11 harg11 x0 x1 x2 x3 x4 x5).1 S3x4096.size (by sl_kernel_rfl) y

/-- What output 6 holds after the body, as a function of the inputs. -/
def out3_A_6 (c : Dev nD) (i : grid3.Coords) (arg1 : Memref sig .tc .vmem S4096x100 .f32) (harg1 : arg1.IsWhole) (arg2 : Memref sig .tc .vmem S4096x1 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S4096x128 .f32) (harg6 : arg6.IsWhole) (arg8 : Memref sig .tc .vmem S3x4096 .f32) (harg8 : arg8.IsWhole) (arg9 : Memref sig .tc .vmem S4096x1 .i32) (harg9 : arg9.IsWhole) (arg10 : Memref sig .tc .vmem S4096x1 .f32) (harg10 : arg10.IsWhole) (arg11 : Memref sig .tc .vmem S1x4096 .f32) (harg11 : arg11.IsWhole)
    (x0 : Vec F S4096x100 .f32) (x1 : Vec F S4096x1 .i32) (x2 : Vec F S3x4096 .f32) (x3 : Vec F S4096 .f32) (x4 : Vec F S4096 .f32) (x5 : Vec F S4096x128 .f32) : Vec F S3x4096 .f32 :=
  VO3_6.read (Elt F) (VO3_6.writes (Elt F) VO3_6.junk (kernelRun3_A c i arg1 harg1 arg2 harg2 arg3 harg3 arg4 harg4 arg5 harg5 arg6 harg6 arg8 harg8 arg9 harg9 arg10 harg10 arg11 harg11 x0 x1 x2 x3 x4 x5).1)

/-- The pieces stored into output 7 leave no element of it out. -/
theorem cover3_A_7 (c : Dev nD) (i : grid3.Coords) (arg1 : Memref sig .tc .vmem S4096x100 .f32) (harg1 : arg1.IsWhole) (arg2 : Memref sig .tc .vmem S4096x1 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S4096x128 .f32) (harg6 : arg6.IsWhole) (arg8 : Memref sig .tc .vmem S3x4096 .f32) (harg8 : arg8.IsWhole) (arg9 : Memref sig .tc .vmem S4096x1 .i32) (harg9 : arg9.IsWhole) (arg10 : Memref sig .tc .vmem S4096x1 .f32) (harg10 : arg10.IsWhole) (arg11 : Memref sig .tc .vmem S1x4096 .f32) (harg11 : arg11.IsWhole)
    (x0 : Vec F S4096x100 .f32) (x1 : Vec F S4096x1 .i32) (x2 : Vec F S3x4096 .f32) (x3 : Vec F S4096 .f32) (x4 : Vec F S4096 .f32) (x5 : Vec F S4096x128 .f32) (y : S4096x1.Idx) :
    ∃ pc ∈ (kernelRun3_A c i arg1 harg1 arg2 harg2 arg3 harg3 arg4 harg4 arg5 harg5 arg6 harg6 arg8 harg8 arg9 harg9 arg10 harg10 arg11 harg11 x0 x1 x2 x3 x4 x5).2.1, y ∈ pc.1.set :=
  View.cover_of_tiledL (kernelRun3_A c i arg1 harg1 arg2 harg2 arg3 harg3 arg4 harg4 arg5 harg5 arg6 harg6 arg8 harg8 arg9 harg9 arg10 harg10 arg11 harg11 x0 x1 x2 x3 x4 x5).2.1 S4096x1.size (by sl_kernel_rfl) y

/-- What output 7 holds after the body, as a function of the inputs. -/
def out3_A_7 (c : Dev nD) (i : grid3.Coords) (arg1 : Memref sig .tc .vmem S4096x100 .f32) (harg1 : arg1.IsWhole) (arg2 : Memref sig .tc .vmem S4096x1 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S4096x128 .f32) (harg6 : arg6.IsWhole) (arg8 : Memref sig .tc .vmem S3x4096 .f32) (harg8 : arg8.IsWhole) (arg9 : Memref sig .tc .vmem S4096x1 .i32) (harg9 : arg9.IsWhole) (arg10 : Memref sig .tc .vmem S4096x1 .f32) (harg10 : arg10.IsWhole) (arg11 : Memref sig .tc .vmem S1x4096 .f32) (harg11 : arg11.IsWhole)
    (x0 : Vec F S4096x100 .f32) (x1 : Vec F S4096x1 .i32) (x2 : Vec F S3x4096 .f32) (x3 : Vec F S4096 .f32) (x4 : Vec F S4096 .f32) (x5 : Vec F S4096x128 .f32) : Vec F S4096x1 .i32 :=
  VO3_7.read (Elt F) (VO3_7.writes (Elt F) VO3_7.junk (kernelRun3_A c i arg1 harg1 arg2 harg2 arg3 harg3 arg4 harg4 arg5 harg5 arg6 harg6 arg8 harg8 arg9 harg9 arg10 harg10 arg11 harg11 x0 x1 x2 x3 x4 x5).2.1)

/-- The outputs' contents after step `t`. -/
def outsAt3 (c : Dev nD) (t : Fin cfg3.N) : Vec F S3x4096 .f32 × Vec F S4096x1 .i32 :=
  (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (iblk3 V c 0 t) (iblk3 V c 1 t) (iblk3 V c 2 t) (iblk3 V c 3 t) (iblk3 V c 4 t) (iblk3 V c 5 t), out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (iblk3 V c 0 t) (iblk3 V c 1 t) (iblk3 V c 2 t) (iblk3 V c 3 t) (iblk3 V c 4 t) (iblk3 V c 5 t))

/-- The proof data of the call: the arrays at entry, what each window holds after a step, what is kept and owed. -/
def dat3 (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t).1
    | ⟨7, _⟩ => (outsAt3 V c t).2
  Φ _ := keep spec3 c
  q _ := fullShare
  owed _ := O c
  recorded _ := B c

/-- The arrays that the data start from. -/
theorem A_eq3 (c : Dev nD) (w : Fin cfg3.W) : (dat3 V O B c).A w = V c (Pipeline.arrRef spec3 w) := by
  dsimp only [dat3]

/-- Window 0 after step `t`. -/
theorem after3_0 (c : Dev nD) (t : Fin cfg3.N) : (dat3 V O B c).after 0 t = iblk3 V c 0 t := by dsimp only [dat3]
/-- Window 1 after step `t`. -/
theorem after3_1 (c : Dev nD) (t : Fin cfg3.N) : (dat3 V O B c).after 1 t = iblk3 V c 1 t := by dsimp only [dat3]
/-- Window 2 after step `t`. -/
theorem after3_2 (c : Dev nD) (t : Fin cfg3.N) : (dat3 V O B c).after 2 t = iblk3 V c 2 t := by dsimp only [dat3]
/-- Window 3 after step `t`. -/
theorem after3_3 (c : Dev nD) (t : Fin cfg3.N) : (dat3 V O B c).after 3 t = iblk3 V c 3 t := by dsimp only [dat3]
/-- Window 4 after step `t`. -/
theorem after3_4 (c : Dev nD) (t : Fin cfg3.N) : (dat3 V O B c).after 4 t = iblk3 V c 4 t := by dsimp only [dat3]
/-- Window 5 after step `t`. -/
theorem after3_5 (c : Dev nD) (t : Fin cfg3.N) : (dat3 V O B c).after 5 t = iblk3 V c 5 t := by dsimp only [dat3]
/-- Window 6 after step `t`. -/
theorem after3_6 (c : Dev nD) (t : Fin cfg3.N) : (dat3 V O B c).after 6 t = (outsAt3 V c t).1 := by dsimp only [dat3]
/-- Window 7 after step `t`. -/
theorem after3_7 (c : Dev nD) (t : Fin cfg3.N) : (dat3 V O B c).after 7 t = (outsAt3 V c t).2 := by dsimp only [dat3]

/-- Input window 0 before step `t` holds its block. -/
theorem before3_0 (c : Dev nD) (t : Fin cfg3.N) (d) : (dat3 V O B c).before 0 t d = iblk3 V c 0 t :=
  before3_0_of V (dat3 V O B c) (A_eq3 V O B c 0) (after3_0 V O B c) t d
/-- Input window 1 before step `t` holds its block. -/
theorem before3_1 (c : Dev nD) (t : Fin cfg3.N) (d) : (dat3 V O B c).before 1 t d = iblk3 V c 1 t :=
  before3_1_of V (dat3 V O B c) (A_eq3 V O B c 1) (after3_1 V O B c) t d
/-- Input window 2 before step `t` holds its block. -/
theorem before3_2 (c : Dev nD) (t : Fin cfg3.N) (d) : (dat3 V O B c).before 2 t d = iblk3 V c 2 t :=
  before3_2_of V (dat3 V O B c) (A_eq3 V O B c 2) (after3_2 V O B c) t d
/-- Input window 3 before step `t` holds its block. -/
theorem before3_3 (c : Dev nD) (t : Fin cfg3.N) (d) : (dat3 V O B c).before 3 t d = iblk3 V c 3 t :=
  before3_3_of V (dat3 V O B c) (A_eq3 V O B c 3) (after3_3 V O B c) t d
/-- Input window 4 before step `t` holds its block. -/
theorem before3_4 (c : Dev nD) (t : Fin cfg3.N) (d) : (dat3 V O B c).before 4 t d = iblk3 V c 4 t :=
  before3_4_of V (dat3 V O B c) (A_eq3 V O B c 4) (after3_4 V O B c) t d
/-- Input window 5 before step `t` holds its block. -/
theorem before3_5 (c : Dev nD) (t : Fin cfg3.N) (d) : (dat3 V O B c).before 5 t d = iblk3 V c 5 t :=
  before3_5_of V (dat3 V O B c) (A_eq3 V O B c 5) (after3_5 V O B c) t d

/-- What the body is given at step `t`. -/
def bodyPre3 (c : Dev nD) (t : Fin cfg3.N) : sProp 𝕄 :=
  iprop((dat3 V O B c).Φ t.castSucc ∗ (dat3 V O B c).owesAt (none : HIx 1) t.castSucc
    ∗ (∃ d, owns (c : Thread nD τ) (ms3_0 t) fullShare ((dat3 V O B c).before 0 t d))
    ∗ (∃ d, owns (c : Thread nD τ) (ms3_1 t) fullShare ((dat3 V O B c).before 1 t d))
    ∗ (∃ d, owns (c : Thread nD τ) (ms3_2 t) fullShare ((dat3 V O B c).before 2 t d))
    ∗ (∃ d, owns (c : Thread nD τ) (ms3_3 t) fullShare ((dat3 V O B c).before 3 t d))
    ∗ (∃ d, owns (c : Thread nD τ) (ms3_4 t) fullShare ((dat3 V O B c).before 4 t d))
    ∗ (∃ d, owns (c : Thread nD τ) (ms3_5 t) fullShare ((dat3 V O B c).before 5 t d))
    ∗ (∃ d, owns (c : Thread nD τ) (ms3_6 t) fullShare ((dat3 V O B c).before 6 t d))
    ∗ (∃ d, owns (c : Thread nD τ) (ms3_7 t) fullShare ((dat3 V O B c).before 7 t d)))

/-- What the body leaves at step `t`. -/
def bodyPost3 (c : Dev nD) (t : Fin cfg3.N) : sProp 𝕄 :=
  iprop((dat3 V O B c).Φ t.succ ∗ (dat3 V O B c).owesAt (none : HIx 1) t.succ
    ∗ owns (c : Thread nD τ) (ms3_0 t) fullShare ((dat3 V O B c).after 0 t)
    ∗ owns (c : Thread nD τ) (ms3_1 t) fullShare ((dat3 V O B c).after 1 t)
    ∗ owns (c : Thread nD τ) (ms3_2 t) fullShare ((dat3 V O B c).after 2 t)
    ∗ owns (c : Thread nD τ) (ms3_3 t) fullShare ((dat3 V O B c).after 3 t)
    ∗ owns (c : Thread nD τ) (ms3_4 t) fullShare ((dat3 V O B c).after 4 t)
    ∗ owns (c : Thread nD τ) (ms3_5 t) fullShare ((dat3 V O B c).after 5 t)
    ∗ owns (c : Thread nD τ) (ms3_6 t) fullShare ((dat3 V O B c).after 6 t)
    ∗ owns (c : Thread nD τ) (ms3_7 t) fullShare ((dat3 V O B c).after 7 t))

set_option maxHeartbeats 800000 in
/-- The body takes the one to the other at every step. -/
theorem sound_body3 (c : Dev nD) (t : Fin cfg3.N) :
    bodyPre3 V O B c t ⊢ wp frame (wpE (defs₀ (F := F)) Variants.none c none) Set.univ (bodyAt3 t) (fun _ => bodyPost3 V O B c t) := by
  unfold bodyPre3 bodyPost3 bodyAt3
  simp only [before3_0, before3_1, before3_2, before3_3, before3_4, before3_5]
  rw [show (dat3 V O B c).Φ t.succ = (dat3 V O B c).Φ t.castSucc from rfl,
    show (dat3 V O B c).owesAt (none : HIx 1) t.succ = (dat3 V O B c).owesAt (none : HIx 1) t.castSucc from rfl,
    after3_0, after3_1, after3_2, after3_3, after3_4, after3_5, after3_6, after3_7]
  rw [show (dat3 V O B c).Φ t.castSucc = keep spec3 c from rfl, PhiA3_eq]
  unfold outsAt3
  unfold out3_A_6 out3_A_7; (try dsimp only)
  iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun3_A c (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, H6⟩, ⟨%e7, H7⟩, ⟨%fT0, HS0⟩, ⟨%fT1, HS1⟩⟩
  isplitl [HR HS0 HS1]
  · isplitl [HS0]
    · iexists _; unfold owns; iexists _; isplitr
      swap; · iexact HS0
      ipureintro; rfl
    isplitl [HS1]
    · iexists _; unfold owns; iexists _; isplitr
      swap; · iexact HS1
      ipureintro; rfl
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover3_A_6 c _ _ _ _ _ _ _ _ _ _ _ _ _ _ _ _ _ _ _ _ _ _ _ _ _ _ _)
  unfold owns; iexists _; isplitr
  swap; · iexact H7
  ipureintro; exact View.read_writes_of_cover _ _ _ _ _ (cover3_A_7 c _ _ _ _ _ _ _ _ _ _ _ _ _ _ _ _ _ _ _ _ _ _ _ _ _ _ _)

/-- The program's body at step `t` is the one that was run. -/
theorem defs₀_row3 (t : Fin cfg3.N) :
    defs₀ (F := F) .tc cfg3.body (cfg3.bodyArgs t (cfg3.slots t)) = bodyAt3 t := rfl

/-- The body's obligation of the pipelined call. -/
theorem body_obligation3 (c : Dev nD) : BodyObligation (dat3 (F := F) V O B c) (defs₀ (F := F)) Variants.none (none : HIx 1) Set.univ := fun t => by
  rw [bigSep_W3, bigSep_W3, defs₀_row3]
  exact triple_restated (sound_body3 V O B c t) rfl .rfl fun _ => .rfl

end Cert.Proof.Tile

end
-- ==== Proof.Run.lean ====
/-
  The run of the whole program: what every buffer holds after each step of @main, and @main on the TensorCore through
  its three calls, the SparseCore call and the operations between them.
-/
module

public import proofs.«01_k».proof.Proof.Call
public import proofs.«01_k».proof.Proof.Region
public import proofs.«01_k».proof.Proof.Levels
public import proofs.«01_k».proof.Proof.Full
public import proofs.«01_k».proof.Proof.Consume

@[expose] public section

noncomputable section

namespace Cert.Proof.Tile

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The operations between the calls -/

def ops₁ : List (HloOp τ sig (Elt F)) :=
  [StableHlo.reshape main_v0_1 main_v1 (rfl : (.f32 : EltTy) = .f32) shapeCasts_S32x128_S4096]
def ops₂ : List (HloOp τ sig (Elt F)) :=
  [StableHlo.reshape main_v2 main_v3 (rfl : (.f32 : EltTy) = .f32) shapeCasts_S6291456_S49152x128,
   StableHlo.reshape main_v0_0 main_v4 (rfl : (.f32 : EltTy) = .f32) shapeCasts_S32x128_S4096,
   StableHlo.unary main_arg2 main_v5 ((transpose S100x131072 [1, 0] · transposes_S131072x100_S100x131072_1_0) : (⟨S131072x100, .f32⟩ : BufTy).Contents (Elt F) → (⟨S100x131072, .f32⟩ : BufTy).Contents (Elt F)),
   StableHlo.unary main_arg0 main_v6 ((transpose S3x131072 [1, 0] · transposes_S131072x3_S3x131072_1_0) : (⟨S131072x3, .f32⟩ : BufTy).Contents (Elt F) → (⟨S3x131072, .f32⟩ : BufTy).Contents (Elt F)),
   StableHlo.reshape main_arg1 main_v7 (rfl : (.i32 : EltTy) = .i32) shapeCasts_S131072_S32x1x4096]
def ops₃ : List (HloOp τ sig (Elt F)) :=
  [StableHlo.unary main_arg2 main_v9 ((extractStridedSlice S49152x100 ![0, 0] · slices_S131072x100_S49152x100_0_0) : (⟨S131072x100, .f32⟩ : BufTy).Contents (Elt F) → (⟨S49152x100, .f32⟩ : BufTy).Contents (Elt F)),
   StableHlo.unary main_arg1 main_v10 ((extractStridedSlice S49152 ![0] · slices_S131072_S49152_0) : (⟨S131072, .i32⟩ : BufTy).Contents (Elt F) → (⟨S49152, .i32⟩ : BufTy).Contents (Elt F)),
   StableHlo.reshape main_v10 main_v11 (rfl : (.i32 : EltTy) = .i32) shapeCasts_S49152_S49152x1,
   StableHlo.unary main_v8_0 main_v12_0 id]
def ops₄ : List (HloOp τ sig (Elt F)) :=
  [StableHlo.reshape main_v12_1 main_v13 (rfl : (.i32 : EltTy) = .i32) shapeCasts_S49152x1_S49152,
   StableHlo.unary main_v8_1 main_v14 ((extractStridedSlice S20x1x4096 ![12, 0, 0] · slices_S32x1x4096_S20x1x4096_12_0_0) : (⟨S32x1x4096, .i32⟩ : BufTy).Contents (Elt F) → (⟨S20x1x4096, .i32⟩ : BufTy).Contents (Elt F)),
   StableHlo.reshape main_v14 main_v15 (rfl : (.i32 : EltTy) = .i32) shapeCasts_S20x1x4096_S81920,
   StableHlo.binary main_v13 main_v15 main_v16 ((fun a b => concatenate S131072 0 [⟨S49152, a⟩, ⟨S81920, b⟩] concatenates_S49152_S81920_S131072_d0) : (⟨S49152, .i32⟩ : BufTy).Contents (Elt F) → (⟨S81920, .i32⟩ : BufTy).Contents (Elt F) → (⟨S131072, .i32⟩ : BufTy).Contents (Elt F)),
   StableHlo.unary main_v12_0 main_v17 ((transpose S131072x3 [1, 0] · transposes_S3x131072_S131072x3_1_0) : (⟨S3x131072, .f32⟩ : BufTy).Contents (Elt F) → (⟨S131072x3, .f32⟩ : BufTy).Contents (Elt F))]

/-- The references each stretch writes, in order. -/
abbrev outs₁ : List (Ref sig .tc) := [main_v1]
abbrev outs₂ : List (Ref sig .tc) := [main_v3, main_v4, main_v5, main_v6, main_v7]
abbrev outs₃ : List (Ref sig .tc) := [main_v9, main_v10, main_v11, main_v12_0]
abbrev outs₄ : List (Ref sig .tc) := [main_v13, main_v14, main_v15, main_v16, main_v17]

theorem writes₁ : (ops₁ : List (HloOp τ sig (Elt F))).Forall fun op => op.writes ⊆ (outs₁.map (Proc.devRef (τ := τ) .tc)).toFinset :=
  StableHlo.forall_writes_sub_of_map rfl
theorem writes₂ : (ops₂ : List (HloOp τ sig (Elt F))).Forall fun op => op.writes ⊆ (outs₂.map (Proc.devRef (τ := τ) .tc)).toFinset :=
  StableHlo.forall_writes_sub_of_map rfl
theorem writes₃ : (ops₃ : List (HloOp τ sig (Elt F))).Forall fun op => op.writes ⊆ (outs₃.map (Proc.devRef (τ := τ) .tc)).toFinset :=
  StableHlo.forall_writes_sub_of_map rfl
theorem writes₄ : (ops₄ : List (HloOp τ sig (Elt F))).Forall fun op => op.writes ⊆ (outs₄.map (Proc.devRef (τ := τ) .tc)).toFinset :=
  StableHlo.forall_writes_sub_of_map rfl

theorem subs₁ : ∀ op ∈ (ops₁ : List (HloOp τ sig (Elt F))), op.bufs ⊆ StableHlo.tcRefs τ sig :=
  List.forall_iff_forall_mem.mp (show List.Forall (fun op : HloOp τ sig (Elt F) => op.bufs ⊆ StableHlo.tcRefs τ sig) ops₁ from StableHlo.reshape_bufs_sub ..)
theorem fresh₁ : ∀ op ∈ (ops₁ : List (HloOp τ sig (Elt F))), op.fresh = ∅ :=
  List.forall_iff_forall_mem.mp (by simp only [ops₁, List.Forall]; repeat' constructor)
theorem subs₂ : ∀ op ∈ (ops₂ : List (HloOp τ sig (Elt F))), op.bufs ⊆ StableHlo.tcRefs τ sig :=
  List.forall_iff_forall_mem.mp (show List.Forall (fun op : HloOp τ sig (Elt F) => op.bufs ⊆ StableHlo.tcRefs τ sig) ops₂ from ⟨StableHlo.reshape_bufs_sub .., StableHlo.reshape_bufs_sub .., StableHlo.unary_bufs_sub .., StableHlo.unary_bufs_sub .., StableHlo.reshape_bufs_sub ..⟩)
theorem fresh₂ : ∀ op ∈ (ops₂ : List (HloOp τ sig (Elt F))), op.fresh = ∅ :=
  List.forall_iff_forall_mem.mp (by simp only [ops₂, List.Forall]; repeat' constructor)
theorem subs₃ : ∀ op ∈ (ops₃ : List (HloOp τ sig (Elt F))), op.bufs ⊆ StableHlo.tcRefs τ sig :=
  List.forall_iff_forall_mem.mp (show List.Forall (fun op : HloOp τ sig (Elt F) => op.bufs ⊆ StableHlo.tcRefs τ sig) ops₃ from ⟨StableHlo.unary_bufs_sub .., StableHlo.unary_bufs_sub .., StableHlo.reshape_bufs_sub .., StableHlo.unary_bufs_sub ..⟩)
theorem fresh₃ : ∀ op ∈ (ops₃ : List (HloOp τ sig (Elt F))), op.fresh = ∅ :=
  List.forall_iff_forall_mem.mp (by simp only [ops₃, List.Forall]; repeat' constructor)
theorem subs₄ : ∀ op ∈ (ops₄ : List (HloOp τ sig (Elt F))), op.bufs ⊆ StableHlo.tcRefs τ sig :=
  List.forall_iff_forall_mem.mp (show List.Forall (fun op : HloOp τ sig (Elt F) => op.bufs ⊆ StableHlo.tcRefs τ sig) ops₄ from ⟨StableHlo.reshape_bufs_sub .., StableHlo.unary_bufs_sub .., StableHlo.reshape_bufs_sub .., StableHlo.binary_bufs_sub .., StableHlo.unary_bufs_sub ..⟩)
theorem fresh₄ : ∀ op ∈ (ops₄ : List (HloOp τ sig (Elt F))), op.fresh = ∅ :=
  List.forall_iff_forall_mem.mp (by simp only [ops₄, List.Forall]; repeat' constructor)

/-! ## What every buffer holds at each step -/

/-- The core's debts and the bound on what it has waited for, before the SparseCore call and after it. -/
abbrev debts (n : ℕ) (d : Dev nD) : CellTallies nD τ sig (HIx 1) := (K (F := F)).Otc d n
abbrev bound (n : ℕ) (d : Dev nD) : Set (SemLoc sig × HIx 1) := {x | (K (F := F)).lev (T d, x.1) x.2 ≤ 8 * n}

/-- A valuation at the TensorCore's references. -/
abbrev at' (W : Dev nD → Valuation τ sig (Elt F)) : (c : Dev nD) → (b : Ref sig .tc) → Buf (Elt F) ((c : Thread nD τ).loc b) :=
  fun c b => W c (Proc.devRef .tc b)

/-- At the launch; -/
def W0 : Dev nD → Valuation τ sig (Elt F) := fun c b => m (c, b)
/-- after the levels are drawn; -/
def W1 (c : Dev nD) : Valuation τ sig (Elt F) :=
  Pipeline.withArrays spec0 c (W0 m c) fun w => (dat0 (at' (W0 m)) (debts (F := F) 0) (bound (F := F) 0) c).arrAt w cfg0.N
def W2 (c : Dev nD) : Valuation τ sig (Elt F) := StableHlo.after ops₁ (W1 m c)
/-- after the SparseCore call; -/
def W3 (c : Dev nD) : Valuation τ sig (Elt F) := Function.update (W2 m c) (Proc.devRef .tc main_v2) (drawn c)
def W4 (c : Dev nD) : Valuation τ sig (Elt F) := StableHlo.after ops₂ (W3 m c)
/-- after the positions and the last twenty blocks' types; -/
def W5 (c : Dev nD) : Valuation τ sig (Elt F) :=
  Pipeline.withArrays spec2 c (W4 m c) fun w => (dat2 (at' (W4 m)) (debts (F := F) 1) (bound (F := F) 1) c).arrAt w cfg2.N
def W6 (c : Dev nD) : Valuation τ sig (Elt F) := StableHlo.after ops₃ (W5 m c)
/-- after the first twelve blocks; -/
def W7 (c : Dev nD) : Valuation τ sig (Elt F) :=
  Pipeline.withArrays spec3 c (W6 m c) fun w => (dat3 (at' (W6 m)) (debts (F := F) 1) (bound (F := F) 1) c).arrAt w cfg3.N
/-- and at the return. -/
def W8 (c : Dev nD) : Valuation τ sig (Elt F) := StableHlo.after ops₄ (W7 m c)

/-- The three calls' proof data, each at its entry. -/
def pdats : Dats F
  | ⟨0, _⟩ => fun c => dat0 (at' (W0 m)) (debts (F := F) 0) (bound (F := F) 0) c
  | ⟨1, _⟩ => fun c => dat2 (at' (W4 m)) (debts (F := F) 1) (bound (F := F) 1) c
  | ⟨2, _⟩ => fun c => dat3 (at' (W6 m)) (debts (F := F) 1) (bound (F := F) 1) c

omit [FloatOps F] in
theorem debts_none (n : ℕ) (d : Dev nD) (g : GSem nD τ sig) : debts (F := F) n d g none = 0 := by
  by_contra h
  have h' : 0 < (K (F := F)).Otc d n g none := Nat.pos_of_ne_zero h
  exact absurd ((K (F := F)).lev_of_Otc_pos h') (Nat.not_le.mpr (Nat.succ_pos _))

omit [FloatOps F] in
theorem bound_none (n : ℕ) (d : Dev nD) (x : SemLoc sig × HIx 1) (h : x.2 = none) : x ∈ bound (F := F) n d := by
  show (K (F := F)).lev (T d, x.1) x.2 ≤ 8 * n
  rw [h]; exact Nat.zero_le _

theorem runs0 : Runs (pdats m) 0 (debts (F := F) 0) (bound (F := F) 0) (W0 m) (W1 m) where
  body c := body_obligation0 _ _ _ c
  inv _ _ := rfl
  share _ _ := rfl
  arr c w := A_eq0 _ _ _ c w
  owed _ _ := rfl
  rec' _ _ := rfl
  lone := debts_none 0
  own := bound_none 0
  left c w := Pipeline.withArrays_arr spec0 launch0.win.arr_inj c _ _ w
  kept c b hb := Pipeline.withArrays_of_ne spec0 c _ _ b fun w e => hb (Finset.mem_image.mpr ⟨w, Finset.mem_univ _, e⟩)

theorem runs1 : Runs (pdats m) 1 (debts (F := F) 1) (bound (F := F) 1) (W4 m) (W5 m) where
  body c := body_obligation2 _ _ _ c
  inv _ _ := rfl
  share _ _ := rfl
  arr c w := A_eq2 _ _ _ c w
  owed _ _ := rfl
  rec' _ _ := rfl
  lone := debts_none 1
  own := bound_none 1
  left c w := Pipeline.withArrays_arr spec2 launch2.win.arr_inj c _ _ w
  kept c b hb := Pipeline.withArrays_of_ne spec2 c _ _ b fun w e => hb (Finset.mem_image.mpr ⟨w, Finset.mem_univ _, e⟩)

theorem runs2 : Runs (pdats m) 2 (debts (F := F) 1) (bound (F := F) 1) (W6 m) (W7 m) where
  body c := body_obligation3 _ _ _ c
  inv _ _ := rfl
  share _ _ := rfl
  arr c w := A_eq3 _ _ _ c w
  owed _ _ := rfl
  rec' _ _ := rfl
  lone := debts_none 1
  own := bound_none 1
  left c w := Pipeline.withArrays_arr spec3 launch3.win.arr_inj c _ _ w
  kept c b hb := Pipeline.withArrays_of_ne spec3 c _ _ b fun w e => hb (Finset.mem_image.mpr ⟨w, Finset.mem_univ _, e⟩)

/-! ## @main -/

omit [FloatOps F] in
theorem bigSep_none {I : Type} (s : Finset I) : (bigSep s fun _ => iprop(emp)) = (iprop(emp) : sProp 𝕄) := bigSep_emp_const s

abbrev pcells : Finset (GSem nD τ sig) := Pipeline.cells (nD := nD) (τ := τ) (Pipeline.pin (pcfgs (F := F)) adm) cellOf_inj
abbrev ptoks : Finset (GSem nD τ sig × ℕ × Unit) := Pipeline.launchToks (nD := nD) (τ := τ) (Pipeline.pin (pcfgs (F := F)) adm) cellOf_inj

def u₀ : UU := (initOf (K (F := F)).hsCells (K (F := F)).hsToks, (initOf (pcells (F := F)) (ptoks (F := F)), 1))

/-- What the launch deals a core for the calls' staging cells. -/
def stage (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem start : (ownU (u₀ (F := F)) : sProp 𝕄)
    ⊢ |={Set.univ}=> iprop(BI.own (EH (initOf (K (F := F)).hsCells (K (F := F)).hsToks)) ∗ (bigSep Finset.univ fun d : Dev nD => stage (F := F) d)
        ∗ bigSep Finset.univ fun thr : Thread nD τ => bigSep Finset.univ fun q : Fin 1 => (P m).x q thr) := by
  unfold u₀ stage
  iintro Hu
  ihave H := (ownU_pair _ _) $$ Hu
  icases H with ⟨H, Hr⟩
  ihave Hr := (own_pair_emb embR _ _) $$ Hr
  icases Hr with ⟨Hp, -⟩
  imod (Pipeline.fund_ghost (Pipeline.pin (pcfgs (F := F)) adm) EP cellOf_inj) $$ Hp with ⟨Hg, Ht⟩
  imodintro
  isplitl [H]; · iexact H
  isplitl [Hg Ht]
  · rw [bigSep_sep']
    isplitl [Hg] <;> iassumption
  · rw [show (fun thr : Thread nD τ => bigSep Finset.univ fun q : Fin 1 => (P (F := F) m).x q thr) = fun _ => iprop(emp) from
      funext fun _ => bigSep_none _, bigSep_none]
    iempintro

theorem main_eq (d : Dev nD) : main (F := F) d = (do
    Prog.lift (.customCall (SparseCore.inner (Pipeline.entry 0)) ())
    StableHlo.seq ops₁
    sc.run d 0
    StableHlo.seq ops₂
    Prog.lift (.customCall (SparseCore.inner (Pipeline.entry 1)) ())
    StableHlo.seq ops₃
    Prog.lift (.customCall (SparseCore.inner (Pipeline.entry 2)) ())
    StableHlo.seq ops₄) := by
  simp only [StableHlo.seq, ops₁, ops₂, ops₃, ops₄, bind_assoc, pure_bind]
  rfl

theorem host_runs (d : Dev nD) (ops : List (HloOp τ sig (Elt F))) (hs : ∀ op ∈ ops, op.bufs ⊆ StableHlo.tcRefs τ sig)
    (hf : ∀ op ∈ ops, op.fresh = ∅) (V V' : Valuation τ sig (Elt F)) (hV : StableHlo.after ops V = V') (Q : PUnit → sProp 𝕄) :
    iprop((boundary (d : Thread nD τ) ∗ StableHlo.held (d : Thread nD τ) (Pipeline.ucRefs τ sig) V' -∗ Q ⟨⟩)
        ∗ boundary (d : Thread nD τ) ∗ StableHlo.held (d : Thread nD τ) (Pipeline.ucRefs τ sig) V)
      ⊢ wp frame (wpE ((K (F := F)).defs (D (F := F))) 𝒱 (d : Thread nD τ) none) Set.univ (StableHlo.seq ops) Q := by
  subst hV
  have h := StableHlo.wp_seq (defs := (K (F := F)).defs (D (F := F))) 𝒱 none Set.univ d (Pipeline.ucRefs τ sig) (fun x => .ret x) (K := Q) ops
    (fun op h => Pipeline.sub_ucRefs op (hs op h)) hf V
  rw [show (StableHlo.seq ops >>= fun x => .ret x) = StableHlo.seq ops from bind_pure _] at h
  simp only [wp_ret] at h
  iintro ⟨Hk, Hb⟩
  ihave H := h $$ Hb
  iapply H
  iintro Hb
  imodintro
  iapply Hk; iexact Hb

theorem dn_eq (d : Dev nD) : (bigSep Finset.univ fun c : Fin ((K (F := F)).nCore 0) => (P m).dn 0 d c)
    = iprop(oLoc d ↦{fullShare} (drawn d : Buf (Elt F) (oLoc d))) :=
  (bigSep_cores (F := F) fun c => coreAt d c (drawn d)).trans (whole_eq d _).symm

omit [FloatOps F] in
theorem held_one (d : Dev nD) (b : DevRef τ sig) (V : Valuation τ sig (Elt F)) :
    (StableHlo.held (d : Thread nD τ) {b} V : sProp 𝕄) = iprop((d, b) ↦{fullShare} V b) := by
  unfold StableHlo.held
  rw [bigSep_singleton]

theorem sc_runs (κ : GSem nD τ sig → ℕ) (d : Dev nD) (V : Valuation τ sig (Elt F)) (hV : V (Proc.devRef .tc main_v2) = m (oLoc d)) (Q : PUnit → sProp 𝕄) :
    iprop(((K (F := F)).tcSt EH d 1 ∗ StableHlo.held (d : Thread nD τ) (Pipeline.ucRefs τ sig) (Function.update V (Proc.devRef .tc main_v2) (drawn d)) -∗ Q ⟨⟩)
        ∗ (K (F := F)).ctx EH (P m) κ ∗ (K (F := F)).tcSt EH d 0 ∗ StableHlo.held (d : Thread nD τ) (Pipeline.ucRefs τ sig) V)
      ⊢ wp frame (wpE ((K (F := F)).defs (D (F := F))) 𝒱 (SparseCore.T d) none) Set.univ (sc.run d 0) Q := by
  have hm : ({Proc.devRef .tc main_v2} : Finset (DevRef τ sig)) ⊆ Pipeline.ucRefs τ sig :=
    Finset.singleton_subset_iff.mpr (Finset.mem_filter.mpr ⟨StableHlo.devRef_mem_tcRefs _, by decide⟩)
  have hin : (StableHlo.held (d : Thread nD τ) (Pipeline.ucRefs τ sig) V : sProp 𝕄)
      = iprop((oLoc d ↦{fullShare} m (oLoc d)) ∗ StableHlo.held (d : Thread nD τ) (Pipeline.ucRefs τ sig \ {Proc.devRef .tc main_v2}) V) := by
    rw [StableHlo.held_sub_split _ hm, held_one, hV]
  have hrest : (StableHlo.held (d : Thread nD τ) (Pipeline.ucRefs τ sig \ {Proc.devRef .tc main_v2}) (Function.update V (Proc.devRef .tc main_v2) (drawn d)) : sProp 𝕄)
      = StableHlo.held (d : Thread nD τ) (Pipeline.ucRefs τ sig \ {Proc.devRef .tc main_v2}) V := by
    unfold StableHlo.held
    refine bigSep_congr fun b hb => ?_
    rw [Function.update_of_ne fun e => (Finset.mem_sdiff.mp hb).2 (Finset.mem_singleton.mpr e)]
  have hout : (StableHlo.held (d : Thread nD τ) (Pipeline.ucRefs τ sig) (Function.update V (Proc.devRef .tc main_v2) (drawn d)) : sProp 𝕄)
      = iprop((oLoc d ↦{fullShare} (drawn d : Buf (Elt F) (oLoc d))) ∗ StableHlo.held (d : Thread nD τ) (Pipeline.ucRefs τ sig \ {Proc.devRef .tc main_v2}) V) := by
    rw [StableHlo.held_sub_split _ hm, held_one, hrest, Function.update_self]
  rw [hin, hout]
  iintro ⟨Hk, #Hctx, Hst, Ho, Hr⟩
  iapply ((K (F := F)).wp_run (D (F := F)) 𝒱 (EH := EH) (P := P m) κ d 0) $$ [Hst Ho Hk Hr]
  isplitr; · iexact Hctx
  isplitl [Hst]; · iexact Hst
  isplitl [Ho]
  · ihave Ho := (Entails.of_eq ((whole_eq d _).trans (bigSep_cores (F := F) fun c => coreAt d c (m (oLoc d))).symm)) $$ Ho
    iexact Ho
  iintro ⟨Hst, Hdn⟩
  ihave Ho := (Entails.of_eq (dn_eq m d)) $$ Hdn
  iapply Hk
  isplitl [Hst]; · iexact Hst
  isplitl [Ho] <;> iassumption

/-- What the core holds of the SparseCore call's protocol beside its debts. -/
def more (n : ℕ) (d : Dev nD) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq0 (d : Dev nD) : (K (F := F)).tcSt EH d 0
    = iprop((∃ W, ⌜↑W ⊆ bound (F := F) 0 d⌝ ∗ owes (d : Thread nD τ) (debts (F := F) 0 d) W) ∗ more (F := F) 0 d) := rfl
theorem tcSt_eq1 (d : Dev nD) : (K (F := F)).tcSt EH d 1
    = iprop((∃ W, ⌜↑W ⊆ bound (F := F) 1 d⌝ ∗ owes (d : Thread nD τ) (debts (F := F) 1 d) W) ∗ more (F := F) 1 d) := rfl

theorem W2_out (d : Dev nD) : W2 m d (Proc.devRef .tc main_v2) = m (oLoc d) := by
  refine (StableHlo.after_of_writes_sub ops₁ _ writes₁ (by decide)).trans ?_
  exact (Pipeline.withArrays_of_ne spec0 d _ _ main_v2 (by decide))

/-- At the return every unscoped buffer holds what the last step leaves. -/
abbrev fin (d : Dev nD) : sProp 𝕄 := StableHlo.held (d : Thread nD τ) (Pipeline.ucRefs τ sig) (W8 m d)

theorem stage_eq (d : Dev nD) : stage (F := F) d
    = iprop(((Pipeline.cellsGhost (Pipeline.pin (pcfgs (F := F)) adm) EP 0 d) ∗ (Pipeline.cellsGhost (Pipeline.pin (pcfgs (F := F)) adm) EP 1 d)
        ∗ (Pipeline.cellsGhost (Pipeline.pin (pcfgs (F := F)) adm) EP 2 d))
      ∗ ((Pipeline.toksInit (Pipeline.pin (pcfgs (F := F)) adm) EP 0 d) ∗ (Pipeline.toksInit (Pipeline.pin (pcfgs (F := F)) adm) EP 1 d)
        ∗ (Pipeline.toksInit (Pipeline.pin (pcfgs (F := F)) adm) EP 2 d))) := by
  unfold stage
  rw [show (Finset.univ : Finset (Fin 3)) = {0, 1, 2} by decide]
  rw [BI.bigSep_insert (by decide), BI.bigSep_insert (by decide), bigSep_singleton, BI.bigSep_insert (by decide), BI.bigSep_insert (by decide), bigSep_singleton]
  rfl

theorem tcRes_eq (d : Dev nD) : ((K (F := F)).tcRes m ρ d : sProp 𝕄)
    = iprop(boundary (d : Thread nD τ) ∗ StableHlo.held (d : Thread nD τ) (Pipeline.ucRefs τ sig) (W0 m d) ∗ (K (F := F)).tcSems0 d ∗ prngReg d (ρ d)) := by
  unfold SparseCore.Cfg.tcRes
  rw [← Pipeline.unscopedBufs_held]
  rfl

theorem main_runs [∀ e, Nonempty (Elt F e)] (κ : GSem nD τ sig → ℕ) (d : Dev nD) :
    iprop((K (F := F)).ctx EH (P m) κ ∗ (K (F := F)).tcSt EH d 0 ∗ (K (F := F)).tcRes m ρ d ∗ stage (F := F) d)
      ⊢ wp frame (wpE ((K (F := F)).defs (D (F := F))) 𝒱 (SparseCore.T d) none) Set.univ (main d)
          fun _ => iprop((K (F := F)).tcSt EH d 1 ∗ fin m d ∗ (K (F := F)).tcEnd d) := by
  unfold SparseCore.Cfg.tcEnd
  rw [main_eq, stage_eq, tcRes_eq, tcSt_eq0]
  simp only [wp_bind]
  iintro ⟨#Hctx, ⟨HO, Hm⟩, ⟨Hb, Hh, Hts, Hp⟩, ⟨Hg0, Hg1, Hg2⟩, ⟨Ht0, Ht1, Ht2⟩⟩
  ihave #Hlev := (SparseCore.Cfg.ctx_levAts κ) $$ Hctx
  iapply (region_runs launch0 (runs0 m) d _)
  isplitr [Hb Hh HO Hp Hg0 Ht0]
  swap
  · isplitl [Hb]; · iexact Hb
    isplitl [Hh HO Hp]
    · isplitl [Hh]; · iexact Hh
      unfold rest
      isplitl [Hp]; · iexists _; iexact Hp
      iexact HO
    isplitr; · iexact Hlev
    isplitl [Hg0] <;> iassumption
  iintro ⟨Hb, Hh, Hr⟩
  iapply (host_runs d ops₁ subs₁ fresh₁ (W1 m d) (W2 m d) rfl _)
  isplitr [Hb Hh]
  swap; · isplitl [Hb] <;> iassumption
  iintro ⟨Hb, Hh⟩
  unfold rest
  icases Hr with ⟨Hp, HO⟩
  iapply (sc_runs m κ d (W2 m d) (W2_out m d) _)
  isplitr [Hm HO Hh]
  swap
  · isplitr; · iexact Hctx
    isplitr [Hh]
    · iapply (Entails.of_eq (tcSt_eq0 (F := F) d).symm)
      isplitl [HO] <;> iassumption
    iexact Hh
  iintro ⟨Hst, Hh⟩
  iapply (host_runs d ops₂ subs₂ fresh₂ (W3 m d) (W4 m d) rfl _)
  isplitr [Hb Hh]
  swap
  · isplitl [Hb]; · iexact Hb
    iexact Hh
  iintro ⟨Hb, Hh⟩
  ihave Hst := (Entails.of_eq (tcSt_eq1 (F := F) d)) $$ Hst
  icases Hst with ⟨HO, Hm⟩
  iapply (region_runs launch2 (runs1 m) d _)
  isplitr [Hb Hh HO Hp Hg1 Ht1]
  swap
  · isplitl [Hb]; · iexact Hb
    isplitl [Hh HO Hp]
    · isplitl [Hh]; · iexact Hh
      unfold rest
      isplitl [Hp] <;> iassumption
    isplitr; · iexact Hlev
    isplitl [Hg1] <;> iassumption
  iintro ⟨Hb, Hh, Hr⟩
  iapply (host_runs d ops₃ subs₃ fresh₃ (W5 m d) (W6 m d) rfl _)
  isplitr [Hb Hh]
  swap; · isplitl [Hb] <;> iassumption
  iintro ⟨Hb, Hh⟩
  iapply (region_runs launch3 (runs2 m) d _)
  isplitr [Hb Hh Hr Hg2 Ht2]
  swap
  · isplitl [Hb]; · iexact Hb
    isplitl [Hh Hr]
    · isplitl [Hh] <;> iassumption
    isplitr; · iexact Hlev
    isplitl [Hg2] <;> iassumption
  iintro ⟨Hb, Hh, Hr⟩
  iapply (host_runs d ops₄ subs₄ fresh₄ (W7 m d) (W8 m d) rfl _)
  isplitr [Hb Hh]
  swap; · isplitl [Hb] <;> iassumption
  iintro ⟨Hb, Hh⟩
  unfold rest
  icases Hr with ⟨Hp, HO⟩
  isplitl [HO Hm]
  · iapply (Entails.of_eq (tcSt_eq1 (F := F) d).symm)
    isplitl [HO] <;> iassumption
  isplitl [Hh]; · iexact Hh
  isplitl [Hb] <;> iassumption

/-! ## What the memory holds at the return -/

def atEnd (d : Dev nD) (s : Phys nD τ sig (Elt F)) : Prop := ∀ b ∈ Pipeline.ucRefs τ sig, s.mem.mem (d, b) = W8 m d b

theorem at_end (d : Dev nD) (s : Phys nD τ sig (Elt F)) : iprop(fin m d ∗ SI s) ⊢ (⌜atEnd m d s⌝ : sProp 𝕄) := by
  iintro ⟨Ho, HSI⟩
  unfold fin StableHlo.held
  ihave H := (pointsTo_read_all (Pipeline.ucRefs τ sig) (fun b => (d, b)) (W8 m d) s) $$ [HSI Ho]
  · isplitl [Ho] <;> iassumption
  icases H with ⟨%h, -⟩
  ipureintro; exact h

/-- The program runs from every launch memory, leaves in every unscoped buffer what the steps say and no semaphore raised. -/
theorem run [∀ e, Nonempty (Elt F e)] :
    θ_run (Cert.KernelIdeal.defs (F := F)) (Cert.KernelIdeal.threads (F := F)) ⟨m, fun _ => 0, ρ⟩
      (fun r => (∀ c : Dev nD, ∀ b ∈ Pipeline.ucRefs τ sig, r.2.mem (c, b) = W8 m c b) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => task m)
    (fun q _ => match q with | 0 => SparseCore.Cfg.VecSplit.of_plain (deal m))
    m ρ main (stage (F := F)) (fin m) (u₀ (F := F)) (sep_elim_left.trans (start m)) (main_runs m ρ) (atEnd m) (at_end m) _ (fun _ h hz => ⟨h, hz⟩)

end Cert.Proof.Tile

end
-- ==== Proof.Words.lean ====
/-
  The hash of a vector of counters, the reduction of a word modulo 50 by way of a float's floor, and the noise level that
  two words make: each on vectors, as the kernel's bodies write them, and at an index, as functions of words.
-/
module

public import proofs.«01_k».proof.Proof.Draw
public import Idealize.ShloMosaic.PureOps.Ideal

@[expose] public section

noncomputable section

namespace Cert.Proof.Draw

open Idealize.ShloMosaic

variable {F : FTy → Type} {s : Shape}

/-- A key: its two words, their third, and the second words that the five groups add. -/
structure Key where
  a : BitVec 32
  b : BitVec 32
  c : BitVec 32
  e1 : BitVec 32
  e2 : BitVec 32
  e3 : BitVec 32
  e4 : BitVec 32
  e5 : BitVec 32

/-- The words are those that the first two make. -/
def Key.Ok (k : Key) : Prop :=
  k.c = k.a ^^^ k.b ^^^ 466688986#32 ∧ k.e1 = k.c + 1#32 ∧ k.e2 = k.a + 2#32 ∧ k.e3 = k.b + 3#32 ∧ k.e4 = k.c + 4#32 ∧ k.e5 = k.a + 5#32

instance (k : Key) : Decidable k.Ok := by unfold Key.Ok; infer_instance

/-- The keys of the two draws of each noise level, -/
def keyA : Key := ⟨1012194634#32, 3152801799#32, 2624468631#32, 2624468632#32, 1012194636#32, 3152801802#32, 2624468635#32, 1012194639#32⟩
def keyB : Key := ⟨1705926158#32, 899080142#32, 1273600538#32, 1273600539#32, 1705926160#32, 899080145#32, 1273600542#32, 1705926163#32⟩
def keyC : Key := ⟨3187376881#32, 129218101#32, 2711170846#32, 2711170847#32, 3187376883#32, 129218104#32, 2711170850#32, 3187376886#32⟩
def keyD : Key := ⟨2350016172#32, 1168365246#32, 3529550792#32, 3529550793#32, 2350016174#32, 1168365249#32, 3529550796#32, 2350016177#32⟩
/-- of the positions' noise, -/
def key3 : Key := ⟨2465931498#32, 255383827#32, 2249384483#32, 2249384484#32, 2465931500#32, 255383830#32, 2249384487#32, 2465931503#32⟩
/-- and of the types' noise. -/
def key4 : Key := ⟨3134548294#32, 894150801#32, 2488261133#32, 2488261134#32, 3134548296#32, 894150804#32, 2488261137#32, 3134548299#32⟩

/-- The hash of a vector of counters. -/
def vhash (k : Key) (x : IVec s 32) : IVec s 32 × IVec s 32 :=
  vinj k.c k.e5 (vrndsA (vinj k.b k.e4 (vrndsB (vinj k.a k.e3 (vrndsA (vinj k.c k.e2 (vrndsB (vinj k.b k.e1 (vrndsA
    (broadcast s k.a, addi x (broadcast s k.b)))))))))))

/-- The random words of a vector of counters. -/
def vbits (k : Key) (x : IVec s 32) : IVec s 32 := xori (vhash k x).1 (vhash k x).2

theorem vbits_apply (k : Key) (hk : k.Ok) (x : IVec s 32) (l : s.Idx) : vbits k x l = bits k.a k.b (x l) := by
  obtain ⟨a, b, c, e1, e2, e3, e4, e5⟩ := k
  obtain ⟨hc, h1, h2, h3, h4, h5⟩ := hk
  dsimp only at hc h1 h2 h3 h4 h5 ⊢
  have h : at_ (vhash ⟨a, b, c, e1, e2, e3, e4, e5⟩ x) l = hash a b (0#32, x l) := by
    unfold vhash
    have h0 : at_ (broadcast s a, addi x (broadcast s b)) l = inj a b (0#32, x l) := by
      show (a, x l + b) = _
      simp [inj]
    simp only [at_vinj, at_vrndsA, at_vrndsB, h0, h1, h2, h3, h4, h5]
    unfold hash
    rw [← hc]
    rfl
  unfold bits
  rw [← h]
  rfl

/-- The floats in [0, 1) of a vector of words. -/
def vunit [FloatOps F] (w : IVec s 32) : FVec F s .f32 :=
  subf (bitcastToFloat .f32 (ori (shrui w (broadcast s 9#32)) (broadcast s 1065353216#32))) (broadcast s (Scalar.ofBits .f32 0x3F800000#32))

theorem vunit_apply [FloatOps F] (w : IVec s 32) (l : s.Idx) : vunit (F := F) w l = unit (w l) := by
  show FloatOps.subf (FloatOps.ofBits .f32 (IntOp.shrui _ (w l) (BitVec.ofNat 32 9) ||| 1065353216#32)) _ = _
  rw [shr_const 9 (by decide)]
  rfl

/-! ## Modulo 50 -/

/-- A word folded to a smaller one, congruent modulo 50. -/
def vfold (u : IVec s 32) : IVec s 32 := addi (muli (shrui u (broadcast s 16#32)) (broadcast s 36#32)) (andi u (broadcast s 65535#32))

/-- What is left of a word after the estimated multiple of 50. -/
def vleft [FloatOps F] (m : IVec s 32) : IVec s 32 :=
  subi m (muli (fptosi 32 (floor (mulf (sitofp (F := F) .f32 m) (broadcast s (Scalar.ofBits .f32 0x3CA3D70A#32))))) (broadcast s 50#32))

/-- The estimate's corrections. -/
def vup (r : IVec s 32) : IVec s 32 := select (cmpi .slt r (broadcast s 0#32)) (addi r (broadcast s 50#32)) r
def vdown (r : IVec s 32) : IVec s 32 := select (cmpi .sge r (broadcast s 50#32)) (subi r (broadcast s 50#32)) r

def vmod50 (F : FTy → Type) [FloatOps F] (u : IVec s 32) : IVec s 32 := vdown (vdown (vup (vleft (F := F) (vfold u))))

/-- The levels of a vector of counters. -/
def vlevel (F : FTy → Type) [FloatOps F] (k k' : Key) (x : IVec s 32) : IVec s 32 :=
  vmod50 F (addi (muli (vmod50 F (vbits k x)) (broadcast s 46#32)) (vmod50 F (vbits k' x)))

/-- A noise level, from its two words. -/
def level (k k' : Key) (x : BitVec 32) : ℕ := ((bits k.a k.b x).toNat % 50 * 46 + (bits k'.a k'.b x).toNat % 50) % 50

/-- A table looked up by a chain of selections, the last of which counts. -/
def chain [FloatOps F] (v : IVec s 32) (tab : Fin 50 → Elt F .f32) : (n : ℕ) → n ≤ 50 → FVec F s .f32
  | 0, _ => broadcast s (Scalar.ofBits .f32 0#32)
  | n + 1, h => select (cmpi .eq v (broadcast s (BitVec.ofNat 32 n))) (broadcast s (tab ⟨n, h⟩)) (chain v tab n (Nat.le_of_succ_le h))

theorem chain_apply [FloatOps F] (v : IVec s 32) (tab : Fin 50 → Elt F .f32) (l : s.Idx) (k : Fin 50) (hk : v l = BitVec.ofNat 32 k.val) :
    ∀ (n : ℕ) (h : n ≤ 50), k.val < n → chain v tab n h l = tab k
  | 0, _, hn => absurd hn (Nat.not_lt_zero _)
  | n + 1, h, hn => by
    have hk50 := k.isLt
    show (if BitVec.ofBool (v l == BitVec.ofNat 32 n) = 1 then tab ⟨n, h⟩ else chain v tab n _ l) = _
    by_cases e : k.val = n
    · subst e
      rw [hk, beq_self_eq_true]
      rfl
    · rw [if_neg, chain_apply v tab l k hk n _ (by omega)]
      rw [hk]
      have hne : BitVec.ofNat 32 k.val ≠ BitVec.ofNat 32 n := fun h' => e (by
        have := congrArg BitVec.toNat h'
        simp only [BitVec.toNat_ofNat] at this
        omega)
      rw [beq_false_of_ne hne]
      decide

/-! ## The remainder's value -/

/-- The folded word, as a number. -/
def foldN (u : ℕ) : ℕ := u / 65536 * 36 + u % 65536

theorem foldN_mod (u : ℕ) : foldN u % 50 = u % 50 := by unfold foldN; omega

theorem foldN_lt (u : ℕ) (h : u < 4294967296) : foldN u < 2424796 := by unfold foldN; omega

theorem vfold_apply (u : IVec s 32) (l : s.Idx) : vfold u l = BitVec.ofNat 32 (foldN (u l).toNat) := by
  show IntOp.shrui _ (u l) (BitVec.ofNat 32 16) * 36#32 + (u l &&& 65535#32) = _
  rw [shr_const 16 (by decide)]
  have h := (u l).isLt
  apply BitVec.eq_of_toNat_eq
  have e : (u l).toNat &&& 65535 = (u l).toNat % 65536 := Nat.and_two_pow_sub_one_eq_mod _ 16
  simp only [BitVec.toNat_add, BitVec.toNat_mul, BitVec.toNat_ushiftRight, BitVec.toNat_and, BitVec.toNat_ofNat, Nat.shiftRight_eq_div_pow]
  unfold foldN
  norm_num [e]

theorem fiftieth : (Scalar.ofBits .f32 0x3CA3D70A#32 : Ideal .f32) = (((10737418 : ℝ) / 536870912 : ℝ) : EReal) := by
  show Ideal.ofBits .f32 0x3CA3D70A#32 = _
  simp [Ideal.ofBits, Ideal.ieee]
  norm_num [← EReal.coe_mul]

/-- The estimate of a fiftieth, -/
def fif (n : ℕ) : ℕ := n * 10737418 / 536870912

/-- at most one short. -/
theorem fif_spec (n : ℕ) (hn : n < 2424796) : fif n * 50 ≤ n ∧ n < fif n * 50 + 100 := by
  unfold fif
  omega

theorem estimate (n : ℕ) (hn : n < 2424796) :
    FloatOps.fptosi (F := Ideal) (φ := .f32) 32 (FloatOps.floor (FloatOps.mulf (FloatOps.sitofp (F := Ideal) .f32 (BitVec.ofNat 32 n)) (Scalar.ofBits .f32 0x3CA3D70A#32)))
      = BitVec.ofNat 32 (fif n) := by
  rw [fiftieth]
  have hi : (BitVec.ofNat 32 n).toInt = (n : ℤ) := by
    rw [BitVec.toInt_eq_toNat_of_lt] <;> simp <;> omega
  have hf : ⌊(n : ℝ) * (10737418 / 536870912)⌋ = ((fif n : ℕ) : ℤ) := by
    unfold fif
    have h1 := Nat.div_mul_le_self (n * 10737418) 536870912
    have h2 := Nat.lt_div_mul_add (a := n * 10737418) (b := 536870912) (by norm_num)
    have h1' : ((n * 10737418 / 536870912 : ℕ) : ℝ) * 536870912 ≤ n * 10737418 := by exact_mod_cast h1
    have h2' : (n : ℝ) * 10737418 < ((n * 10737418 / 536870912 : ℕ) : ℝ) * 536870912 + 536870912 := by exact_mod_cast h2
    generalize n * 10737418 / 536870912 = q at h1' h2'
    rw [Int.floor_eq_iff, Int.cast_natCast]
    constructor <;> linarith
  show Ideal.fptosi 32 (Ideal.liftRound Int.floor ((((BitVec.ofNat 32 n).toInt : ℝ) : EReal) * ((10737418 / 536870912 : ℝ) : EReal))) = _
  rw [hi, ← EReal.coe_mul, Ideal.liftRound_coe]
  rw [show (((n : ℤ) : ℝ)) = (n : ℝ) from Int.cast_natCast n, hf]
  unfold Ideal.fptosi
  rw [Ideal.toIntClamped_coe]
  have hq : fif n < 2424796 := by have := fif_spec n hn; omega
  generalize fif n = q at hq
  rw [if_pos (by positivity), Int.floor_intCast]
  rw [min_eq_right (by norm_num; omega), max_eq_right (by norm_num)]
  exact BitVec.ofInt_natCast ..

theorem up_apply (r : IVec s 32) (l : s.Idx) (n : ℕ) (hn : n < 1000) (h : r l = BitVec.ofNat 32 n) : vup r l = BitVec.ofNat 32 n := by
  show (if BitVec.ofBool ((r l).slt 0#32) = 1 then r l + 50#32 else r l) = _
  rw [h]
  have : (BitVec.ofNat 32 n).slt 0#32 = false := by
    rw [BitVec.slt, decide_eq_false_iff_not, BitVec.toInt_eq_toNat_of_lt (by simp; omega)]
    simp
    omega
  rw [this]; rfl

theorem down_apply (r : IVec s 32) (l : s.Idx) (n : ℕ) (hn : n < 1000) (h : r l = BitVec.ofNat 32 n) :
    vdown r l = BitVec.ofNat 32 (if 50 ≤ n then n - 50 else n) := by
  show (if BitVec.ofBool ((50#32).sle (r l)) = 1 then r l - 50#32 else r l) = _
  rw [h]
  have e : (50#32).sle (BitVec.ofNat 32 n) = decide (50 ≤ n) := by
    rw [BitVec.sle, BitVec.toInt_eq_toNat_of_lt (x := BitVec.ofNat 32 n) (by simp; omega), BitVec.toInt_eq_toNat_of_lt (by decide)]
    simp only [BitVec.toNat_ofNat, decide_eq_decide]
    omega
  rw [e]
  by_cases h50 : 50 ≤ n
  · rw [decide_eq_true h50, if_pos (by decide), if_pos h50]
    apply BitVec.eq_of_toNat_eq
    simp only [BitVec.toNat_sub, BitVec.toNat_ofNat]
    omega
  · rw [decide_eq_false h50, if_neg (by decide), if_neg h50]

/-- The difference of two words, the second not the larger number. -/
theorem leave (n q : ℕ) (h : q * 50 ≤ n) : BitVec.ofNat 32 n - BitVec.ofNat 32 q * 50#32 = BitVec.ofNat 32 (n - q * 50) := by
  obtain ⟨r, rfl⟩ := Nat.exists_eq_add_of_le h
  rw [Nat.add_sub_cancel_left, BitVec.ofNat_add, BitVec.ofNat_mul, BitVec.add_comm, BitVec.add_sub_cancel]

/-- The remainder is the word modulo 50. -/
theorem vmod50_apply (u : IVec s 32) (l : s.Idx) : vmod50 Ideal u l = BitVec.ofNat 32 ((u l).toNat % 50) := by
  have hlt := foldN_lt _ (u l).isLt
  rw [← foldN_mod]
  have hv := vfold_apply u l
  generalize foldN (u l).toNat = n at hlt hv
  obtain ⟨hf1, hf2⟩ := fif_spec n hlt
  have hl : vleft (F := Ideal) (vfold u) l = BitVec.ofNat 32 (n - fif n * 50) := by
    show vfold u l - FloatOps.fptosi (F := Ideal) (φ := .f32) 32 (FloatOps.floor (FloatOps.mulf (FloatOps.sitofp (F := Ideal) .f32 (vfold u l)) (Scalar.ofBits .f32 0x3CA3D70A#32))) * 50#32 = _
    rw [hv, estimate n hlt]
    exact leave n (fif n) hf1
  unfold vmod50
  generalize fif n = q at hl hf1 hf2
  have hr : n - q * 50 < 100 := by omega
  have hm : (n - q * 50) % 50 = n % 50 := by omega
  generalize n - q * 50 = r at hl hr hm
  rw [down_apply _ l (if 50 ≤ r then r - 50 else r) (by split <;> omega) (down_apply _ l r (by omega) (up_apply _ l r (by omega) hl))]
  congr 1
  split_ifs <;> omega

/-- The level at an index. -/
theorem vlevel_apply (k k' : Key) (hk : k.Ok) (hk' : k'.Ok) (x : IVec s 32) (l : s.Idx) :
    vlevel Ideal k k' x l = BitVec.ofNat 32 (level k k' (x l)) := by
  unfold vlevel level
  rw [vmod50_apply]
  show BitVec.ofNat 32 ((vmod50 Ideal (vbits k x) l * 46#32 + vmod50 Ideal (vbits k' x) l).toNat % 50) = _
  rw [vmod50_apply, vmod50_apply, vbits_apply k hk, vbits_apply k' hk']
  congr 1
  have h1 := Nat.mod_lt (bits k.a k.b (x l)).toNat (show 0 < 50 by decide)
  have h2 := Nat.mod_lt (bits k'.a k'.b (x l)).toNat (show 0 < 50 by decide)
  generalize (bits k.a k.b (x l)).toNat % 50 = p at h1
  generalize (bits k'.a k'.b (x l)).toNat % 50 = q at h2
  simp only [BitVec.toNat_add, BitVec.toNat_mul, BitVec.toNat_ofNat]
  rw [Nat.mod_eq_of_lt (show p < 2 ^ 32 by omega), Nat.mod_eq_of_lt (show q < 2 ^ 32 by omega), Nat.mod_eq_of_lt (show 46 < 2 ^ 32 by decide),
    Nat.mod_eq_of_lt (show p * 46 < 2 ^ 32 by omega), Nat.mod_eq_of_lt (show p * 46 + q < 2 ^ 32 by omega)]

end Cert.Proof.Draw

end
-- ==== Proof.Noise.lean ====
/-
  The noise that the kernel's bodies add: each step on vectors, as the bodies write it.
-/
module

public import proofs.«01_k».proof.Proof.Words
public import Idealize.ShloMosaic.PureOps.Reduce
public import Idealize.ShloMosaic.PureOps.Ideal

@[expose] public section

noncomputable section

namespace Cert.Proof.Draw

open Idealize.ShloMosaic

variable {F : FTy → Type} [FloatOps F] {s : Shape}

/-- A vector holding one float everywhere. -/
def fill (s : Shape) (w : BitVec 32) : FVec F s .f32 := broadcast s (Scalar.ofBits .f32 w)

/-- A draw in [0, 1), stretched and moved, and kept from going below the least value. -/
def vuni (span low : BitVec 32) (x : FVec F s .f32) : FVec F s .f32 :=
  maximumf (addf (mulf x (fill s span)) (fill s low)) (fill s low)

/-- The noise on a type's logit, from a draw. -/
def vgum (x : FVec F s .f32) : FVec F s .f32 :=
  subf (fill s 0#32) (log (subf (fill s 0#32) (log (vuni 0x3F800000#32 0x00800000#32 x))))

/-- A polynomial, its coefficients from the last to the first. -/
def vpoly (x : FVec F s .f32) (c₀ : BitVec 32) : List (BitVec 32) → FVec F s .f32
  | [] => fill s c₀
  | c :: l => addf (fill s c) (mulf (vpoly x c₀ l) x)

/-- The two polynomials' coefficients, the last first. -/
def smalls : List (BitVec 32) :=
  [0x3FC02E2F#32, 0x3E7C8F63#32, 0xBB88E4EF#32, 0xBAA45408#32, 0x396532DB#32, 0xB6935AC1#32, 0xB66C7357#32, 0x34B84B36#32]
def bigs : List (BitVec 32) :=
  [0x40354F7E#32, 0x3F8036DB#32, 0x3C1AA57E#32, 0xBBF9C5D7#32, 0x3BBC127B#32, 0xBB70BDE7#32, 0x3AB0DC72#32, 0x38D3B56B#32]

/-- The inverse error function over its argument, from the logarithm. -/
def vgiles (w : FVec F s .f32) : FVec F s .f32 :=
  select (cmpf .olt w (fill s 0x40A00000#32)) (vpoly (subf w (fill s 0x40200000#32)) 0x32F16588#32 smalls)
    (vpoly (subf (sqrt w) (fill s 0x40400000#32)) 0xB951F09B#32 bigs)

/-- A symmetric draw from a draw in [0, 1). -/
def vsym (x : FVec F s .f32) : FVec F s .f32 := vuni 0x40000000#32 0xBF7FFFFF#32 x

/-- The logarithm of the inverse error function's argument. -/
def vlog (u : FVec F s .f32) : FVec F s .f32 :=
  subf (fill s 0#32) (log (mulf (subf (fill s 0x3F800000#32) u) (addf (fill s 0x3F800000#32) u)))

/-- A normal draw. -/
def vnormal (x : FVec F s .f32) : FVec F s .f32 :=
  mulf (fill s 0x3FB504F3#32) (mulf (vgiles (vlog (vsym x))) (vsym x))

/-! ## At an index -/

/-- A float, from its word. -/
abbrev flit (w : BitVec 32) : F .f32 := FloatOps.ofBits .f32 w

def uni (span low : BitVec 32) (x : F .f32) : F .f32 :=
  FloatOps.maximumf (FloatOps.addf (FloatOps.mulf x (flit span)) (flit low)) (flit low)

theorem vuni_apply (span low : BitVec 32) (x : FVec F s .f32) (l : s.Idx) : vuni span low x l = uni span low (x l) := rfl

def gum (x : F .f32) : F .f32 :=
  FloatOps.subf (flit 0#32) (FloatOps.log (FloatOps.subf (flit 0#32) (FloatOps.log (uni 0x3F800000#32 0x00800000#32 x))))

theorem vgum_apply (x : FVec F s .f32) (l : s.Idx) : vgum x l = gum (x l) := rfl

def poly (x : F .f32) (c₀ : BitVec 32) : List (BitVec 32) → F .f32
  | [] => flit c₀
  | c :: l => FloatOps.addf (flit c) (FloatOps.mulf (poly x c₀ l) x)

theorem vpoly_apply (x : FVec F s .f32) (c₀ : BitVec 32) (i : s.Idx) : ∀ l, vpoly x c₀ l i = poly (x i) c₀ l
  | [] => rfl
  | c :: l => by
    show FloatOps.addf _ (FloatOps.mulf (vpoly x c₀ l i) (x i)) = _
    rw [vpoly_apply x c₀ i l]
    rfl

def giles (w : F .f32) : F .f32 :=
  if FloatOps.cmpf .olt w (flit 0x40A00000#32) = 1#1 then poly (FloatOps.subf w (flit 0x40200000#32)) 0x32F16588#32 smalls
  else poly (FloatOps.subf (FloatOps.sqrt w) (flit 0x40400000#32)) 0xB951F09B#32 bigs

theorem vgiles_apply (w : FVec F s .f32) (i : s.Idx) : vgiles w i = giles (w i) := by
  show (if FloatOps.cmpf .olt (w i) _ = 1#1 then vpoly _ _ _ i else vpoly _ _ _ i) = _
  rw [vpoly_apply, vpoly_apply]
  rfl

def sym (x : F .f32) : F .f32 := uni 0x40000000#32 0xBF7FFFFF#32 x

def lg (u : F .f32) : F .f32 :=
  FloatOps.subf (flit 0#32) (FloatOps.log (FloatOps.mulf (FloatOps.subf (flit 0x3F800000#32) u) (FloatOps.addf (flit 0x3F800000#32) u)))

def normal (x : F .f32) : F .f32 := FloatOps.mulf (flit 0x3FB504F3#32) (FloatOps.mulf (giles (lg (sym x))) (sym x))

theorem vnormal_apply (x : FVec F s .f32) (i : s.Idx) : vnormal x i = normal (x i) := by
  show FloatOps.mulf _ (FloatOps.mulf (vgiles _ i) _) = _
  rw [vgiles_apply]
  rfl

/-! ## The place of the greatest entry -/

/-- The first place at which a list of extended reals is greatest. -/
def IsPick {n : ℕ} (v : Fin n → EReal) (k : Fin n) : Prop := (∀ j, v j ≤ v k) ∧ ∀ j, j < k → v j < v k

theorem IsPick.unique {n : ℕ} {v : Fin n → EReal} {k k' : Fin n} (h : IsPick v k) (h' : IsPick v k') : k = k' := by
  rcases lt_trichotomy k k' with e | e | e
  · exact absurd (h'.2 k e) (not_lt.mpr (h.1 k'))
  · exact e
  · exact absurd (h.2 k' e) (not_lt.mpr (h'.1 k))

theorem exists_pick {n : ℕ} (v : Fin (n + 1) → EReal) : ∃ k, IsPick v k := by
  obtain ⟨k₀, -, h₀⟩ := Finset.exists_max_image Finset.univ v ⟨0, Finset.mem_univ _⟩
  let s := Finset.univ.filter fun k => v k = v k₀
  have hs : s.Nonempty := ⟨k₀, by simp [s]⟩
  have hm : v (s.min' hs) = v k₀ := (Finset.mem_filter.mp (s.min'_mem hs)).2
  refine ⟨s.min' hs, fun j => hm ▸ h₀ j (Finset.mem_univ _), fun j hj => ?_⟩
  rw [hm]
  refine lt_of_le_of_ne (h₀ j (Finset.mem_univ _)) fun e => ?_
  exact absurd (s.min'_le j (by simp [s, e])) (not_le.mpr hj)

theorem fold_max_pick {n : ℕ} {v : Fin n → EReal} {k : Fin n} (h : IsPick v k) (b : EReal) (hb : b = ⊥) : Finset.univ.fold max b v = v k := by
  subst hb
  refine le_antisymm (Finset.fold_max_le (c := v k) |>.mpr ⟨bot_le, fun j _ => h.1 j⟩) (Finset.le_fold_max (c := v k) |>.mpr (Or.inr ⟨k, Finset.mem_univ _, le_rfl⟩))

theorem minsi_ofNat (a b : ℕ) (ha : a < 2 ^ 31) (hb : b < 2 ^ 31) :
    IntOp.minsi (BitVec.ofNat 32 a) (BitVec.ofNat 32 b) = BitVec.ofNat 32 (min a b) := by
  have h : ∀ c, c < 2 ^ 31 → (BitVec.ofNat 32 c).toInt = c := fun c hc => by
    rw [BitVec.toInt_eq_toNat_cond, BitVec.toNat_ofNat]
    split_ifs <;> omega
  unfold IntOp.minsi
  rw [BitVec.slt_eq_decide, h a ha, h b hb]
  rcases lt_or_ge a b with e | e
  · rw [min_eq_left e.le, if_pos (by simpa using e)]
  · rw [min_eq_right e, if_neg (by simpa using e)]

theorem fold_minsi {ι : Type*} (t : Finset ι) (B : ℕ) (hB : B < 2 ^ 31) (g : ι → ℕ) (hg : ∀ j, g j < 2 ^ 31) :
    t.fold IntOp.minsi (BitVec.ofNat 32 B) (fun j => BitVec.ofNat 32 (g j)) = BitVec.ofNat 32 (t.fold min B g) ∧ t.fold min B g < 2 ^ 31 := by
  classical
  induction t using Finset.induction_on with
  | empty => exact ⟨rfl, hB⟩
  | insert a t ha ih =>
    rw [Finset.fold_insert ha, Finset.fold_insert ha, ih.1]
    exact ⟨minsi_ofNat _ _ (hg a) ih.2, lt_of_le_of_lt (min_le_left _ _) (hg a)⟩

theorem fold_pick {n : ℕ} {v : Fin n → EReal} {k : Fin n} (h : IsPick v k) (hn : n ≤ 100) (f : Fin n → BitVec 32)
    (hf : ∀ j, f j = if v j = v k then BitVec.ofNat 32 j.val else 100#32) :
    Finset.univ.fold IntOp.minsi 2147483647#32 f = BitVec.ofNat 32 k.val := by
  have hk := k.isLt
  have e : f = fun j => BitVec.ofNat 32 (if v j = v k then j.val else 100) := funext fun j => by
    rw [hf j]
    split_ifs <;> rfl
  rw [e]
  refine (fold_minsi Finset.univ 2147483647 (by norm_num) (fun j : Fin n => if v j = v k then j.val else 100) fun j => ?_).1.trans ?_
  · have := j.isLt
    show (if _ then _ else _) < _
    split_ifs <;> omega
  congr 1
  refine le_antisymm (Finset.fold_min_le (c := k.val) |>.mpr (Or.inr ⟨k, Finset.mem_univ _, ?_⟩)) (Finset.le_fold_min (c := k.val) |>.mpr ⟨by omega, fun j _ => ?_⟩)
  · rw [if_pos rfl]
  · split_ifs with hj
    · by_contra hlt
      exact absurd (h.2 j (Fin.lt_def.mpr (not_le.mp hlt))) (by rw [hj]; exact lt_irrefl _)
    · omega

end Cert.Proof.Draw

end
-- ==== Proof.Tables.lean ====
/-
  The two tables that the levels' call leaves: at row `i`, column `j`, the entry of its argument at the level of counter
  `128 i + j`.
-/
module

public import proofs.«01_k».proof.Proof.Words
public import proofs.«01_k».proof.Proof.Levels
public import Idealize.ShloMosaic.Lib.WholeRead

@[expose] public section

noncomputable section

namespace Cert.Proof.Tile

open Cert.KernelIdeal Cert.KernelIdeal.Gen
open Cert.Proof.Draw
open Idealize.ShloMosaic Idealize.ShloMosaic.TcCoe Idealize.ShloMosaic.Tactic

variable {F : FTy → Type} [FloatOps F]

/-- The counters. -/
def tctr : IVec S32x128 32 :=
  addi (muli (broadcast S32x128 128#32) (iota .tc S32x128 32 [0] iota_S32x128_d0_w32)) (iota .tc S32x128 32 [1] iota_S32x128_d1_w32)

theorem level_x : kernelRun0_A.sl.v425 (F := F) = vlevel F keyA keyB tctr := by sl_kernel_rfl

theorem inb1 (k : Fin 50) : ∀ a, (![k.val] : Fin 1 → ℕ) a + S1.size a ≤ S50.size a := fun a => by
  have := k.isLt
  fin_cases a
  exact this

/-- A word of a table in scalar memory, as the body reads it. -/
def tread (arg : Memref sig .tc .smem S50 .f32) (harg : arg.IsWhole) (x : Vec F S50 .f32) (k : Fin 50) : Elt F .f32 :=
  View.readAt (Elt F) arg.view (Rect.unit (s := S50) ![k.val] S1.size (inb1 k)).toLoadRect (harg.unread x) (Shape.Idx.first (numel1_S1.symm ▸ Nat.one_pos))

variable (c : Dev nD) (arg0 : Memref sig .tc .smem S50 .f32) (harg0 : arg0.IsWhole) (arg1 : Memref sig .tc .smem S50 .f32) (harg1 : arg1.IsWhole)
  (arg2 : Memref sig .tc .vmem S32x128 .f32) (harg2 : arg2.IsWhole) (arg3 : Memref sig .tc .vmem S32x128 .f32) (harg3 : arg3.IsWhole)
  (x0 x1 : Vec F S50 .f32)

theorem pieces_x : (kernelRun0_A c arg0 harg0 arg1 harg1 arg2 harg2 arg3 harg3 x0 x1).1
    = [⟨Rect.unit (s := S32x128) ![0, 0] S32x128.size inb_S32x128_S32x128_0_0,
        chain (kernelRun0_A.sl.v425 (F := F)) (tread arg0 harg0 x0) 50 (le_refl _)⟩] := by sl_kernel_rfl

theorem pieces_t : (kernelRun0_A c arg0 harg0 arg1 harg1 arg2 harg2 arg3 harg3 x0 x1).2.1
    = [⟨Rect.unit (s := S32x128) ![0, 0] S32x128.size inb_S32x128_S32x128_0_0,
        chain (vlevel F keyC keyD tctr) (tread arg1 harg1 x1) 50 (le_refl _)⟩] := by sl_kernel_rfl

end Cert.Proof.Tile

end
-- ==== Proof.Blocks.lean ====
/-
  What the two bodies store, as expressions of their blocks.
-/
module

public import proofs.«01_k».proof.Proof.Noise
public import proofs.«01_k».proof.Proof.Tables
public import proofs.«01_k».proof.Proof.Full
public import proofs.«01_k».proof.Proof.Consume

@[expose] public section

noncomputable section

namespace Cert.Proof.Tile

open Cert.KernelIdeal Cert.KernelIdeal.Gen
open Cert.Proof.Draw
open Idealize.ShloMosaic Idealize.ShloMosaic.TcCoe Idealize.ShloMosaic.Tactic

variable {F : FTy → Type} [FloatOps F]

theorem inbRow (n : ℕ) (h : n < 128) : ∀ a, (![0, 32 * n] : Fin 2 → ℕ) a + S1x32.size a ≤ S1x4096.size a := fun a => by
  fin_cases a
  · show 0 + 1 ≤ 1
    omega
  · show 32 * n + 32 ≤ 4096
    omega

/-- The pieces of a row that a body fills crystal by crystal, the last first. -/
def rowPieces (tab : Fin 128 → Elt F .f32) : (n : ℕ) → n ≤ 128 → List (View.Piece (Elt F) S1x4096 .f32)
  | 0, _ => []
  | n + 1, h => ⟨Rect.unit (s := S1x4096) ![0, 32 * n] S1x32.size (inbRow n h), shapeCast S1x32 (broadcast S1x32 (tab ⟨n, h⟩)) shapeCasts_S1x32_S1x32⟩
      :: rowPieces tab n (Nat.le_of_succ_le h)

/-- A crystal's word of a table in scalar memory, as the full body reads it. -/
def tread2 (i : grid2.Coords) (arg : Memref sig .tc .smem S4096 .f32) (harg : arg.IsWhole) (x : Vec F S4096 .f32) (k : Fin 128) : Elt F .f32 :=
  View.readAt (Elt F) arg.view (Rect.unit (s := S4096) (k2_off1 i (BitVec.ofNat 32 k.val)) S1.size (k2_off1_inb i k)).toLoadRect (harg.unread x) (Shape.Idx.first (numel1_S1.symm ▸ Nat.one_pos))

variable (c : Dev nD) (i : grid2.Coords) (arg1 : Memref sig .tc .vmem S100x4096 .f32) (harg1 : arg1.IsWhole) (arg2 : Memref sig .tc .vmem S1x1x4096 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S3x4096 .f32) (harg6 : arg6.IsWhole) (arg7 : Memref sig .tc .vmem S1x1x4096 .i32) (harg7 : arg7.IsWhole) (arg8 : Memref sig .tc .vmem S1x4096 .f32) (harg8 : arg8.IsWhole) (arg9 : Memref sig .tc .vmem S1x4096 .f32) (harg9 : arg9.IsWhole)
    (x0 : Vec F S100x4096 .f32) (x1 : Vec F S1x1x4096 .i32) (x2 : Vec F S3x4096 .f32) (x3 : Vec F S4096 .f32) (x4 : Vec F S4096 .f32)

theorem rows2 : kernelRun2_A.sl.HS0_128 c i arg4 harg4 x3 = rowPieces (tread2 i arg4 harg4 x3) 128 (le_refl _) := by sl_kernel_rfl
theorem rows2' : kernelRun2_A.sl.HS1_128 c i arg5 harg5 x4 = rowPieces (tread2 i arg5 harg5 x4) 128 (le_refl _) := by sl_kernel_rfl

/-- The counters of a block's draws for the positions. -/
def xctr (g : BitVec 32) : IVec S3x4096 32 :=
  addi (addi (iota .tc S3x4096 32 [0] iota_S3x4096_d0_w32) (muli (broadcast S3x4096 3#32) (iota .tc S3x4096 32 [1] iota_S3x4096_d1_w32)))
    (broadcast S3x4096 (Scalar.muli 12288#32 g))

/-- A block's positions with their noise. -/
def xval (g : BitVec 32) (x : FVec F S3x4096 .f32) (r : FVec F S1x4096 .f32) : FVec F S3x4096 .f32 :=
  addf (shapeCast S3x4096 x shapeCasts_S3x4096_S3x4096)
    (mulf (vnormal (vunit (vbits key3 (xctr g)))) (broadcastTo S3x4096 r broadcasts_S1x4096_S3x4096))

theorem pieces2_x : (kernelRun2_A c i arg1 harg1 arg2 harg2 arg3 harg3 arg4 harg4 arg5 harg5 arg6 harg6 arg7 harg7 arg8 harg8 arg9 harg9 x0 x1 x2 x3 x4).1
    = [⟨Rect.unit (s := S3x4096) ![0, 0] S3x4096.size inb_S3x4096_S3x4096_0_0,
        xval (Scalar.addi (BitVec.ofNat 32 (i 0).val) 12#32)
          (View.readAt (Elt F) arg3.view (Rect.unit (s := S3x4096) ![0, 0] S3x4096.size inb_S3x4096_S3x4096_0_0).toLoadRect (harg3.unread x2))
          (kernelRun2_A.sl.v2272 c i arg5 harg5 arg9 x4)⟩] := by sl_kernel_rfl

/-- The counters of a block's draws for the types. -/
def hctr (g : BitVec 32) : IVec S100x4096 32 :=
  addi (addi (iota .tc S100x4096 32 [0] iota_S100x4096_d0_w32) (muli (broadcast S100x4096 100#32) (iota .tc S100x4096 32 [1] iota_S100x4096_d1_w32)))
    (broadcast S100x4096 (Scalar.muli 409600#32 g))

/-- The full body's logits with their noise. -/
def hval (g : BitVec 32) (p : FVec F S100x4096 .f32) (h : IVec S1x1x4096 32) (r : FVec F S1x4096 .f32) : FVec F S100x4096 .f32 :=
  addf (vgum (vunit (vbits key4 (hctr g))))
    (log (addf (select (cmpi .eq (iota .tc S100x4096 32 [0] iota_S100x4096_d0_w32)
        (broadcastTo S100x4096 (subi (shapeCast S1x4096 (shapeCast S1x1x4096 h shapeCasts_S1x1x4096_S1x1x4096) shapeCasts_S1x1x4096_S1x4096) (broadcast S1x4096 1#32)) broadcasts_S1x4096_S100x4096))
          (fill S100x4096 0x3F800000#32) (fill S100x4096 0#32))
      (mulf (shapeCast S100x4096 p shapeCasts_S100x4096_S100x4096) (broadcastTo S100x4096 r broadcasts_S1x4096_S100x4096))))

/-- The least row at which a column's greatest value stands, and one more. -/
def hpick (v : FVec F S100x4096 .f32) : IVec S1x1x4096 32 :=
  shapeCast S1x1x4096 (addi (shapeCast S1x4096
    (multiReductionI .minsi [0] S4096 (select (cmpf .oeq v (broadcastTo S100x4096 (shapeCast S1x4096
        (multiReduction .maximumf [0] S4096 v 0xFF800000#32 reduces_S100x4096_S4096 (.inl rfl) rfl) shapeCasts_S4096_S1x4096) broadcasts_S1x4096_S100x4096))
      (iota .tc S100x4096 32 [0] iota_S100x4096_d0_w32) (broadcast S100x4096 100#32)) 2147483647#32 reduces_S100x4096_S4096 rfl) shapeCasts_S4096_S1x4096)
    (broadcast S1x4096 1#32)) shapeCasts_S1x4096_S1x1x4096

theorem pieces2_h : (kernelRun2_A c i arg1 harg1 arg2 harg2 arg3 harg3 arg4 harg4 arg5 harg5 arg6 harg6 arg7 harg7 arg8 harg8 arg9 harg9 x0 x1 x2 x3 x4).2.1
    = [⟨Rect.unit (s := S1x1x4096) ![0, 0, 0] S1x1x4096.size inb_S1x1x4096_S1x1x4096_0_0_0,
        hpick (hval (Scalar.addi (BitVec.ofNat 32 (i 0).val) 12#32)
          (View.readAt (Elt F) arg1.view (Rect.unit (s := S100x4096) ![0, 0] S100x4096.size inb_S100x4096_S100x4096_0_0).toLoadRect (harg1.unread x0))
          (View.readAt (Elt F) arg2.view (Rect.unit (s := S1x1x4096) ![0, 0, 0] S1x1x4096.size inb_S1x1x4096_S1x1x4096_0_0_0).toLoadRect (harg2.unread x1))
          (arg8.view.readCov (kernelRun2_A.sl.HS0_128 c i arg4 harg4 x3) (Rect.unit (s := S1x4096) ![0, 0] S1x4096.size inb_S1x4096_S1x4096_0_0).toLoadRect))⟩] := by sl_kernel_rfl

/-! ## The consuming body -/

theorem inbCol (n : ℕ) (h : n < 128) : ∀ a, (![32 * n, 0] : Fin 2 → ℕ) a + S32x1.size a ≤ S4096x1.size a := fun a => by
  fin_cases a
  · show 32 * n + 32 ≤ 4096
    omega
  · show 0 + 1 ≤ 1
    omega

/-- The pieces of a column that a body fills crystal by crystal, the last first. -/
def colPieces (tab : Fin 128 → Elt F .f32) : (n : ℕ) → n ≤ 128 → List (View.Piece (Elt F) S4096x1 .f32)
  | 0, _ => []
  | n + 1, h => ⟨Rect.unit (s := S4096x1) ![32 * n, 0] S32x1.size (inbCol n h), shapeCast S32x1 (broadcast S32x1 (tab ⟨n, h⟩)) shapeCasts_S32x1_S32x1⟩
      :: colPieces tab n (Nat.le_of_succ_le h)

/-- A crystal's word of a table in scalar memory, as the consuming body reads it. -/
def tread3 (i : grid3.Coords) (arg : Memref sig .tc .smem S4096 .f32) (harg : arg.IsWhole) (x : Vec F S4096 .f32) (k : Fin 128) : Elt F .f32 :=
  View.readAt (Elt F) arg.view (Rect.unit (s := S4096) (k3_off1 i (BitVec.ofNat 32 k.val)) S1.size (k3_off1_inb i k)).toLoadRect (harg.unread x) (Shape.Idx.first (numel1_S1.symm ▸ Nat.one_pos))

/-- The consuming body's logits with their noise. -/
def cval (u : FVec F S4096x128 .f32) (p : FVec F S4096x100 .f32) (h : IVec S4096x1 32) (r : FVec F S4096x1 .f32) : FVec F S4096x100 .f32 :=
  addf (vgum (extractStridedSlice S4096x100 ![0, 0] (shapeCast S4096x128 u shapeCasts_S4096x128_S4096x128) slices_S4096x128_o0_0_S4096x100))
    (log (addf (select (cmpi .eq (iota .tc S4096x100 32 [1] iota_S4096x100_d1_w32)
        (broadcastTo S4096x100 (subi (shapeCast S4096x1 h shapeCasts_S4096x1_S4096x1) (broadcast S4096x1 1#32)) broadcasts_S4096x1_S4096x100))
          (fill S4096x100 0x3F800000#32) (fill S4096x100 0#32))
      (mulf (shapeCast S4096x100 p shapeCasts_S4096x100_S4096x100) (broadcastTo S4096x100 r broadcasts_S4096x1_S4096x100))))

/-- The least column at which a row's greatest value stands, and one more. -/
def cpick (v : FVec F S4096x100 .f32) : IVec S4096x1 32 :=
  addi (shapeCast S4096x1
    (multiReductionI .minsi [1] S4096 (select (cmpf .oeq v (broadcastTo S4096x100 (shapeCast S4096x1
        (multiReduction .maximumf [1] S4096 v 0xFF800000#32 reduces_S4096x100_S4096 (.inl rfl) rfl) shapeCasts_S4096_S4096x1) broadcasts_S4096x1_S4096x100))
      (iota .tc S4096x100 32 [1] iota_S4096x100_d1_w32) (broadcast S4096x100 100#32)) 2147483647#32 reduces_S4096x100_S4096 rfl) shapeCasts_S4096_S4096x1)
    (broadcast S4096x1 1#32)

section
variable (c : Dev nD) (i : grid3.Coords) (arg1 : Memref sig .tc .vmem S4096x100 .f32) (harg1 : arg1.IsWhole) (arg2 : Memref sig .tc .vmem S4096x1 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S4096x128 .f32) (harg6 : arg6.IsWhole) (arg8 : Memref sig .tc .vmem S3x4096 .f32) (harg8 : arg8.IsWhole) (arg9 : Memref sig .tc .vmem S4096x1 .i32) (harg9 : arg9.IsWhole) (arg10 : Memref sig .tc .vmem S4096x1 .f32) (harg10 : arg10.IsWhole) (arg11 : Memref sig .tc .vmem S1x4096 .f32) (harg11 : arg11.IsWhole)
    (x0 : Vec F S4096x100 .f32) (x1 : Vec F S4096x1 .i32) (x2 : Vec F S3x4096 .f32) (x3 : Vec F S4096 .f32) (x4 : Vec F S4096 .f32) (x5 : Vec F S4096x128 .f32)

theorem cols3 : kernelRun3_A.sl.HS0_128 c i arg4 harg4 x3 = colPieces (tread3 i arg4 harg4 x3) 128 (le_refl _) := by sl_kernel_rfl
theorem rows3 : kernelRun3_A.sl.HS1_128 c i arg5 harg5 x4 = rowPieces (tread3 i arg5 harg5 x4) 128 (le_refl _) := by sl_kernel_rfl

theorem pieces3_x : (kernelRun3_A c i arg1 harg1 arg2 harg2 arg3 harg3 arg4 harg4 arg5 harg5 arg6 harg6 arg8 harg8 arg9 harg9 arg10 harg10 arg11 harg11 x0 x1 x2 x3 x4 x5).1
    = [⟨Rect.unit (s := S3x4096) ![0, 0] S3x4096.size inb_S3x4096_S3x4096_0_0,
        xval (BitVec.ofNat 32 (i 0).val)
          (View.readAt (Elt F) arg3.view (Rect.unit (s := S3x4096) ![0, 0] S3x4096.size inb_S3x4096_S3x4096_0_0).toLoadRect (harg3.unread x2))
          (arg11.view.readCov (kernelRun3_A.sl.HS1_128 c i arg5 harg5 x4) (Rect.unit (s := S1x4096) ![0, 0] S1x4096.size inb_S1x4096_S1x4096_0_0).toLoadRect)⟩] := by sl_kernel_rfl

theorem pieces3_h : (kernelRun3_A c i arg1 harg1 arg2 harg2 arg3 harg3 arg4 harg4 arg5 harg5 arg6 harg6 arg8 harg8 arg9 harg9 arg10 harg10 arg11 harg11 x0 x1 x2 x3 x4 x5).2.1
    = [⟨Rect.unit (s := S4096x1) ![0, 0] S4096x1.size inb_S4096x1_S4096x1_0_0,
        cpick (cval
          (View.readAt (Elt F) arg6.view (Rect.unit (s := S4096x128) ![0, 0] S4096x128.size inb_S4096x128_S4096x128_0_0).toLoadRect (harg6.unread x5))
          (View.readAt (Elt F) arg1.view (Rect.unit (s := S4096x100) ![0, 0] S4096x100.size inb_S4096x100_S4096x100_0_0).toLoadRect (harg1.unread x0))
          (View.readAt (Elt F) arg2.view (Rect.unit (s := S4096x1) ![0, 0] S4096x1.size inb_S4096x1_S4096x1_0_0).toLoadRect (harg2.unread x1))
          (arg10.view.readCov (kernelRun3_A.sl.HS0_128 c i arg4 harg4 x3) (Rect.unit (s := S4096x1) ![0, 0] S4096x1.size inb_S4096x1_S4096x1_0_0).toLoadRect))⟩] := by sl_kernel_rfl
end

end Cert.Proof.Tile

end
-- ==== Proof.Pick.lean ====
/-
  What the two bodies store, index by index, at the ideal values.
-/
module

public import proofs.«01_k».proof.Proof.Blocks
public import Idealize.ShloMosaic.PureOps.Ideal.Laws
public import Idealize.ShloMosaic.Lib.Pointwise.Reduce
public import Idealize.ShloMosaic.Lib.Pipeline.Value

@[expose] public section

noncomputable section

namespace Cert.Proof.Tile

open Cert.KernelIdeal Cert.KernelIdeal.Gen
open Cert.Proof.Draw
open Idealize.ShloMosaic Idealize.ShloMosaic.TcCoe Idealize.ShloMosaic.Tactic

/-! ## A row filled crystal by crystal -/

section
variable {F : FTy → Type} [FloatOps F] [∀ e, Nonempty (Elt F e)]

theorem rowPieces_canon (tab : Fin 128 → Elt F .f32) (a : Fin 4096) (k : Fin 128) (hk : a.val / 32 = k.val) :
    ∀ (n : ℕ) (h : n ≤ 128), k.val < n → View.canon (rowPieces tab n h) (ix2 (n0 := 1) 0 a) = tab k
  | 0, _, h => absurd h (by omega)
  | n + 1, h, hlt => by
    rw [rowPieces]
    by_cases e : k.val = n
    · have hm : a.val % 32 < 32 := Nat.mod_lt _ (by norm_num)
      have hx : (Rect.unit (s := S1x4096) ![0, 32 * n] S1x32.size (inbRow n h)).emb (ix2 (n0 := 1) (n1 := 32) 0 ⟨a.val % 32, hm⟩) = ix2 (n0 := 1) 0 a := by
        funext b
        apply Fin.ext
        fin_cases b
        · rfl
        · show 32 * n + 1 * (a.val % 32) = a.val
          omega
      rw [← hx, View.canon_cons_emb]
      have : k = ⟨n, h⟩ := Fin.ext e
      rw [this]
      rfl
    · rw [View.canon_cons_of_not_mem]
      · exact rowPieces_canon tab a k hk n _ (by omega)
      · intro hx
        have h1 := (Rect.mem_set_unit (inb := inbRow n h)).mp hx 1
        have h2 : 32 * n ≤ a.val ∧ a.val < 32 * n + 32 := h1
        omega

theorem colPieces_canon (tab : Fin 128 → Elt F .f32) (a : Fin 4096) (k : Fin 128) (hk : a.val / 32 = k.val) :
    ∀ (n : ℕ) (h : n ≤ 128), k.val < n → View.canon (colPieces tab n h) (ix2 (n1 := 1) a 0) = tab k
  | 0, _, h => absurd h (by omega)
  | n + 1, h, hlt => by
    rw [colPieces]
    by_cases e : k.val = n
    · have hm : a.val % 32 < 32 := Nat.mod_lt _ (by norm_num)
      have hx : (Rect.unit (s := S4096x1) ![32 * n, 0] S32x1.size (inbCol n h)).emb (ix2 (n0 := 32) (n1 := 1) ⟨a.val % 32, hm⟩ 0) = ix2 (n1 := 1) a 0 := by
        funext b
        apply Fin.ext
        fin_cases b
        · show 32 * n + 1 * (a.val % 32) = a.val
          omega
        · rfl
      rw [← hx, View.canon_cons_emb]
      have : k = ⟨n, h⟩ := Fin.ext e
      rw [this]
      rfl
    · rw [View.canon_cons_of_not_mem]
      · exact colPieces_canon tab a k hk n _ (by omega)
      · intro hx
        have h1 := (Rect.mem_set_unit (inb := inbCol n h)).mp hx 0
        have h2 : 32 * n ≤ a.val ∧ a.val < 32 * n + 32 := h1
        omega

theorem row_at {v : View sig .tc .vmem S1x4096 .f32} (tab : Fin 128 → Elt F .f32) (a : Fin 4096) :
    v.readCov (rowPieces tab 128 (le_refl _)) (Rect.unit (s := S1x4096) ![0, 0] S1x4096.size inb_S1x4096_S1x4096_0_0).toLoadRect (ix2 (n0 := 1) 0 a)
      = tab ⟨a.val / 32, by have := a.isLt; omega⟩ := by
  rw [View.readCov_eq_canon']
  refine (congrArg (View.canon _) ?_).trans (rowPieces_canon tab a ⟨a.val / 32, by have := a.isLt; omega⟩ rfl 128 (le_refl _) (Fin.isLt _))
  funext b
  apply Fin.ext
  fin_cases b
  · rfl
  · show 0 + 1 * a.val = a.val
    omega

theorem col_at {v : View sig .tc .vmem S4096x1 .f32} (tab : Fin 128 → Elt F .f32) (a : Fin 4096) :
    v.readCov (colPieces tab 128 (le_refl _)) (Rect.unit (s := S4096x1) ![0, 0] S4096x1.size inb_S4096x1_S4096x1_0_0).toLoadRect (ix2 (n1 := 1) a 0)
      = tab ⟨a.val / 32, by have := a.isLt; omega⟩ := by
  rw [View.readCov_eq_canon']
  refine (congrArg (View.canon _) ?_).trans (colPieces_canon tab a ⟨a.val / 32, by have := a.isLt; omega⟩ rfl 128 (le_refl _) (Fin.isLt _))
  funext b
  apply Fin.ext
  fin_cases b
  · show 0 + 1 * a.val = a.val
    omega
  · rfl

theorem tread_eq (arg : Memref sig .tc .smem S50 .f32) (harg : arg.IsWhole) (x : Vec F S50 .f32) (k : Fin 50) : tread arg harg x k = x (ix1 k) := by
  unfold tread
  rw [Memref.IsWhole.readAt_unread]
  congr 1
  funext b
  apply Fin.ext
  fin_cases b
  show k.val + 1 * _ = k.val
  simp [Shape.Idx.first]

theorem tread2_eq (i : grid2.Coords) (arg : Memref sig .tc .smem S4096 .f32) (harg : arg.IsWhole) (x : Vec F S4096 .f32) (k : Fin 128) (q : Fin 4096)
    (hq : q.val = ((i 0).val + 12) * 128 + k.val) : tread2 i arg harg x k = x (ix1 q) := by
  unfold tread2
  rw [Memref.IsWhole.readAt_unread]
  congr 1
  funext b
  apply Fin.ext
  fin_cases b
  have h0 : (i 0).val < 20 := (i 0).isLt
  have hk := k.isLt
  show ((BitVec.ofNat 32 (i 0).val + 12#32) * 128#32 + BitVec.ofNat 32 k.val).toNat + 1 * 0 = q.val
  rw [hq]
  simp only [BitVec.toNat_add, BitVec.toNat_mul, BitVec.toNat_ofNat]
  omega

theorem tread3_eq (i : grid3.Coords) (arg : Memref sig .tc .smem S4096 .f32) (harg : arg.IsWhole) (x : Vec F S4096 .f32) (k : Fin 128) (q : Fin 4096)
    (hq : q.val = (i 0).val * 128 + k.val) : tread3 i arg harg x k = x (ix1 q) := by
  unfold tread3
  rw [Memref.IsWhole.readAt_unread]
  congr 1
  funext b
  apply Fin.ext
  fin_cases b
  have h0 : (i 0).val < 12 := (i 0).isLt
  have hk := k.isLt
  show (BitVec.ofNat 32 (i 0).val * 128#32 + BitVec.ofNat 32 k.val).toNat + 1 * 0 = q.val
  rw [hq]
  simp only [BitVec.toNat_add, BitVec.toNat_mul, BitVec.toNat_ofNat]
  omega
end

/-! ## The greatest entry of a column, of a row -/

theorem hpick_at (v : FVec Ideal S100x4096 .f32) (a : Fin 4096) (k : Fin 100) (h : IsPick (fun j : Fin 100 => v (ix2 j a)) k) :
    hpick v (ix3 (n0 := 1) (n1 := 1) 0 0 a) = BitVec.ofNat 32 k.val + 1#32 := by
  have e1 : multiReduction .maximumf [0] S4096 v 0xFF800000#32 reduces_S100x4096_S4096 (.inl rfl) rfl (ix1 a) = v (ix2 k a) := by
    refine (multiReduction_maximumf_eq_fold _ _ _ _ _ _).trans ((Shape.Reduces.fold_fiber_r2_a0 _ _ _ _ _).trans ?_)
    exact fold_max_pick h _ (by simp [Ideal.ofBits, Ideal.ieee])
  unfold hpick
  rw [shapeCast_apply _ _ _ (ix2 (n0 := 1) 0 a) (by rw [Shape.rowMajor_val_two, Shape.rowMajor_val_three]; rfl)]
  show IntOp.addi (shapeCast S1x4096 _ _ _) 1#32 = _
  rw [shapeCast_apply _ _ _ (ix1 a) (by rw [Shape.rowMajor_val_two, Shape.rowMajor_val_one]; simp)]
  refine congrArg (· + 1#32) ((multiReductionI_eq_fold _ _ _ _ _ _).trans ((Shape.Reduces.fold_fiber_r2_a0 _ _ _ _ _).trans (fold_pick h (by norm_num) _ fun j => ?_)))
  show (if FloatOps.cmpf .oeq (v (ix2 j a)) (broadcastTo S100x4096 _ _ (ix2 j a)) = 1#1 then iota _ _ _ _ _ (ix2 j a) else 100#32) = _
  rw [broadcastTo_apply _ _ _ (ix2 (n0 := 1) 0 a) (fun b => by fin_cases b <;> rfl), shapeCast_apply _ _ _ (ix1 a) (by rw [Shape.rowMajor_val_two, Shape.rowMajor_val_one]; simp), iota_single_apply]
  have e2 : FloatOps.cmpf (F := Ideal) (φ := .f32) .oeq (v (ix2 j a)) (v (ix2 k a)) = BitVec.ofBool (decide (v (ix2 j a) = v (ix2 k a))) := rfl
  have e3 := congrArg (FloatOps.cmpf (F := Ideal) (φ := .f32) .oeq (v (ix2 j a))) e1
  refine (congrArg (fun z : BitVec 1 => if z = 1#1 then BitVec.ofNat 32 j.val else 100#32) (e3.trans e2)).trans ?_
  by_cases hj : v (ix2 j a) = v (ix2 k a)
  · simp [hj]
  · simp [hj]

theorem cpick_at (v : FVec Ideal S4096x100 .f32) (a : Fin 4096) (k : Fin 100) (h : IsPick (fun j : Fin 100 => v (ix2 a j)) k) :
    cpick v (ix2 (n1 := 1) a 0) = BitVec.ofNat 32 k.val + 1#32 := by
  have e1 : multiReduction .maximumf [1] S4096 v 0xFF800000#32 reduces_S4096x100_S4096 (.inl rfl) rfl (ix1 a) = v (ix2 a k) := by
    refine (multiReduction_maximumf_eq_fold _ _ _ _ _ _).trans ((Shape.Reduces.fold_fiber_r2_a1 _ _ _ _ _).trans ?_)
    exact fold_max_pick h _ (by simp [Ideal.ofBits, Ideal.ieee])
  unfold cpick
  show IntOp.addi (shapeCast S4096x1 _ _ _) 1#32 = _
  rw [shapeCast_apply _ _ _ (ix1 a) (by rw [Shape.rowMajor_val_two, Shape.rowMajor_val_one]; simp)]
  refine congrArg (· + 1#32) ((multiReductionI_eq_fold _ _ _ _ _ _).trans ((Shape.Reduces.fold_fiber_r2_a1 _ _ _ _ _).trans (fold_pick h (by norm_num) _ fun j => ?_)))
  show (if FloatOps.cmpf .oeq (v (ix2 a j)) (broadcastTo S4096x100 _ _ (ix2 a j)) = 1#1 then iota _ _ _ _ _ (ix2 a j) else 100#32) = _
  rw [broadcastTo_apply _ _ _ (ix2 (n1 := 1) a 0) (fun b => by fin_cases b <;> rfl), shapeCast_apply _ _ _ (ix1 a) (by rw [Shape.rowMajor_val_two, Shape.rowMajor_val_one]; simp), iota_single_apply]
  have e2 : FloatOps.cmpf (F := Ideal) (φ := .f32) .oeq (v (ix2 a j)) (v (ix2 a k)) = BitVec.ofBool (decide (v (ix2 a j) = v (ix2 a k))) := rfl
  have e3 := congrArg (FloatOps.cmpf (F := Ideal) (φ := .f32) .oeq (v (ix2 a j))) e1
  refine (congrArg (fun z : BitVec 1 => if z = 1#1 then BitVec.ofNat 32 j.val else 100#32) (e3.trans e2)).trans ?_
  by_cases hj : v (ix2 a j) = v (ix2 a k)
  · simp [hj]
  · simp [hj]

/-! ## The values -/

section
variable {F : FTy → Type} [FloatOps F]

/-- Position coordinate `n` of the flattened positions, with its noise. -/
def noisy (n : ℕ) (x r : F .f32) : F .f32 :=
  FloatOps.addf x (FloatOps.mulf (normal (unit (bits key3.a key3.b (BitVec.ofNat 32 n)))) r)

/-- The logit of type `j` of an atom of type `h`, with the noise that the uniform draw `u` makes. -/
def score (u p r : F .f32) (h : BitVec 32) (j : ℕ) : F .f32 :=
  FloatOps.addf (gum u) (FloatOps.log (FloatOps.addf (if IntOp.cmpi .eq (BitVec.ofNat 32 j) (h - 1#32) = 1#1 then flit 0x3F800000#32 else flit 0#32) (FloatOps.mulf p r)))

theorem xctr_at (G : ℕ) (r : Fin 3) (a : Fin 4096) : xctr (BitVec.ofNat 32 G) (ix2 r a) = BitVec.ofNat 32 (3 * (4096 * G + a.val) + r.val) := by
  unfold xctr
  show (iota _ _ _ _ _ (ix2 r a) + 3#32 * iota _ _ _ _ _ (ix2 r a)) + 12288#32 * BitVec.ofNat 32 G = _
  rw [iota_single_apply, iota_single_apply]
  show (BitVec.ofNat 32 r.val + 3#32 * BitVec.ofNat 32 a.val) + 12288#32 * BitVec.ofNat 32 G = _
  apply BitVec.eq_of_toNat_eq
  simp only [BitVec.toNat_add, BitVec.toNat_mul, BitVec.toNat_ofNat]
  omega

theorem hctr_at (G : ℕ) (j : Fin 100) (a : Fin 4096) : hctr (BitVec.ofNat 32 G) (ix2 j a) = BitVec.ofNat 32 (100 * (4096 * G + a.val) + j.val) := by
  unfold hctr
  show (iota _ _ _ _ _ (ix2 j a) + 100#32 * iota _ _ _ _ _ (ix2 j a)) + 409600#32 * BitVec.ofNat 32 G = _
  rw [iota_single_apply, iota_single_apply]
  show (BitVec.ofNat 32 j.val + 100#32 * BitVec.ofNat 32 a.val) + 409600#32 * BitVec.ofNat 32 G = _
  apply BitVec.eq_of_toNat_eq
  simp only [BitVec.toNat_add, BitVec.toNat_mul, BitVec.toNat_ofNat]
  omega

theorem xval_at (G : ℕ) (x : FVec F S3x4096 .f32) (w : FVec F S1x4096 .f32) (r : Fin 3) (a : Fin 4096) :
    xval (BitVec.ofNat 32 G) x w (ix2 r a) = noisy (3 * (4096 * G + a.val) + r.val) (x (ix2 r a)) (w (ix2 (n0 := 1) 0 a)) := by
  unfold xval
  show FloatOps.addf (shapeCast S3x4096 x _ (ix2 r a)) (FloatOps.mulf (vnormal (vunit (vbits key3 (xctr _))) (ix2 r a)) (broadcastTo S3x4096 w _ (ix2 r a))) = _
  rw [shapeCast_apply x _ _ (ix2 r a) rfl, broadcastTo_apply w _ _ (ix2 (n0 := 1) 0 a) (fun b => by fin_cases b <;> rfl), vnormal_apply, vunit_apply, vbits_apply key3 (by decide), xctr_at]
  rfl

theorem hval_at (G : ℕ) (p : FVec F S100x4096 .f32) (h : IVec S1x1x4096 32) (w : FVec F S1x4096 .f32) (j : Fin 100) (a : Fin 4096) :
    hval (BitVec.ofNat 32 G) p h w (ix2 j a)
      = score (unit (bits key4.a key4.b (BitVec.ofNat 32 (100 * (4096 * G + a.val) + j.val)))) (p (ix2 j a)) (w (ix2 (n0 := 1) 0 a)) (h (ix3 (n0 := 1) (n1 := 1) 0 0 a)) j.val := by
  unfold hval
  show FloatOps.addf (vgum (vunit (vbits key4 (hctr _))) (ix2 j a)) (FloatOps.log (FloatOps.addf
    (if IntOp.cmpi .eq (iota _ _ _ _ _ (ix2 j a)) (broadcastTo S100x4096 _ _ (ix2 j a)) = 1#1 then flit 0x3F800000#32 else flit 0#32)
    (FloatOps.mulf (shapeCast S100x4096 p _ (ix2 j a)) (broadcastTo S100x4096 w _ (ix2 j a))))) = _
  rw [shapeCast_apply p _ _ (ix2 j a) rfl, broadcastTo_apply w _ _ (ix2 (n0 := 1) 0 a) (fun b => by fin_cases b <;> rfl), vgum_apply, vunit_apply, vbits_apply key4 (by decide), hctr_at,
    iota_single_apply, broadcastTo_apply _ _ _ (ix2 (n0 := 1) 0 a) (fun b => by fin_cases b <;> rfl)]
  show FloatOps.addf _ (FloatOps.log (FloatOps.addf (if IntOp.cmpi .eq _ (shapeCast S1x4096 (shapeCast S1x1x4096 h _) _ (ix2 (n0 := 1) 0 a) - 1#32) = 1#1 then _ else _) _)) = _
  rw [shapeCast_apply _ _ _ (ix3 (n0 := 1) (n1 := 1) 0 0 a) (by rw [Shape.rowMajor_val_two, Shape.rowMajor_val_three]; rfl), shapeCast_apply h _ _ (ix3 (n0 := 1) (n1 := 1) 0 0 a) rfl]
  rfl

theorem cval_at (u : FVec F S4096x128 .f32) (p : FVec F S4096x100 .f32) (h : IVec S4096x1 32) (w : FVec F S4096x1 .f32) (j : Fin 100) (a : Fin 4096) :
    cval u p h w (ix2 a j)
      = score (u (ix2 a ⟨j.val, by have := j.isLt; omega⟩)) (p (ix2 a j)) (w (ix2 (n1 := 1) a 0)) (h (ix2 (n1 := 1) a 0)) j.val := by
  unfold cval
  show FloatOps.addf (vgum (extractStridedSlice S4096x100 _ _ _) (ix2 a j)) (FloatOps.log (FloatOps.addf
    (if IntOp.cmpi .eq (iota _ _ _ _ _ (ix2 a j)) (broadcastTo S4096x100 _ _ (ix2 a j)) = 1#1 then flit 0x3F800000#32 else flit 0#32)
    (FloatOps.mulf (shapeCast S4096x100 p _ (ix2 a j)) (broadcastTo S4096x100 w _ (ix2 a j))))) = _
  rw [shapeCast_apply p _ _ (ix2 a j) rfl, broadcastTo_apply w _ _ (ix2 (n1 := 1) a 0) (fun b => by fin_cases b <;> rfl), vgum_apply,
    extractStridedSlice_apply _ _ _ _ (ix2 a ⟨j.val, by have := j.isLt; omega⟩) (fun b => by fin_cases b <;> simp), shapeCast_apply u _ _ (ix2 a ⟨j.val, by have := j.isLt; omega⟩) rfl,
    iota_single_apply, broadcastTo_apply _ _ _ (ix2 (n1 := 1) a 0) (fun b => by fin_cases b <;> rfl)]
  show FloatOps.addf _ (FloatOps.log (FloatOps.addf (if IntOp.cmpi .eq _ (shapeCast S4096x1 h _ (ix2 (n1 := 1) a 0) - 1#32) = 1#1 then _ else _) _)) = _
  rw [shapeCast_apply h _ _ (ix2 (n1 := 1) a 0) rfl]
  rfl

end

end Cert.Proof.Tile

end
-- ==== Proof.Cells.lean ====
/-
  The blocks that the bodies leave, index by index, at the ideal values.
-/
module

public import proofs.«01_k».proof.Proof.Pick

@[expose] public section

noncomputable section

namespace Cert.Proof.Tile

open Cert.KernelIdeal Cert.KernelIdeal.Gen
open Cert.Proof.Draw
open Idealize.ShloMosaic Idealize.ShloMosaic.TcCoe Idealize.ShloMosaic.Tactic

/-! ## The blocks -/

/-- An index into the rectangle that is the whole shape is that index of the shape. -/
theorem full_idx {s : Shape} (off : Fin s.rank → ℕ) (h0 : ∀ a, off a = 0) (inb : ∀ a, off a + s.size a ≤ s.size a) (y : s.Idx) :
    (Rect.unit (s := s) off s.size inb).toLoadRect.idx y = y := funext fun a => Fin.ext (by
  show off a + 1 * (y a).val = (y a).val
  rw [h0 a, Nat.zero_add, Nat.one_mul])

/-- One store of a whole array leaves that array. -/
theorem canon_full {e : EltTy} {s : Shape} (off : Fin s.rank → ℕ) (h0 : ∀ a, off a = 0) (inb : ∀ a, off a + s.size a ≤ s.size a)
    (w : s.Idx → Elt Ideal e) (y : s.Idx) : View.canon (Val := Elt Ideal) [⟨Rect.unit (s := s) off s.size inb, w⟩] y = w y :=
  (congrArg (View.canon _) (full_idx off h0 inb y).symm).trans (View.canon_cons_emb (Rect.unit (s := s) off s.size inb) w [] y)

section
variable (c : Dev nD) (i : grid2.Coords) (arg1 : Memref sig .tc .vmem S100x4096 .f32) (harg1 : arg1.IsWhole) (arg2 : Memref sig .tc .vmem S1x1x4096 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S3x4096 .f32) (harg6 : arg6.IsWhole) (arg7 : Memref sig .tc .vmem S1x1x4096 .i32) (harg7 : arg7.IsWhole) (arg8 : Memref sig .tc .vmem S1x4096 .f32) (harg8 : arg8.IsWhole) (arg9 : Memref sig .tc .vmem S1x4096 .f32) (harg9 : arg9.IsWhole)
    (x0 : Vec Ideal S100x4096 .f32) (x1 : Vec Ideal S1x1x4096 .i32) (x2 : Vec Ideal S3x4096 .f32) (x3 : Vec Ideal S4096 .f32) (x4 : Vec Ideal S4096 .f32)

/-- The second TensorCore call, positions: the element of coordinate `r` and atom `a` of its block. -/
theorem out2_x (r : Fin 3) (a q : Fin 4096) (hq : q.val = ((i 0).val + 12) * 128 + a.val / 32) :
    out2_A_5 c i arg1 harg1 arg2 harg2 arg3 harg3 arg4 harg4 arg5 harg5 arg6 harg6 arg7 harg7 arg8 harg8 arg9 harg9 x0 x1 x2 x3 x4 (ix2 r a) = noisy (F := Ideal) (3 * (4096 * ((i 0).val + 12) + a.val) + r.val) (x2 (ix2 r a)) (x4 (ix1 q)) := by
  unfold out2_A_5
  rw [View.read_writes_junk_eq_canon, pieces2_x]
  refine (canon_full _ (fun b => by fin_cases b <;> rfl) _ _ _).trans ?_
  refine (congrArg (fun g => xval g _ _ _) (show _ = BitVec.ofNat 32 ((i 0).val + 12) from by
    show BitVec.ofNat 32 (i 0).val + 12#32 = _
    rw [BitVec.ofNat_add])).trans ((xval_at _ _ _ r a).trans ?_)
  have e1 : View.readAt (Elt Ideal) arg3.view (Rect.unit (s := S3x4096) ![0, 0] S3x4096.size inb_S3x4096_S3x4096_0_0).toLoadRect (harg3.unread x2) (ix2 r a) = x2 (ix2 r a) :=
    (Memref.IsWhole.readAt_unread _ _ _ _).trans (congrArg x2 (full_idx _ (fun b => by fin_cases b <;> rfl) _ _))
  have e2 : kernelRun2_A.sl.v2272 c i arg5 harg5 arg9 x4 (ix2 (n0 := 1) 0 a) = x4 (ix1 q) := by
    unfold kernelRun2_A.sl.v2272
    rw [rows2']
    exact (row_at _ a).trans (tread2_eq i arg5 harg5 x4 _ q hq)
  rw [e1, e2]

/-- The second TensorCore call, types: the first best score of atom `a`, plus one. -/
theorem out2_h (a q : Fin 4096) (hq : q.val = ((i 0).val + 12) * 128 + a.val / 32) (k : Fin 100)
    (hk : IsPick (fun j : Fin 100 => score (F := Ideal) (unit (bits key4.a key4.b (BitVec.ofNat 32 (100 * (4096 * ((i 0).val + 12) + a.val) + j.val))))
      (x0 (ix2 j a)) (x3 (ix1 q)) (x1 (ix3 (n0 := 1) (n1 := 1) 0 0 a)) j.val) k) :
    out2_A_6 c i arg1 harg1 arg2 harg2 arg3 harg3 arg4 harg4 arg5 harg5 arg6 harg6 arg7 harg7 arg8 harg8 arg9 harg9 x0 x1 x2 x3 x4 (ix3 (n0 := 1) (n1 := 1) 0 0 a) = BitVec.ofNat 32 k.val + 1#32 := by
  unfold out2_A_6
  rw [View.read_writes_junk_eq_canon, pieces2_h]
  refine (canon_full _ (fun b => by fin_cases b <;> rfl) _ _ _).trans (hpick_at _ a k ?_)
  have e1 : ∀ j : Fin 100, View.readAt (Elt Ideal) arg1.view (Rect.unit (s := S100x4096) ![0, 0] S100x4096.size inb_S100x4096_S100x4096_0_0).toLoadRect (harg1.unread x0) (ix2 j a) = x0 (ix2 j a) :=
    fun j => (Memref.IsWhole.readAt_unread _ _ _ _).trans (congrArg x0 (full_idx _ (fun b => by fin_cases b <;> rfl) _ _))
  have e2 : View.readAt (Elt Ideal) arg2.view (Rect.unit (s := S1x1x4096) ![0, 0, 0] S1x1x4096.size inb_S1x1x4096_S1x1x4096_0_0_0).toLoadRect (harg2.unread x1) (ix3 (n0 := 1) (n1 := 1) 0 0 a) = x1 (ix3 (n0 := 1) (n1 := 1) 0 0 a) :=
    (Memref.IsWhole.readAt_unread _ _ _ _).trans (congrArg x1 (full_idx _ (fun b => by fin_cases b <;> rfl) _ _))
  rw [rows2]
  refine (congrArg (IsPick · k) (funext fun j => ?_)).mpr hk
  refine (congrArg (fun g => hval g _ _ _ _) (show _ = BitVec.ofNat 32 ((i 0).val + 12) from by
    show BitVec.ofNat 32 (i 0).val + 12#32 = _
    rw [BitVec.ofNat_add])).trans ((hval_at _ _ _ _ j a).trans ?_)
  rw [e1, e2, row_at, tread2_eq i arg4 harg4 x3 _ q hq]
end

section
variable (c : Dev nD) (i : grid3.Coords) (arg1 : Memref sig .tc .vmem S4096x100 .f32) (harg1 : arg1.IsWhole) (arg2 : Memref sig .tc .vmem S4096x1 .i32) (harg2 : arg2.IsWhole) (arg3 : Memref sig .tc .vmem S3x4096 .f32) (harg3 : arg3.IsWhole) (arg4 : Memref sig .tc .smem S4096 .f32) (harg4 : arg4.IsWhole) (arg5 : Memref sig .tc .smem S4096 .f32) (harg5 : arg5.IsWhole) (arg6 : Memref sig .tc .vmem S4096x128 .f32) (harg6 : arg6.IsWhole) (arg8 : Memref sig .tc .vmem S3x4096 .f32) (harg8 : arg8.IsWhole) (arg9 : Memref sig .tc .vmem S4096x1 .i32) (harg9 : arg9.IsWhole) (arg10 : Memref sig .tc .vmem S4096x1 .f32) (harg10 : arg10.IsWhole) (arg11 : Memref sig .tc .vmem S1x4096 .f32) (harg11 : arg11.IsWhole)
    (x0 : Vec Ideal S4096x100 .f32) (x1 : Vec Ideal S4096x1 .i32) (x2 : Vec Ideal S3x4096 .f32) (x3 : Vec Ideal S4096 .f32) (x4 : Vec Ideal S4096 .f32) (x5 : Vec Ideal S4096x128 .f32)

/-- The third TensorCore call, positions: the element of coordinate `r` and atom `a` of its block. -/
theorem out3_x (r : Fin 3) (a q : Fin 4096) (hq : q.val = (i 0).val * 128 + a.val / 32) :
    out3_A_6 c i arg1 harg1 arg2 harg2 arg3 harg3 arg4 harg4 arg5 harg5 arg6 harg6 arg8 harg8 arg9 harg9 arg10 harg10 arg11 harg11 x0 x1 x2 x3 x4 x5 (ix2 r a) = noisy (F := Ideal) (3 * (4096 * (i 0).val + a.val) + r.val) (x2 (ix2 r a)) (x4 (ix1 q)) := by
  unfold out3_A_6
  rw [View.read_writes_junk_eq_canon, pieces3_x]
  refine (canon_full _ (fun b => by fin_cases b <;> rfl) _ _ _).trans ((xval_at _ _ _ r a).trans ?_)
  have e1 : View.readAt (Elt Ideal) arg3.view (Rect.unit (s := S3x4096) ![0, 0] S3x4096.size inb_S3x4096_S3x4096_0_0).toLoadRect (harg3.unread x2) (ix2 r a) = x2 (ix2 r a) :=
    (Memref.IsWhole.readAt_unread _ _ _ _).trans (congrArg x2 (full_idx _ (fun b => by fin_cases b <;> rfl) _ _))
  rw [e1, rows3, row_at, tread3_eq i arg5 harg5 x4 _ q hq]

/-- The third TensorCore call, types: the first best score of atom `a` by the draws that the SparseCore made, plus one. -/
theorem out3_h (a q : Fin 4096) (hq : q.val = (i 0).val * 128 + a.val / 32) (k : Fin 100)
    (hk : IsPick (fun j : Fin 100 => score (F := Ideal) (x5 (ix2 a ⟨j.val, by have := j.isLt; omega⟩))
      (x0 (ix2 a j)) (x3 (ix1 q)) (x1 (ix2 (n1 := 1) a 0)) j.val) k) :
    out3_A_7 c i arg1 harg1 arg2 harg2 arg3 harg3 arg4 harg4 arg5 harg5 arg6 harg6 arg8 harg8 arg9 harg9 arg10 harg10 arg11 harg11 x0 x1 x2 x3 x4 x5 (ix2 (n1 := 1) a 0) = BitVec.ofNat 32 k.val + 1#32 := by
  unfold out3_A_7
  rw [View.read_writes_junk_eq_canon, pieces3_h]
  refine (canon_full _ (fun b => by fin_cases b <;> rfl) _ _ _).trans (cpick_at _ a k ?_)
  have e1 : ∀ j : Fin 100, View.readAt (Elt Ideal) arg1.view (Rect.unit (s := S4096x100) ![0, 0] S4096x100.size inb_S4096x100_S4096x100_0_0).toLoadRect (harg1.unread x0) (ix2 a j) = x0 (ix2 a j) :=
    fun j => (Memref.IsWhole.readAt_unread _ _ _ _).trans (congrArg x0 (full_idx _ (fun b => by fin_cases b <;> rfl) _ _))
  have e2 : View.readAt (Elt Ideal) arg2.view (Rect.unit (s := S4096x1) ![0, 0] S4096x1.size inb_S4096x1_S4096x1_0_0).toLoadRect (harg2.unread x1) (ix2 (n1 := 1) a 0) = x1 (ix2 (n1 := 1) a 0) :=
    (Memref.IsWhole.readAt_unread _ _ _ _).trans (congrArg x1 (full_idx _ (fun b => by fin_cases b <;> rfl) _ _))
  have e3 : ∀ j : Fin 128, View.readAt (Elt Ideal) arg6.view (Rect.unit (s := S4096x128) ![0, 0] S4096x128.size inb_S4096x128_S4096x128_0_0).toLoadRect (harg6.unread x5) (ix2 a j) = x5 (ix2 a j) :=
    fun j => (Memref.IsWhole.readAt_unread _ _ _ _).trans (congrArg x5 (full_idx _ (fun b => by fin_cases b <;> rfl) _ _))
  rw [cols3]
  refine (congrArg (IsPick · k) (funext fun j => ?_)).mpr hk
  refine (cval_at _ _ _ _ j a).trans ?_
  rw [e1, e2, e3, col_at, tread3_eq i arg4 harg4 x3 _ q hq]
end

/-! ## The tables -/

/-- The counter that the levels' call hashes for a crystal is its number. -/
theorem tctr_at (a : Fin 32) (b : Fin 128) : tctr (ix2 a b) = BitVec.ofNat 32 (128 * a.val + b.val) := by
  unfold tctr
  show 128#32 * iota _ _ _ _ _ (ix2 a b) + iota _ _ _ _ _ (ix2 a b) = _
  rw [iota_single_apply, iota_single_apply]
  show 128#32 * BitVec.ofNat 32 a.val + BitVec.ofNat 32 b.val = _
  apply BitVec.eq_of_toNat_eq
  simp only [BitVec.toNat_add, BitVec.toNat_mul, BitVec.toNat_ofNat]
  omega

section
variable (c : Dev nD) (arg0 : Memref sig .tc .smem S50 .f32) (harg0 : arg0.IsWhole) (arg1 : Memref sig .tc .smem S50 .f32) (harg1 : arg1.IsWhole)
  (arg2 : Memref sig .tc .vmem S32x128 .f32) (harg2 : arg2.IsWhole) (arg3 : Memref sig .tc .vmem S32x128 .f32) (harg3 : arg3.IsWhole)
  (x0 x1 : Vec Ideal S50 .f32)

/-- A noise level is one of fifty. -/
theorem level_lt (k k' : Key) (x : BitVec 32) : level k k' x < 50 := by
  unfold level
  exact Nat.mod_lt _ (by norm_num)

/-- The levels' call: a crystal's sigma of the positions is the table's entry at its level. -/
theorem out0_x (a : Fin 32) (b : Fin 128) (k : Fin 50) (hk : k.val = level keyA keyB (BitVec.ofNat 32 (128 * a.val + b.val))) :
    out0_A_2 c arg0 harg0 arg1 harg1 arg2 harg2 arg3 harg3 x0 x1 (ix2 a b) = x0 (ix1 k) := by
  unfold out0_A_2
  rw [View.read_writes_junk_eq_canon, pieces_x, level_x]
  refine (canon_full _ (fun b => by fin_cases b <;> rfl) _ _ _).trans ((chain_apply _ _ _ k ?_ 50 (le_refl _) k.isLt).trans (tread_eq _ _ _ _))
  rw [vlevel_apply _ _ (by decide) (by decide), tctr_at, hk]

/-- The levels' call: a crystal's sigma of the types is the table's entry at its level. -/
theorem out0_t (a : Fin 32) (b : Fin 128) (k : Fin 50) (hk : k.val = level keyC keyD (BitVec.ofNat 32 (128 * a.val + b.val))) :
    out0_A_3 c arg0 harg0 arg1 harg1 arg2 harg2 arg3 harg3 x0 x1 (ix2 a b) = x1 (ix1 k) := by
  unfold out0_A_3
  rw [View.read_writes_junk_eq_canon, pieces_t]
  refine (canon_full _ (fun b => by fin_cases b <;> rfl) _ _ _).trans ((chain_apply _ _ _ k ?_ 50 (le_refl _) k.isLt).trans (tread_eq _ _ _ _))
  rw [vlevel_apply _ _ (by decide) (by decide), tctr_at, hk]
end

end Cert.Proof.Tile

end
-- ==== Proof.Final.lean ====
/-
  The arrays that the three TensorCore calls leave, index by index, in terms of the arrays they were given.
-/
module

public import proofs.«01_k».proof.Proof.Cells
public import Idealize.ShloMosaic.Lib.Pipeline.ValueKit.Partial

@[expose] public section

noncomputable section

namespace Cert.Proof.Tile

open Cert.KernelIdeal Cert.KernelIdeal.Gen
open Cert.Proof.Draw
open Idealize.ShloMosaic Idealize.ShloMosaic.TcCoe Idealize.ShloMosaic.Tactic
open Idealize.ShloMosaic.SparseCore.Cfg (HIx)
open Idealize.ShloMosaic.Pipeline (Dat)

variable (V : (c : Dev nD) → (b : Ref sig .tc) → Buf (Elt Ideal) ((c : Thread nD τ).loc b))
variable (O : Dev nD → CellTallies nD τ sig (HIx 1)) (B : Dev nD → Set (SemLoc sig × HIx 1)) (c : Dev nD)

theorem coords2 : ∀ t : Fin grid2.N, (grid2.coords t 0).val = t.val := by decide +kernel
theorem coords3 : ∀ t : Fin grid3.N, (grid3.coords t 0).val = t.val := by decide +kernel

theorem ix2_0 : ∀ t : Fin grid2.N, win2_0.index t = ![0, t.val + 12] := by decide +kernel

theorem ix2_1 : ∀ t : Fin grid2.N, win2_1.index t = ![t.val + 12, 0, 0] := by decide +kernel

theorem ix2_2 : ∀ t : Fin grid2.N, win2_2.index t = ![0, t.val + 12] := by decide +kernel

theorem ix2_3 : ∀ t : Fin grid2.N, win2_3.index t = ![0] := by decide +kernel

theorem ix2_4 : ∀ t : Fin grid2.N, win2_4.index t = ![0] := by decide +kernel

theorem ix2_5 : ∀ t : Fin grid2.N, win2_5.index t = ![0, t.val + 12] := by decide +kernel

theorem ix2_6 : ∀ t : Fin grid2.N, win2_6.index t = ![t.val + 12, 0, 0] := by decide +kernel

theorem blk2_0 (t : Fin grid2.N) (j : Fin 100) (a : Fin 4096) (n : Fin 131072) (hn : n.val = 4096 * (t.val + 12) + a.val) :
    iblk2 V c 0 t (ix2 j a) = V c main_v5 (ix2 j n) := by
  blk_simp [iblk2]
  refine congrArg (V c main_v5) ?_
  funext b
  apply Fin.ext
  fin_cases b <;> blk_simp [ix2_0] <;> simp <;> omega

theorem blk2_1 (t : Fin grid2.N) (a : Fin 4096) (g : Fin 32) (hg : g.val = t.val + 12) :
    iblk2 V c 1 t (ix3 (n0 := 1) (n1 := 1) 0 0 a) = V c main_v7 (ix3 (n1 := 1) g 0 a) := by
  blk_simp [iblk2]
  refine congrArg (V c main_v7) ?_
  funext b
  apply Fin.ext
  fin_cases b <;> blk_simp [ix2_1] <;> simp <;> omega

theorem blk2_2 (t : Fin grid2.N) (r : Fin 3) (a : Fin 4096) (n : Fin 131072) (hn : n.val = 4096 * (t.val + 12) + a.val) :
    iblk2 V c 2 t (ix2 r a) = V c main_v6 (ix2 r n) := by
  blk_simp [iblk2]
  refine congrArg (V c main_v6) ?_
  funext b
  apply Fin.ext
  fin_cases b <;> blk_simp [ix2_2] <;> simp <;> omega

theorem blk2_3 (t : Fin grid2.N) (q : Fin 4096) :
    iblk2 V c 3 t (ix1 q) = V c main_v1 (ix1 q) := by
  blk_simp [iblk2]
  refine congrArg (V c main_v1) ?_
  funext b
  apply Fin.ext
  fin_cases b <;> blk_simp [ix2_3] <;> simp <;> omega

theorem blk2_4 (t : Fin grid2.N) (q : Fin 4096) :
    iblk2 V c 4 t (ix1 q) = V c main_v4 (ix1 q) := by
  blk_simp [iblk2]
  refine congrArg (V c main_v4) ?_
  funext b
  apply Fin.ext
  fin_cases b <;> blk_simp [ix2_4] <;> simp <;> omega

theorem ix3_0 : ∀ t : Fin grid3.N, win3_0.index t = ![t.val, 0] := by decide +kernel

theorem ix3_1 : ∀ t : Fin grid3.N, win3_1.index t = ![t.val, 0] := by decide +kernel

theorem ix3_2 : ∀ t : Fin grid3.N, win3_2.index t = ![0, t.val] := by decide +kernel

theorem ix3_3 : ∀ t : Fin grid3.N, win3_3.index t = ![0] := by decide +kernel

theorem ix3_4 : ∀ t : Fin grid3.N, win3_4.index t = ![0] := by decide +kernel

theorem ix3_5 : ∀ t : Fin grid3.N, win3_5.index t = ![t.val, 0] := by decide +kernel

theorem ix3_6 : ∀ t : Fin grid3.N, win3_6.index t = ![0, t.val] := by decide +kernel

theorem ix3_7 : ∀ t : Fin grid3.N, win3_7.index t = ![t.val, 0] := by decide +kernel

theorem blk3_0 (t : Fin grid3.N) (j : Fin 100) (a : Fin 4096) (n : Fin 49152) (hn : n.val = 4096 * t.val + a.val) :
    iblk3 V c 0 t (ix2 a j) = V c main_v9 (ix2 n j) := by
  blk_simp [iblk3]
  refine congrArg (V c main_v9) ?_
  funext b
  apply Fin.ext
  fin_cases b <;> blk_simp [ix3_0] <;> simp <;> omega

theorem blk3_1 (t : Fin grid3.N) (a : Fin 4096) (n : Fin 49152) (hn : n.val = 4096 * t.val + a.val) :
    iblk3 V c 1 t (ix2 (n1 := 1) a 0) = V c main_v11 (ix2 (n1 := 1) n 0) := by
  blk_simp [iblk3]
  refine congrArg (V c main_v11) ?_
  funext b
  apply Fin.ext
  fin_cases b <;> blk_simp [ix3_1] <;> simp <;> omega

theorem blk3_2 (t : Fin grid3.N) (r : Fin 3) (a : Fin 4096) (n : Fin 131072) (hn : n.val = 4096 * t.val + a.val) :
    iblk3 V c 2 t (ix2 r a) = V c main_v6 (ix2 r n) := by
  blk_simp [iblk3]
  refine congrArg (V c main_v6) ?_
  funext b
  apply Fin.ext
  fin_cases b <;> blk_simp [ix3_2] <;> simp <;> omega

theorem blk3_3 (t : Fin grid3.N) (q : Fin 4096) :
    iblk3 V c 3 t (ix1 q) = V c main_v1 (ix1 q) := by
  blk_simp [iblk3]
  refine congrArg (V c main_v1) ?_
  funext b
  apply Fin.ext
  fin_cases b <;> blk_simp [ix3_3] <;> simp <;> omega

theorem blk3_4 (t : Fin grid3.N) (q : Fin 4096) :
    iblk3 V c 4 t (ix1 q) = V c main_v4 (ix1 q) := by
  blk_simp [iblk3]
  refine congrArg (V c main_v4) ?_
  funext b
  apply Fin.ext
  fin_cases b <;> blk_simp [ix3_4] <;> simp <;> omega

theorem blk3_5 (t : Fin grid3.N) (j : Fin 128) (a : Fin 4096) (n : Fin 49152) (hn : n.val = 4096 * t.val + a.val) :
    iblk3 V c 5 t (ix2 a j) = V c main_v3 (ix2 n j) := by
  blk_simp [iblk3]
  refine congrArg (V c main_v3) ?_
  funext b
  apply Fin.ext
  fin_cases b <;> blk_simp [ix3_5] <;> simp <;> omega

theorem ix0_0 : ∀ t : Fin grid0.N, win0_0.index t = ![0] := by decide +kernel

theorem ix0_1 : ∀ t : Fin grid0.N, win0_1.index t = ![0] := by decide +kernel

theorem ix0_2 : ∀ t : Fin grid0.N, win0_2.index t = ![0, 0] := by decide +kernel

theorem ix0_3 : ∀ t : Fin grid0.N, win0_3.index t = ![0, 0] := by decide +kernel

theorem blk0_0 (t : Fin grid0.N) (q : Fin 50) :
    iblk0 V c 0 t (ix1 q) = V c main_arg4 (ix1 q) := by
  blk_simp [iblk0]
  refine congrArg (V c main_arg4) ?_
  funext b
  apply Fin.ext
  fin_cases b <;> blk_simp [ix0_0] <;> simp <;> omega

theorem blk0_1 (t : Fin grid0.N) (q : Fin 50) :
    iblk0 V c 1 t (ix1 q) = V c main_arg5 (ix1 q) := by
  blk_simp [iblk0]
  refine congrArg (V c main_arg5) ?_
  funext b
  apply Fin.ext
  fin_cases b <;> blk_simp [ix0_1] <;> simp <;> omega

/-! ## What a point leaves -/

/-- What the bodies make of an atom's coordinate. -/
abbrev NX (x r : EReal) (q i : ℕ) : EReal := noisy (F := Ideal) (3 * q + i) x r

/-- The logits with noise of an atom that the full body draws for itself. -/
abbrev HX (q : ℕ) (p : Fin 100 → EReal) (r : EReal) (h : BitVec 32) (j : Fin 100) : EReal :=
  score (F := Ideal) (unit (bits key4.a key4.b (BitVec.ofNat 32 (100 * q + j.val)))) (p j) r h j.val

theorem lt_crystal (q : Fin 131072) : q.val / 32 < 4096 := by
  have := q.isLt
  omega

theorem point2_x (t : Fin grid2.N) (r : Fin 3) (a : Fin 4096) (n : Fin 131072) (hn : n.val = 4096 * (t.val + 12) + a.val) :
    (outsAt2 V c t).1 (ix2 r a) = NX (V c main_v6 (ix2 r n)) (V c main_v4 (ix1 ⟨n.val / 32, lt_crystal n⟩)) n.val r.val := by
  unfold outsAt2
  dsimp only
  have h := out2_x c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (iblk2 V c 0 t) (iblk2 V c 1 t) (iblk2 V c 2 t) (iblk2 V c 3 t) (iblk2 V c 4 t) r a ⟨n.val / 32, lt_crystal n⟩ (by
    rw [coords2]
    show n.val / 32 = _
    omega)
  refine h.trans ?_
  rw [blk2_2 V c t r a n hn, blk2_4, coords2, ← hn]

theorem point2_h (t : Fin grid2.N) (a : Fin 4096) (n : Fin 131072) (hn : n.val = 4096 * (t.val + 12) + a.val) (g : Fin 32) (hg : g.val = t.val + 12) (k : Fin 100)
    (hk : IsPick (HX n.val (fun j => V c main_v5 (ix2 j n)) (V c main_v1 (ix1 ⟨n.val / 32, lt_crystal n⟩)) (V c main_v7 (ix3 (n1 := 1) g 0 a))) k) :
    (outsAt2 V c t).2 (ix3 (n0 := 1) (n1 := 1) 0 0 a) = BitVec.ofNat 32 k.val + 1#32 := by
  unfold outsAt2
  dsimp only
  refine out2_h c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (iblk2 V c 0 t) (iblk2 V c 1 t) (iblk2 V c 2 t) (iblk2 V c 3 t) (iblk2 V c 4 t) a ⟨n.val / 32, lt_crystal n⟩ (by
    rw [coords2]
    show n.val / 32 = _
    omega) k ((congrArg (IsPick · k) (funext fun j => ?_)).mpr hk)
  rw [blk2_0 V c t j a n hn, blk2_1 V c t a g hg, blk2_3, coords2, ← hn]

theorem point3_x (t : Fin grid3.N) (r : Fin 3) (a : Fin 4096) (n : Fin 131072) (hn : n.val = 4096 * t.val + a.val) :
    (outsAt3 V c t).1 (ix2 r a) = NX (V c main_v6 (ix2 r n)) (V c main_v4 (ix1 ⟨n.val / 32, lt_crystal n⟩)) n.val r.val := by
  unfold outsAt3
  dsimp only
  have h := out3_x c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (iblk3 V c 0 t) (iblk3 V c 1 t) (iblk3 V c 2 t) (iblk3 V c 3 t) (iblk3 V c 4 t) (iblk3 V c 5 t) r a ⟨n.val / 32, lt_crystal n⟩ (by
    rw [coords3]
    show n.val / 32 = _
    omega)
  refine h.trans ?_
  rw [blk3_2 V c t r a n hn, blk3_4, coords3, ← hn]

theorem lt_crystal' (q : Fin 49152) : q.val / 32 < 4096 := by
  have := q.isLt
  omega

/-- The logits with noise of an atom whose uniform draws are `u`. -/
abbrev CX (u p : Fin 100 → EReal) (r : EReal) (h : BitVec 32) (j : Fin 100) : EReal := score (F := Ideal) (u j) (p j) r h j.val

theorem point3_h (t : Fin grid3.N) (a : Fin 4096) (n : Fin 49152) (hn : n.val = 4096 * t.val + a.val) (k : Fin 100)
    (hk : IsPick (CX (fun j => V c main_v3 (ix2 n ⟨j.val, by have := j.isLt; omega⟩)) (fun j => V c main_v9 (ix2 n j)) (V c main_v1 (ix1 ⟨n.val / 32, lt_crystal' n⟩)) (V c main_v11 (ix2 (n1 := 1) n 0))) k) :
    (outsAt3 V c t).2 (ix2 (n1 := 1) a 0) = BitVec.ofNat 32 k.val + 1#32 := by
  unfold outsAt3
  dsimp only
  refine out3_h c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) scM3_1 (Memref.isWhole_whole _) (iblk3 V c 0 t) (iblk3 V c 1 t) (iblk3 V c 2 t) (iblk3 V c 3 t) (iblk3 V c 4 t) (iblk3 V c 5 t) a ⟨n.val / 32, lt_crystal' n⟩ (by
    rw [coords3]
    show n.val / 32 = _
    omega) k ((congrArg (IsPick · k) (funext fun j => ?_)).mpr hk)
  rw [blk3_0 V c t j a n hn, blk3_1 V c t a n hn, blk3_3, blk3_5 V c t _ a n hn]

/-! ## The arrays -/

theorem fin2_x (r : Fin 3) (q : Fin 131072) (h : 49152 ≤ q.val) : (dat2 V O B c).arrAt 5 cfg2.N (ix2 r q)
    = NX (V c main_v6 (ix2 r q)) (V c main_v4 (ix1 ⟨q.val / 32, lt_crystal q⟩)) q.val r.val := by
  refine Dat.arrAt_forall_of_coversWhere (dat2 V O B c) 5
    (fun (i : S3x131072.Idx) (v : EReal) => 49152 ≤ (i 1).val → v = NX (V c main_v6 i) (V c main_v4 (ix1 ⟨(i 1).val / 32, lt_crystal (i 1)⟩)) (i 1).val (i 0).val)
    (fun β => 12 ≤ β (1 : Fin 2)) (by decide +kernel) (fun t _ y => ?_) (fun j hj hi => ?_) (ix2 r q) (by exact Memref.isWhole_whole _) h
  · obtain ⟨a, b, rfl⟩ : ∃ (a : Fin 3) (b : Fin 4096), y = ix2 a b := ⟨y 0, y 1, eq_ix2 y⟩
    have hb := b.isLt
    have ht : t.val < 20 := t.isLt
    let n : Fin 131072 := ⟨4096 * (t.val + 12) + b.val, by omega⟩
    have e : ((cfg2.win 5).blk t).view.emb (ix2 a b) = (ix2 a n : S3x131072.Idx) := by
      funext k
      apply Fin.ext
      fin_cases k <;> blk_simp [ix2_5] <;> simp [n] <;> omega
    rw [e]
    intro _
    blk_simp
    rw [after2_5]
    exact point2_x V c t a b n rfl
  · blk_simp [Pipeline.Window.cell_apply] at hj hi
    omega

theorem fin3_x (r : Fin 3) (q : Fin 131072) (h : q.val < 49152) : (dat3 V O B c).arrAt 6 cfg3.N (ix2 r q)
    = NX (V c main_v6 (ix2 r q)) (V c main_v4 (ix1 ⟨q.val / 32, lt_crystal q⟩)) q.val r.val := by
  refine Dat.arrAt_forall_of_coversWhere (dat3 V O B c) 6
    (fun (i : S3x131072.Idx) (v : EReal) => (i 1).val < 49152 → v = NX (V c main_v6 i) (V c main_v4 (ix1 ⟨(i 1).val / 32, lt_crystal (i 1)⟩)) (i 1).val (i 0).val)
    (fun β => β (1 : Fin 2) < 12) (by decide +kernel) (fun t _ y => ?_) (fun j hj hi => ?_) (ix2 r q) (by exact Memref.isWhole_whole _) h
  · obtain ⟨a, b, rfl⟩ : ∃ (a : Fin 3) (b : Fin 4096), y = ix2 a b := ⟨y 0, y 1, eq_ix2 y⟩
    have hb := b.isLt
    have ht : t.val < 12 := t.isLt
    let n : Fin 131072 := ⟨4096 * t.val + b.val, by omega⟩
    have e : ((cfg3.win 6).blk t).view.emb (ix2 a b) = (ix2 a n : S3x131072.Idx) := by
      funext k
      apply Fin.ext
      fin_cases k <;> blk_simp [ix3_6] <;> simp [n] <;> omega
    rw [e]
    intro _
    blk_simp
    rw [after3_6]
    exact point3_x V c t a b n rfl
  · blk_simp [Pipeline.Window.cell_apply] at hj hi
    omega

theorem keep3_x (r : Fin 3) (q : Fin 131072) (h : 49152 ≤ q.val) : (dat3 V O B c).arrAt 6 cfg3.N (ix2 r q) = V c main_v12_0 (ix2 r q) := by
  refine Dat.arrAt_forall_of_coversWhere (dat3 V O B c) 6
    (fun (i : S3x131072.Idx) (v : EReal) => 49152 ≤ (i 1).val → v = V c main_v12_0 i)
    (fun β => β (1 : Fin 2) < 12) (by decide +kernel) (fun t _ y hy => ?_) (fun j hj hi => rfl) (ix2 r q) (by exact Memref.isWhole_whole _) h
  exfalso
  obtain ⟨a, b, rfl⟩ : ∃ (a : Fin 3) (b : Fin 4096), y = ix2 a b := ⟨y 0, y 1, eq_ix2 y⟩
  have hb := b.isLt
  have ht : t.val < 12 := t.isLt
  have e : ((((cfg3.win 6).blk t).view.emb (ix2 a b)) (1 : Fin 2) : ℕ) = t.val * 4096 + b.val := by
    blk_simp [ix3_6]
  have hy' : 49152 ≤ ((((cfg3.win 6).blk t).view.emb (ix2 a b)) (1 : Fin 2) : ℕ) := hy
  rw [e] at hy'
  omega

theorem fin2_h (g : Fin 32) (a : Fin 4096) (n : Fin 131072) (hn : n.val = 4096 * g.val + a.val) (hg : 12 ≤ g.val) (k : Fin 100)
    (hk : IsPick (HX n.val (fun j => V c main_v5 (ix2 j n)) (V c main_v1 (ix1 ⟨n.val / 32, lt_crystal n⟩)) (V c main_v7 (ix3 (n1 := 1) g 0 a))) k) :
    (dat2 V O B c).arrAt 6 cfg2.N (ix3 (n1 := 1) g 0 a) = BitVec.ofNat 32 k.val + 1#32 := by
  refine Dat.arrAt_forall_of_coversWhere (dat2 V O B c) 6
    (fun (i : S32x1x4096.Idx) (v : BitVec 32) => 12 ≤ (i 0).val → ∀ (n : Fin 131072) (_ : n.val = 4096 * (i 0).val + (i 2).val) (k : Fin 100),
      IsPick (HX n.val (fun j => V c main_v5 (ix2 j n)) (V c main_v1 (ix1 ⟨n.val / 32, lt_crystal n⟩)) (V c main_v7 i)) k → v = BitVec.ofNat 32 k.val + 1#32)
    (fun β => 12 ≤ β (0 : Fin 3)) (by decide +kernel) (fun t _ y => ?_) (fun j hj hi => ?_) (ix3 (n1 := 1) g 0 a) (by exact Memref.isWhole_whole _) hg n hn k hk
  · obtain ⟨b, rfl⟩ : ∃ b : Fin 4096, y = ix3 (n0 := 1) (n1 := 1) 0 0 b := ⟨y 2, (eq_ix3 y).trans (by
      rw [show y 0 = (0 : Fin 1) from Subsingleton.elim (α := Fin 1) _ _, show y 1 = (0 : Fin 1) from Subsingleton.elim (α := Fin 1) _ _])⟩
    have hb := b.isLt
    have ht : t.val < 20 := t.isLt
    let g : Fin 32 := ⟨t.val + 12, by omega⟩
    have e : ((cfg2.win 6).blk t).view.emb (ix3 (n0 := 1) (n1 := 1) 0 0 b) = (ix3 (n1 := 1) g 0 b : S32x1x4096.Idx) := by
      funext k
      apply Fin.ext
      fin_cases k <;> blk_simp [ix2_6] <;> simp [g]
    rw [e]
    intro _ n hn k hk
    blk_simp
    rw [after2_6]
    exact point2_h V c t b n hn g rfl k hk
  · blk_simp [Pipeline.Window.cell_apply] at hj hi
    omega

theorem fin3_h (n : Fin 49152) (k : Fin 100)
    (hk : IsPick (CX (fun j => V c main_v3 (ix2 n ⟨j.val, by have := j.isLt; omega⟩)) (fun j => V c main_v9 (ix2 n j)) (V c main_v1 (ix1 ⟨n.val / 32, lt_crystal' n⟩)) (V c main_v11 (ix2 (n1 := 1) n 0))) k) :
    (dat3 V O B c).arrAt 7 cfg3.N (ix2 (n1 := 1) n 0) = BitVec.ofNat 32 k.val + 1#32 := by
  refine Dat.arrAt_forall_of_covers (dat3 V O B c) 7
    (fun (i : S49152x1.Idx) (v : BitVec 32) => ∀ (n : Fin 49152) (_ : n = i 0) (k : Fin 100),
      IsPick (CX (fun j => V c main_v3 (ix2 n ⟨j.val, by have := j.isLt; omega⟩)) (fun j => V c main_v9 (ix2 n j)) (V c main_v1 (ix1 ⟨n.val / 32, lt_crystal' n⟩)) (V c main_v11 (ix2 (n1 := 1) n 0))) k → v = BitVec.ofNat 32 k.val + 1#32)
    (by decide +kernel) (fun t _ y => ?_) (ix2 (n1 := 1) n 0) (by exact Memref.isWhole_whole _) n rfl k hk
  obtain ⟨b, rfl⟩ : ∃ b : Fin 4096, y = ix2 (n1 := 1) b 0 := ⟨y 0, (eq_ix2 y).trans (by
    rw [show y 1 = (0 : Fin 1) from Subsingleton.elim (α := Fin 1) _ _])⟩
  have hb := b.isLt
  have ht : t.val < 12 := t.isLt
  let g : Fin 49152 := ⟨4096 * t.val + b.val, by omega⟩
  have e : ((cfg3.win 7).blk t).view.emb (ix2 (n1 := 1) b 0) = (ix2 (n1 := 1) g 0 : S49152x1.Idx) := by
    funext k
    apply Fin.ext
    fin_cases k <;> blk_simp [ix3_7] <;> simp [g] <;> omega
  rw [e]
  rintro n rfl k hk
  blk_simp
  rw [after3_7]
  exact point3_h V c t b _ rfl k hk

theorem fin0_x (a : Fin 32) (b : Fin 128) (k : Fin 50) (hk : k.val = level keyA keyB (BitVec.ofNat 32 (128 * a.val + b.val))) :
    (dat0 V O B c).arrAt 2 cfg0.N (ix2 a b) = V c main_arg4 (ix1 k) := by
  refine Dat.arrAt_forall_of_covers (dat0 V O B c) 2
    (fun (i : S32x128.Idx) (v : EReal) => ∀ k : Fin 50, k.val = level keyA keyB (BitVec.ofNat 32 (128 * (i 0).val + (i 1).val)) → v = V c main_arg4 (ix1 k))
    (by decide +kernel) (fun t _ y => ?_) (ix2 a b) (by exact Memref.isWhole_whole _) k hk
  obtain ⟨a, b, rfl⟩ : ∃ (a : Fin 32) (b : Fin 128), y = ix2 a b := ⟨y 0, y 1, eq_ix2 y⟩
  have e : ((cfg0.win 2).blk t).view.emb (ix2 a b) = (ix2 a b : S32x128.Idx) := by
    funext k
    apply Fin.ext
    fin_cases k <;> blk_simp [ix0_2] <;> simp
  rw [e]
  intro k hk
  blk_simp
  rw [after0_2]
  exact (out0_x c (ms0_0 t) (hs0_0 t) (ms0_1 t) (hs0_1 t) (ms0_2 t) (hs0_2 t) (ms0_3 t) (hs0_3 t) (iblk0 V c 0 t) (iblk0 V c 1 t) a b k hk).trans (blk0_0 V c t k)

theorem fin0_t (a : Fin 32) (b : Fin 128) (k : Fin 50) (hk : k.val = level keyC keyD (BitVec.ofNat 32 (128 * a.val + b.val))) :
    (dat0 V O B c).arrAt 3 cfg0.N (ix2 a b) = V c main_arg5 (ix1 k) := by
  refine Dat.arrAt_forall_of_covers (dat0 V O B c) 3
    (fun (i : S32x128.Idx) (v : EReal) => ∀ k : Fin 50, k.val = level keyC keyD (BitVec.ofNat 32 (128 * (i 0).val + (i 1).val)) → v = V c main_arg5 (ix1 k))
    (by decide +kernel) (fun t _ y => ?_) (ix2 a b) (by exact Memref.isWhole_whole _) k hk
  obtain ⟨a, b, rfl⟩ : ∃ (a : Fin 32) (b : Fin 128), y = ix2 a b := ⟨y 0, y 1, eq_ix2 y⟩
  have e : ((cfg0.win 3).blk t).view.emb (ix2 a b) = (ix2 a b : S32x128.Idx) := by
    funext k
    apply Fin.ext
    fin_cases k <;> blk_simp [ix0_3] <;> simp
  rw [e]
  intro k hk
  blk_simp
  rw [after0_3]
  exact (out0_t c (ms0_0 t) (hs0_0 t) (ms0_1 t) (hs0_1 t) (ms0_2 t) (hs0_2 t) (ms0_3 t) (hs0_3 t) (iblk0 V c 0 t) (iblk0 V c 1 t) a b k hk).trans (blk0_1 V c t k)

end Cert.Proof.Tile

end
-- ==== Proof.Read.lean ====
/-
  What the buffers hold at each step of @main, read back to the arguments: the arguments unchanged, and the two results
  index by index.
-/
module

public import proofs.«01_k».proof.Proof.Run
public import proofs.«01_k».proof.Proof.Final
public import Idealize.ShloMosaic.Lib.StableHlo.RunRead

@[expose] public section

noncomputable section

namespace Cert.Proof.Tile

open Cert.KernelIdeal Cert.KernelIdeal.Gen
open Cert.Proof.Draw
open Idealize.ShloMosaic Idealize.ShloMosaic.TcCoe Idealize.ShloMosaic.Tactic
open Idealize.ShloMosaic.SparseCore.Cfg (HIx)
open Idealize.ShloMosaic.Pipeline (Dat)

section
variable {F : FTy → Type} [FloatOps F] (m : (ℓ : Loc nD τ sig) → Buf (Elt F) ℓ) (c : Dev nD)

/-- A buffer that no step between the levels' call and the return writes, one by one. -/
theorem keep1 (b : Ref sig .tc) (h : ∀ w, Pipeline.arrRef spec0 w ≠ b) : W1 m c (Proc.devRef .tc b) = m (c, Proc.devRef .tc b) :=
  Pipeline.withArrays_of_ne spec0 c _ _ b h
theorem keep2 (b : Ref sig .tc) (h : b ∉ outs₁) : W2 m c (Proc.devRef .tc b) = W1 m c (Proc.devRef .tc b) :=
  StableHlo.after_of_writes_sub ops₁ _ writes₁ h
theorem keep3 (b : Ref sig .tc) (h : b ≠ main_v2) : W3 m c (Proc.devRef .tc b) = W2 m c (Proc.devRef .tc b) :=
  Function.update_of_ne (fun e => h (Proc.devRef_injective _ e)) _ _
theorem keep4 (b : Ref sig .tc) (h : b ∉ outs₂) : W4 m c (Proc.devRef .tc b) = W3 m c (Proc.devRef .tc b) :=
  StableHlo.after_of_writes_sub ops₂ _ writes₂ h
theorem keep5 (b : Ref sig .tc) (h : ∀ w, Pipeline.arrRef spec2 w ≠ b) : W5 m c (Proc.devRef .tc b) = W4 m c (Proc.devRef .tc b) :=
  Pipeline.withArrays_of_ne spec2 c _ _ b h
theorem keep6 (b : Ref sig .tc) (h : b ∉ outs₃) : W6 m c (Proc.devRef .tc b) = W5 m c (Proc.devRef .tc b) :=
  StableHlo.after_of_writes_sub ops₃ _ writes₃ h
theorem keep7 (b : Ref sig .tc) (h : ∀ w, Pipeline.arrRef spec3 w ≠ b) : W7 m c (Proc.devRef .tc b) = W6 m c (Proc.devRef .tc b) :=
  Pipeline.withArrays_of_ne spec3 c _ _ b h
theorem keep8 (b : Ref sig .tc) (h : b ∉ outs₄) : W8 m c (Proc.devRef .tc b) = W7 m c (Proc.devRef .tc b) :=
  StableHlo.after_of_writes_sub ops₄ _ writes₄ h

/-- An array that a call writes, or only reads. -/
theorem arr1 (w : Fin cfg0.W) : W1 m c (Proc.devRef .tc (Pipeline.arrRef spec0 w)) = (dat0 (at' (W0 m)) (debts (F := F) 0) (bound (F := F) 0) c).arrAt w cfg0.N :=
  Pipeline.withArrays_arr spec0 launch0.win.arr_inj c _ _ w
theorem arr5 (w : Fin cfg2.W) : W5 m c (Proc.devRef .tc (Pipeline.arrRef spec2 w)) = (dat2 (at' (W4 m)) (debts (F := F) 1) (bound (F := F) 1) c).arrAt w cfg2.N :=
  Pipeline.withArrays_arr spec2 launch2.win.arr_inj c _ _ w
theorem arr7 (w : Fin cfg3.W) : W7 m c (Proc.devRef .tc (Pipeline.arrRef spec3 w)) = (dat3 (at' (W6 m)) (debts (F := F) 1) (bound (F := F) 1) c).arrAt w cfg3.N :=
  Pipeline.withArrays_arr spec3 launch3.win.arr_inj c _ _ w
theorem in1 (w : Fin cfg0.W) (h : (cfg0.win w).isOut = false) : W1 m c (Proc.devRef .tc (Pipeline.arrRef spec0 w)) = m (c, Proc.devRef .tc (Pipeline.arrRef spec0 w)) :=
  (arr1 m c w).trans (((dat0 (at' (W0 m)) (debts (F := F) 0) (bound (F := F) 0) c).arrAt_in w h cfg0.N).trans (A_eq0 _ _ _ c w))
theorem in5 (w : Fin cfg2.W) (h : (cfg2.win w).isOut = false) : W5 m c (Proc.devRef .tc (Pipeline.arrRef spec2 w)) = W4 m c (Proc.devRef .tc (Pipeline.arrRef spec2 w)) :=
  (arr5 m c w).trans (((dat2 (at' (W4 m)) (debts (F := F) 1) (bound (F := F) 1) c).arrAt_in w h cfg2.N).trans (A_eq2 _ _ _ c w))

/-- Past the levels' call no step writes an argument; -/
theorem past (b : Ref sig .tc) (h₂ : b ∉ outs₁) (h₃ : b ≠ main_v2) (h₄ : b ∉ outs₂) (h₅ : ∀ w, Pipeline.arrRef spec2 w ≠ b) (h₆ : b ∉ outs₃)
    (h₇ : ∀ w, Pipeline.arrRef spec3 w ≠ b) (h₈ : b ∉ outs₄) : W8 m c (Proc.devRef .tc b) = W1 m c (Proc.devRef .tc b) := by
  rw [keep8 m c b h₈, keep7 m c b h₇, keep6 m c b h₆, keep5 m c b h₅, keep4 m c b h₄, keep3 m c b h₃, keep2 m c b h₂]

/-- so each is as it was at the launch. -/
theorem arg0_kept : W8 m c (Proc.devRef .tc main_arg0) = m (c, Proc.devRef .tc main_arg0) :=
  (past m c main_arg0 (by decide) (by decide) (by decide) (by decide) (by decide) (by decide) (by decide)).trans (keep1 m c _ (by decide))
theorem arg1_kept : W8 m c (Proc.devRef .tc main_arg1) = m (c, Proc.devRef .tc main_arg1) :=
  (past m c main_arg1 (by decide) (by decide) (by decide) (by decide) (by decide) (by decide) (by decide)).trans (keep1 m c _ (by decide))
theorem arg2_kept : W8 m c (Proc.devRef .tc main_arg2) = m (c, Proc.devRef .tc main_arg2) :=
  (past m c main_arg2 (by decide) (by decide) (by decide) (by decide) (by decide) (by decide) (by decide)).trans (keep1 m c _ (by decide))
theorem arg3_kept : W8 m c (Proc.devRef .tc main_arg3) = m (c, Proc.devRef .tc main_arg3) :=
  (past m c main_arg3 (by decide) (by decide) (by decide) (by decide) (by decide) (by decide) (by decide)).trans (keep1 m c _ (by decide))
theorem arg4_kept : W8 m c (Proc.devRef .tc main_arg4) = m (c, Proc.devRef .tc main_arg4) :=
  (past m c main_arg4 (by decide) (by decide) (by decide) (by decide) (by decide) (by decide) (by decide)).trans (in1 m c 0 rfl)
theorem arg5_kept : W8 m c (Proc.devRef .tc main_arg5) = m (c, Proc.devRef .tc main_arg5) :=
  (past m c main_arg5 (by decide) (by decide) (by decide) (by decide) (by decide) (by decide) (by decide)).trans (in1 m c 1 rfl)

/-! ## The operations between the calls -/

theorem w2_v1 : W2 m c (Proc.devRef .tc main_v1) = shapeCast S4096 (W1 m c (Proc.devRef .tc main_v0_1)) shapeCasts_S32x128_S4096 := by
  unfold W2 ops₁
  after_reads_simp
  rfl
theorem w4_v3 : W4 m c (Proc.devRef .tc main_v3) = shapeCast S49152x128 (W3 m c (Proc.devRef .tc main_v2)) shapeCasts_S6291456_S49152x128 := by
  unfold W4 ops₂
  after_reads_simp
  rfl
theorem w4_v4 : W4 m c (Proc.devRef .tc main_v4) = shapeCast S4096 (W3 m c (Proc.devRef .tc main_v0_0)) shapeCasts_S32x128_S4096 := by
  unfold W4 ops₂
  after_reads_simp
  rfl
theorem w4_v5 : W4 m c (Proc.devRef .tc main_v5) = transpose S100x131072 [1, 0] (W3 m c (Proc.devRef .tc main_arg2)) transposes_S131072x100_S100x131072_1_0 := by
  unfold W4 ops₂
  after_reads_simp
theorem w4_v6 : W4 m c (Proc.devRef .tc main_v6) = transpose S3x131072 [1, 0] (W3 m c (Proc.devRef .tc main_arg0)) transposes_S131072x3_S3x131072_1_0 := by
  unfold W4 ops₂
  after_reads_simp
theorem w4_v7 : W4 m c (Proc.devRef .tc main_v7) = shapeCast S32x1x4096 (W3 m c (Proc.devRef .tc main_arg1)) shapeCasts_S131072_S32x1x4096 := by
  unfold W4 ops₂
  after_reads_simp
  rfl
theorem w6_v9 : W6 m c (Proc.devRef .tc main_v9) = extractStridedSlice S49152x100 ![0, 0] (W5 m c (Proc.devRef .tc main_arg2)) slices_S131072x100_S49152x100_0_0 := by
  unfold W6 ops₃
  after_reads_simp
theorem w6_v11 : W6 m c (Proc.devRef .tc main_v11)
    = shapeCast S49152x1 (extractStridedSlice S49152 ![0] (W5 m c (Proc.devRef .tc main_arg1)) slices_S131072_S49152_0) shapeCasts_S49152_S49152x1 := by
  unfold W6 ops₃
  after_reads_simp
  rfl
theorem w6_v12 : W6 m c (Proc.devRef .tc main_v12_0) = W5 m c (Proc.devRef .tc main_v8_0) := by
  unfold W6 ops₃
  after_reads_simp
  rfl
theorem w8_v17 : W8 m c (Proc.devRef .tc main_v17) = transpose S131072x3 [1, 0] (W7 m c (Proc.devRef .tc main_v12_0)) transposes_S3x131072_S131072x3_1_0 := by
  unfold W8 ops₄
  after_reads_simp
theorem w8_v16 : W8 m c (Proc.devRef .tc main_v16)
    = concatenate S131072 0 [⟨S49152, shapeCast S49152 (W7 m c (Proc.devRef .tc main_v12_1)) shapeCasts_S49152x1_S49152⟩,
        ⟨S81920, shapeCast S81920 (extractStridedSlice S20x1x4096 ![12, 0, 0] (W7 m c (Proc.devRef .tc main_v8_1)) slices_S32x1x4096_S20x1x4096_12_0_0) shapeCasts_S20x1x4096_S81920⟩]
        concatenates_S49152_S81920_S131072_d0 := by
  unfold W8 ops₄
  after_reads_simp
  rfl
end

/-! ## The results -/

variable (m : (ℓ : Loc nD τ sig) → Buf (Elt Ideal) ℓ) (c : Dev nD)

/-- The level that crystal `n` draws. -/
def lvl (k k' : Key) (n : ℕ) : Fin 50 := ⟨level k k' (BitVec.ofNat 32 n), level_lt k k' _⟩

theorem sxc_at (q : Fin 4096) : W3 m c (Proc.devRef .tc main_v0_0) (ix2 (n0 := 32) (n1 := 128) ⟨q.val / 128, by have := q.isLt; omega⟩ ⟨q.val % 128, Nat.mod_lt _ (by norm_num)⟩)
    = m (c, Proc.devRef .tc main_arg4) (ix1 (lvl keyA keyB q.val)) := by
  rw [keep3 m c _ (by decide), keep2 m c _ (by decide), arr1 m c 2]
  refine fin0_x _ _ _ c _ _ (lvl keyA keyB q.val) ?_
  show level _ _ (BitVec.ofNat 32 q.val) = level _ _ (BitVec.ofNat 32 (128 * (q.val / 128) + q.val % 128))
  rw [Nat.div_add_mod]

theorem stc_at (q : Fin 4096) : W1 m c (Proc.devRef .tc main_v0_1) (ix2 (n0 := 32) (n1 := 128) ⟨q.val / 128, by have := q.isLt; omega⟩ ⟨q.val % 128, Nat.mod_lt _ (by norm_num)⟩)
    = m (c, Proc.devRef .tc main_arg5) (ix1 (lvl keyC keyD q.val)) := by
  rw [arr1 m c 3]
  refine fin0_t _ _ _ c _ _ (lvl keyC keyD q.val) ?_
  show level _ _ (BitVec.ofNat 32 q.val) = level _ _ (BitVec.ofNat 32 (128 * (q.val / 128) + q.val % 128))
  rw [Nat.div_add_mod]

theorem v4_at (q : Fin 4096) : W4 m c (Proc.devRef .tc main_v4) (ix1 q) = m (c, Proc.devRef .tc main_arg4) (ix1 (lvl keyA keyB q.val)) := by
  rw [w4_v4]
  refine (shapeCast_apply _ _ _ (ix2 (n0 := 32) (n1 := 128) ⟨q.val / 128, by have := q.isLt; omega⟩ ⟨q.val % 128, Nat.mod_lt _ (by norm_num)⟩) ?_).trans (sxc_at m c q)
  rw [Shape.rowMajor_val_two, Shape.rowMajor_val_one]
  show q.val / 128 * 128 + q.val % 128 = q.val
  omega

theorem v1_at (q : Fin 4096) : W4 m c (Proc.devRef .tc main_v1) (ix1 q) = m (c, Proc.devRef .tc main_arg5) (ix1 (lvl keyC keyD q.val)) := by
  rw [keep4 m c _ (by decide), keep3 m c _ (by decide), w2_v1]
  refine (shapeCast_apply _ _ _ (ix2 (n0 := 32) (n1 := 128) ⟨q.val / 128, by have := q.isLt; omega⟩ ⟨q.val % 128, Nat.mod_lt _ (by norm_num)⟩) ?_).trans (stc_at m c q)
  rw [Shape.rowMajor_val_two, Shape.rowMajor_val_one]
  show q.val / 128 * 128 + q.val % 128 = q.val
  omega

theorem arg_w3 (b : Ref sig .tc) (h₁ : ∀ w, Pipeline.arrRef spec0 w ≠ b) (h₂ : b ∉ outs₁) (h₃ : b ≠ main_v2) : W3 m c (Proc.devRef .tc b) = m (c, Proc.devRef .tc b) := by
  rw [keep3 m c b h₃, keep2 m c b h₂, keep1 m c b h₁]

theorem v6_at (r : Fin 3) (q : Fin 131072) : W4 m c (Proc.devRef .tc main_v6) (ix2 r q) = m (c, Proc.devRef .tc main_arg0) (ix2 q r) := by
  rw [w4_v6, arg_w3 m c _ (by decide) (by decide) (by decide)]
  exact transpose_apply _ _ _ _ (ix2 q r) (fun b => by fin_cases b <;> rfl)

theorem v5_at (j : Fin 100) (q : Fin 131072) : W4 m c (Proc.devRef .tc main_v5) (ix2 j q) = m (c, Proc.devRef .tc main_arg2) (ix2 q j) := by
  rw [w4_v5, arg_w3 m c _ (by decide) (by decide) (by decide)]
  exact transpose_apply _ _ _ _ (ix2 q j) (fun b => by fin_cases b <;> rfl)

theorem v7_at (g : Fin 32) (a : Fin 4096) (q : Fin 131072) (hq : q.val = 4096 * g.val + a.val) :
    W4 m c (Proc.devRef .tc main_v7) (ix3 (n1 := 1) g 0 a) = m (c, Proc.devRef .tc main_arg1) (ix1 q) := by
  rw [w4_v7, arg_w3 m c _ (by decide) (by decide) (by decide)]
  refine shapeCast_apply _ _ _ (ix1 q) ?_
  rw [Shape.rowMajor_val_three, Shape.rowMajor_val_one]
  show q.val = (g.val * 1 + 0) * 4096 + a.val
  omega

theorem v3_at (n : Fin 49152) (j : Fin 128) (h : j.val < 100) :
    W4 m c (Proc.devRef .tc main_v3) (ix2 n j) = unit (F := Ideal) (bits key4.a key4.b (BitVec.ofNat 32 (100 * n.val + j.val))) := by
  have hn := n.isLt
  have hj := j.isLt
  rw [w4_v3, show W3 m c (Proc.devRef .tc main_v2) = drawn c from Function.update_self ..]
  refine (shapeCast_apply _ _ _ (ix1 (n0 := 6291456) ⟨128 * n.val + j.val, by omega⟩) ?_).trans ?_
  · rw [Shape.rowMajor_val_two, Shape.rowMajor_val_one]
    show 128 * n.val + j.val = n.val * 128 + j.val
    omega
  · show unit (bits _ _ (ctr (128 * n.val + j.val))) = _
    unfold ctr
    rw [show (128 * n.val + j.val) / 128 = n.val by omega, show (128 * n.val + j.val) % 128 = j.val by omega]
    rfl

/-- Result 1: the positions. -/
theorem kernel_x (q : Fin 131072) (r : Fin 3) : W8 m c (Proc.devRef .tc main_v17) (ix2 q r)
    = NX (m (c, Proc.devRef .tc main_arg0) (ix2 q r)) (m (c, Proc.devRef .tc main_arg4) (ix1 (lvl keyA keyB (q.val / 32)))) q.val r.val := by
  rw [w8_v17]
  refine (transpose_apply _ _ _ _ (ix2 r q) (fun b => by fin_cases b <;> rfl)).trans ?_
  rw [arr7 m c 6]
  by_cases h : q.val < 49152
  · refine (fin3_x _ _ _ c r q h).trans ?_
    show NX (W6 m c (Proc.devRef .tc main_v6) (ix2 r q)) (W6 m c (Proc.devRef .tc main_v4) (ix1 _)) _ _ = _
    rw [keep6 m c _ (by decide), keep6 m c _ (by decide), in5 m c 2 rfl, in5 m c 4 rfl]
    exact congrArg₂ (fun x y => NX x y q.val r.val) (v6_at m c r q) (v4_at m c _)
  · refine (keep3_x _ _ _ c r q (by omega)).trans ?_
    show W6 m c (Proc.devRef .tc main_v12_0) (ix2 r q) = _
    rw [w6_v12, arr5 m c 5]
    refine (fin2_x _ _ _ c r q (by omega)).trans ?_
    exact congrArg₂ (fun x y => NX x y q.val r.val) (v6_at m c r q) (v4_at m c _)

/-- Result 2: the types. -/
theorem kernel_h (q : Fin 131072) (k : Fin 100)
    (hk : IsPick (HX q.val (fun j => m (c, Proc.devRef .tc main_arg2) (ix2 q j)) (m (c, Proc.devRef .tc main_arg5) (ix1 (lvl keyC keyD (q.val / 32))))
      (m (c, Proc.devRef .tc main_arg1) (ix1 q))) k) :
    W8 m c (Proc.devRef .tc main_v16) (ix1 q) = BitVec.ofNat 32 k.val + 1#32 := by
  have hq := q.isLt
  rw [w8_v16]
  by_cases h : q.val < 49152
  · refine (concatenate_pair_apply_left (s₁ := S49152) (s₂ := S81920) 0 _ _ _ (ix1 q) rfl (ix1 (n0 := 49152) ⟨q.val, h⟩) (fun b => by fin_cases b; rfl)).trans ?_
    refine (shapeCast_apply _ _ _ (ix2 (n0 := 49152) (n1 := 1) ⟨q.val, h⟩ 0) (by rw [Shape.rowMajor_val_two, Shape.rowMajor_val_one]; simp)).trans ?_
    rw [arr7 m c 7]
    refine fin3_h _ _ _ c ⟨q.val, h⟩ k ((congrArg (IsPick · k) (funext fun j => ?_)).mpr hk)
    show CX (fun j => W6 m c (Proc.devRef .tc main_v3) (ix2 _ _)) (fun j => W6 m c (Proc.devRef .tc main_v9) (ix2 _ j)) (W6 m c (Proc.devRef .tc main_v1) (ix1 _)) (W6 m c (Proc.devRef .tc main_v11) (ix2 _ _)) j = _
    have e1 : W6 m c (Proc.devRef .tc main_v3) (ix2 (n0 := 49152) (n1 := 128) ⟨q.val, h⟩ ⟨j.val, by have := j.isLt; omega⟩) = unit (F := Ideal) (bits key4.a key4.b (BitVec.ofNat 32 (100 * q.val + j.val))) := by
      rw [keep6 m c _ (by decide), keep5 m c _ (by decide)]
      exact v3_at m c _ _ j.isLt
    have e2 : W6 m c (Proc.devRef .tc main_v9) (ix2 (n0 := 49152) (n1 := 100) ⟨q.val, h⟩ j) = m (c, Proc.devRef .tc main_arg2) (ix2 q j) := by
      rw [w6_v9, keep5 m c _ (by decide), keep4 m c _ (by decide), arg_w3 m c _ (by decide) (by decide) (by decide)]
      exact extractStridedSlice_apply _ _ _ _ (ix2 q j) (fun b => by fin_cases b <;> simp)
    have e3 : W6 m c (Proc.devRef .tc main_v1) (ix1 (n0 := 4096) ⟨q.val / 32, by omega⟩) = m (c, Proc.devRef .tc main_arg5) (ix1 (lvl keyC keyD (q.val / 32))) := by
      rw [keep6 m c _ (by decide), in5 m c 3 rfl]
      exact v1_at m c _
    have e4 : W6 m c (Proc.devRef .tc main_v11) (ix2 (n0 := 49152) (n1 := 1) ⟨q.val, h⟩ 0) = m (c, Proc.devRef .tc main_arg1) (ix1 q) := by
      rw [w6_v11, keep5 m c _ (by decide), keep4 m c _ (by decide), arg_w3 m c _ (by decide) (by decide) (by decide)]
      refine (shapeCast_apply _ _ _ (ix1 (n0 := 49152) ⟨q.val, h⟩) (by rw [Shape.rowMajor_val_two, Shape.rowMajor_val_one]; simp)).trans ?_
      exact extractStridedSlice_apply _ _ _ _ (ix1 q) (fun b => by fin_cases b; simp)
    unfold CX HX
    dsimp only
    rw [e1, e2, e3, e4]
  · refine (concatenate_pair_apply_right (s₁ := S49152) (s₂ := S81920) 0 _ _ _ (ix1 q) rfl rfl (ix1 (n0 := 81920) ⟨q.val - 49152, by omega⟩)
      (fun b hb => (hb (by fin_cases b; rfl)).elim) (by show q.val - 49152 + 49152 = q.val; omega)).trans ?_
    refine (shapeCast_apply _ _ _ (ix3 (n0 := 20) (n1 := 1) (n2 := 4096) ⟨(q.val - 49152) / 4096, by omega⟩ 0 ⟨q.val % 4096, by omega⟩) ?_).trans ?_
    · rw [Shape.rowMajor_val_three, Shape.rowMajor_val_one]
      show ((q.val - 49152) / 4096 * 1 + 0) * 4096 + q.val % 4096 = q.val - 49152
      omega
    refine (extractStridedSlice_apply _ _ _ _ (ix3 (n0 := 32) (n1 := 1) (n2 := 4096) ⟨q.val / 4096, by omega⟩ 0 ⟨q.val % 4096, by omega⟩) (fun b => ?_)).trans ?_
    · fin_cases b
      · show q.val / 4096 = 12 + (q.val - 49152) / 4096
        omega
      · rfl
      · show q.val % 4096 = 0 + q.val % 4096
        omega
    rw [keep7 m c _ (by decide), keep6 m c _ (by decide), arr5 m c 6]
    refine fin2_h _ _ _ c _ _ q (by show q.val = 4096 * (q.val / 4096) + q.val % 4096; omega) (by show 12 ≤ q.val / 4096; omega) k
      ((congrArg (IsPick · k) (funext fun j => ?_)).mpr hk)
    show HX q.val (fun j => W4 m c (Proc.devRef .tc main_v5) (ix2 j q)) (W4 m c (Proc.devRef .tc main_v1) (ix1 _)) (W4 m c (Proc.devRef .tc main_v7) (ix3 _ _ _)) j = _
    unfold HX
    dsimp only
    rw [v5_at, v1_at, v7_at m c _ _ q (by show q.val = 4096 * (q.val / 4096) + q.val % 4096; omega)]

end Cert.Proof.Tile

end
-- ==== Proof.Hash.lean ====
/-
  The reference's hashes: the straight line of its operations, cut into pieces, and the three arrays of words that it
  hashes, read at an index.
-/
module

public import proofs.«01_k».proof.Proof.Draw
public import proofs.«01_k».proof.Proof.Gen.ReferenceIdeal
public import Idealize.ShloMosaic.Lib.StableHlo.RunHlo
public import Idealize.ShloMosaic.Lib.StableHlo.ReadAt

@[expose] public section

noncomputable section

namespace Cert.Proof.Ref

open Cert.ReferenceIdeal Cert.ReferenceIdeal.Gen
open Cert.Proof.Draw (rnd inj shl_const shr_const)
open Idealize.ShloMosaic Idealize.ShloMosaic.StableHlo Idealize.SL.Sem

variable {F : FTy → Type} [FloatOps F]

abbrev Ops (F : FTy → Type) : Type := List (HloOp τ sig (Elt F))
abbrev Val (F : FTy → Type) : Type := Valuation τ sig (Elt F)

/-- The reference's statements. -/
def line : Σ' ops : Ops F, ∀ d, IsSeq (main (F := F) d) ops := by
  apply PSigma.mk
  intro d
  unfold main
  hlo_seq

/-- A piece of them: `n` statements, past the first `k`. -/
abbrev seg (k n : ℕ) : Ops F := (line.1.drop k).take n

/-! ## A hash of two arrays -/

variable {s : Shape}

/-- A word in every place. -/
def con (n : BitVec 32) : IVec s 32 := fun _ => n

/-- A round, -/
def round (a b : BitVec 32) (p : IVec s 32 × IVec s 32) : IVec s 32 × IVec s 32 :=
  (addi p.1 p.2, xori (addi p.1 p.2) (ori (Host.shli p.2 (con a)) (Host.shrui p.2 (con b))))
/-- the addition of two of the key's words, the group's number added to the second, -/
def key (a b : IVec s 32) (n : BitVec 32) (p : IVec s 32 × IVec s 32) : IVec s 32 × IVec s 32 := (addi p.1 a, addi (addi p.2 b) (con n))
/-- and the two kinds of group of four rounds. -/
def odd (p : IVec s 32 × IVec s 32) : IVec s 32 × IVec s 32 := round 6#32 26#32 (round 26#32 6#32 (round 15#32 17#32 (round 13#32 19#32 p)))
def even (p : IVec s 32 × IVec s 32) : IVec s 32 × IVec s 32 := round 24#32 8#32 (round 16#32 16#32 (round 29#32 3#32 (round 17#32 15#32 p)))

/-- A pair of arrays at an index. -/
def at_ (p : IVec s 32 × IVec s 32) (l : s.Idx) : BitVec 32 × BitVec 32 := (p.1 l, p.2 l)

theorem at_round (r : ℕ) (h0 : 0 < r) (h : r < 32) (p : IVec s 32 × IVec s 32) (l : s.Idx) :
    at_ (round (BitVec.ofNat 32 r) (BitVec.ofNat 32 (32 - r)) p) l = rnd r (at_ p l) := by
  show (p.1 l + p.2 l, (p.1 l + p.2 l) ^^^ (IntOp.shli _ (p.2 l) (BitVec.ofNat 32 r) ||| IntOp.shrui _ (p.2 l) (BitVec.ofNat 32 (32 - r)))) = _
  rw [shl_const r h, shr_const (32 - r) (by omega)]
  rfl

theorem at_key (a b : IVec s 32) (n : BitVec 32) (p : IVec s 32 × IVec s 32) (l : s.Idx) : at_ (key a b n p) l = inj (a l) (b l + n) (at_ p l) := by
  show (p.1 l + a l, (p.2 l + b l) + n) = (_, _)
  rw [BitVec.add_assoc (p.2 l)]
  rfl

/-- The two arrays hashed under the key's words. -/
def hashed (k : IVec s 32 × IVec s 32 × IVec s 32) (x y : IVec s 32) : IVec s 32 × IVec s 32 :=
  key k.2.2 k.1 5#32 (odd (key k.2.1 k.2.2 4#32 (even (key k.1 k.2.1 3#32 (odd (key k.2.2 k.1 2#32 (even (key k.2.1 k.2.2 1#32 (odd
    (addi x k.1, addi y k.2.1))))))))))

theorem at_hashed (k : IVec s 32 × IVec s 32 × IVec s 32) (x y : IVec s 32) (l : s.Idx) (hc : k.2.2 l = k.1 l ^^^ k.2.1 l ^^^ 466688986#32) :
    at_ (hashed k x y) l = Draw.hash (k.1 l) (k.2.1 l) (x l, y l) := by
  have h0 : at_ (addi x k.1, addi y k.2.1) l = inj (k.1 l) (k.2.1 l) (x l, y l) := rfl
  unfold hashed odd even
  simp only [at_key, at_round 24 (by decide) (by decide), at_round 16 (by decide) (by decide),
    at_round 29 (by decide) (by decide), at_round 17 (by decide) (by decide), at_round 6 (by decide) (by decide),
    at_round 26 (by decide) (by decide), at_round 15 (by decide) (by decide), at_round 13 (by decide) (by decide), h0, hc]
  rfl

/-! ## The four hashes of the crystals -/

def keysA (V : Val F) : IVec S4x4096 32 × IVec S4x4096 32 × IVec S4x4096 32 := (broadcastInDim S4x4096 ![0, 1] bcast_S4x1_S4x4096_0_1 (V (Proc.devRef .tc main_v13)), broadcastInDim S4x4096 ![0, 1] bcast_S4x1_S4x4096_0_1 (V (Proc.devRef .tc main_v14)), broadcastInDim S4x4096 ![0, 1] bcast_S4x1_S4x4096_0_1 (V (Proc.devRef .tc main_call0_v2)))
def endA0 (V : Val F) : IVec S4x4096 32 × IVec S4x4096 32 := (V (Proc.devRef .tc main_call0_v38), V (Proc.devRef .tc main_call0_v42))
def endA1 (V : Val F) : IVec S4x4096 32 × IVec S4x4096 32 := (V (Proc.devRef .tc main_call0_v72), V (Proc.devRef .tc main_call0_v76))
def endA2 (V : Val F) : IVec S4x4096 32 × IVec S4x4096 32 := (V (Proc.devRef .tc main_call0_v106), V (Proc.devRef .tc main_call0_v110))
def endA3 (V : Val F) : IVec S4x4096 32 × IVec S4x4096 32 := (V (Proc.devRef .tc main_call0_v140), V (Proc.devRef .tc main_call0_v144))
def endA4 (V : Val F) : IVec S4x4096 32 × IVec S4x4096 32 := (V (Proc.devRef .tc main_v15_0), V (Proc.devRef .tc main_v15_1))

theorem segA0 (V : Val F) : endA0 (after (seg 20 53) V) = key (keysA V).2.1 (broadcastInDim S4x4096 ![0, 1] bcast_S4x1_S4x4096_0_1 (xori (xori (V (Proc.devRef .tc main_v13)) (V (Proc.devRef .tc main_v14))) (con 466688986#32))) 1#32 (odd (addi (broadcastInDim S4x4096 ![0, 1] bcast_S1x4096_S4x4096_0_1 (V (Proc.devRef .tc main_v11))) (keysA V).1, addi (broadcastInDim S4x4096 ![0, 1] bcast_S1x4096_S4x4096_0_1 (V (Proc.devRef .tc main_v12))) (keysA V).2.1)) := by
  unfold endA0
  after_reads_simp
  simp only [TRef.ofBuf_toBuf]
  rfl
theorem keysA0 (V : Val F) : keysA (after (seg 20 53) V) = ((keysA V).1, (keysA V).2.1, (broadcastInDim S4x4096 ![0, 1] bcast_S4x1_S4x4096_0_1 (xori (xori (V (Proc.devRef .tc main_v13)) (V (Proc.devRef .tc main_v14))) (con 466688986#32)))) := by
  unfold keysA
  after_reads_simp
  simp only [TRef.ofBuf_toBuf]
  rfl

theorem segA1 (V : Val F) : endA1 (after (seg 73 43) V) = key (keysA V).2.2 (keysA V).1 2#32 (even (endA0 V)) := by
  unfold endA1
  after_reads_simp
  simp only [TRef.ofBuf_toBuf]
  rfl
theorem keysA1 (V : Val F) : keysA (after (seg 73 43) V) = keysA V := by
  unfold keysA
  after_reads_simp

theorem segA2 (V : Val F) : endA2 (after (seg 116 43) V) = key (keysA V).1 (keysA V).2.1 3#32 (odd (endA1 V)) := by
  unfold endA2
  after_reads_simp
  simp only [TRef.ofBuf_toBuf]
  rfl
theorem keysA2 (V : Val F) : keysA (after (seg 116 43) V) = keysA V := by
  unfold keysA
  after_reads_simp

theorem segA3 (V : Val F) : endA3 (after (seg 159 43) V) = key (keysA V).2.1 (keysA V).2.2 4#32 (even (endA2 V)) := by
  unfold endA3
  after_reads_simp
  simp only [TRef.ofBuf_toBuf]
  rfl
theorem keysA3 (V : Val F) : keysA (after (seg 159 43) V) = keysA V := by
  unfold keysA
  after_reads_simp

theorem segA4 (V : Val F) : endA4 (after (seg 202 43) V) = key (keysA V).2.2 (keysA V).1 5#32 (odd (endA3 V)) := by
  unfold endA4
  after_reads_simp
  simp only [TRef.ofBuf_toBuf]
  rfl

theorem bodyA (V : Val F) : endA4 (after (seg 20 225) V) = hashed ((keysA V).1, (keysA V).2.1, (broadcastInDim S4x4096 ![0, 1] bcast_S4x1_S4x4096_0_1 (xori (xori (V (Proc.devRef .tc main_v13)) (V (Proc.devRef .tc main_v14))) (con 466688986#32)))) (broadcastInDim S4x4096 ![0, 1] bcast_S1x4096_S4x4096_0_1 (V (Proc.devRef .tc main_v11))) (broadcastInDim S4x4096 ![0, 1] bcast_S1x4096_S4x4096_0_1 (V (Proc.devRef .tc main_v12))) := by
  rw [show (seg 20 225 : Ops F) = seg 20 53 ++ (seg 73 43 ++ (seg 116 43 ++ (seg 159 43 ++ seg 202 43))) from rfl, after_append, after_append, after_append,
    after_append, segA4, segA3, keysA3, segA2, keysA2, segA1, keysA1, keysA0, segA0]
  rfl

/-! ## The hash of the positions -/

def keysB (V : Val F) : IVec S131072x3 32 × IVec S131072x3 32 × IVec S131072x3 32 := (broadcastInDim S131072x3 ![] bcast_S_S131072x3 (V (Proc.devRef .tc main_v50)), broadcastInDim S131072x3 ![] bcast_S_S131072x3 (V (Proc.devRef .tc main_v52)), broadcastInDim S131072x3 ![] bcast_S_S131072x3 (V (Proc.devRef .tc main_call1_v1)))
def endB0 (V : Val F) : IVec S131072x3 32 × IVec S131072x3 32 := (V (Proc.devRef .tc main_call1_v35), V (Proc.devRef .tc main_call1_v39))
def endB1 (V : Val F) : IVec S131072x3 32 × IVec S131072x3 32 := (V (Proc.devRef .tc main_call1_v69), V (Proc.devRef .tc main_call1_v73))
def endB2 (V : Val F) : IVec S131072x3 32 × IVec S131072x3 32 := (V (Proc.devRef .tc main_call1_v103), V (Proc.devRef .tc main_call1_v107))
def endB3 (V : Val F) : IVec S131072x3 32 × IVec S131072x3 32 := (V (Proc.devRef .tc main_call1_v137), V (Proc.devRef .tc main_call1_v141))
def endB4 (V : Val F) : IVec S131072x3 32 × IVec S131072x3 32 := (V (Proc.devRef .tc main_v64_0), V (Proc.devRef .tc main_v64_1))

theorem segB0 (V : Val F) : endB0 (after (seg 303 50) V) = key (keysB V).2.1 (broadcastInDim S131072x3 ![] bcast_S_S131072x3 (xori (xori (V (Proc.devRef .tc main_v50)) (V (Proc.devRef .tc main_v52))) (con 466688986#32))) 1#32 (odd (addi (V (Proc.devRef .tc main_v63)) (keysB V).1, addi (V (Proc.devRef .tc main_v62)) (keysB V).2.1)) := by
  unfold endB0
  after_reads_simp
  simp only [TRef.ofBuf_toBuf]
  rfl
theorem keysB0 (V : Val F) : keysB (after (seg 303 50) V) = ((keysB V).1, (keysB V).2.1, (broadcastInDim S131072x3 ![] bcast_S_S131072x3 (xori (xori (V (Proc.devRef .tc main_v50)) (V (Proc.devRef .tc main_v52))) (con 466688986#32)))) := by
  unfold keysB
  after_reads_simp
  simp only [TRef.ofBuf_toBuf]
  rfl

theorem segB1 (V : Val F) : endB1 (after (seg 353 43) V) = key (keysB V).2.2 (keysB V).1 2#32 (even (endB0 V)) := by
  unfold endB1
  after_reads_simp
  simp only [TRef.ofBuf_toBuf]
  rfl
theorem keysB1 (V : Val F) : keysB (after (seg 353 43) V) = keysB V := by
  unfold keysB
  after_reads_simp

theorem segB2 (V : Val F) : endB2 (after (seg 396 43) V) = key (keysB V).1 (keysB V).2.1 3#32 (odd (endB1 V)) := by
  unfold endB2
  after_reads_simp
  simp only [TRef.ofBuf_toBuf]
  rfl
theorem keysB2 (V : Val F) : keysB (after (seg 396 43) V) = keysB V := by
  unfold keysB
  after_reads_simp

theorem segB3 (V : Val F) : endB3 (after (seg 439 43) V) = key (keysB V).2.1 (keysB V).2.2 4#32 (even (endB2 V)) := by
  unfold endB3
  after_reads_simp
  simp only [TRef.ofBuf_toBuf]
  rfl
theorem keysB3 (V : Val F) : keysB (after (seg 439 43) V) = keysB V := by
  unfold keysB
  after_reads_simp

theorem segB4 (V : Val F) : endB4 (after (seg 482 43) V) = key (keysB V).2.2 (keysB V).1 5#32 (odd (endB3 V)) := by
  unfold endB4
  after_reads_simp
  simp only [TRef.ofBuf_toBuf]
  rfl

theorem bodyB (V : Val F) : endB4 (after (seg 303 222) V) = hashed ((keysB V).1, (keysB V).2.1, (broadcastInDim S131072x3 ![] bcast_S_S131072x3 (xori (xori (V (Proc.devRef .tc main_v50)) (V (Proc.devRef .tc main_v52))) (con 466688986#32)))) (V (Proc.devRef .tc main_v63)) (V (Proc.devRef .tc main_v62)) := by
  rw [show (seg 303 222 : Ops F) = seg 303 50 ++ (seg 353 43 ++ (seg 396 43 ++ (seg 439 43 ++ seg 482 43))) from rfl, after_append, after_append, after_append,
    after_append, segB4, segB3, keysB3, segB2, keysB2, segB1, keysB1, keysB0, segB0]
  rfl

/-! ## The hash of the types -/

def keysC (V : Val F) : IVec S131072x100 32 × IVec S131072x100 32 × IVec S131072x100 32 := (broadcastInDim S131072x100 ![] bcast_S_S131072x100 (V (Proc.devRef .tc main_v156)), broadcastInDim S131072x100 ![] bcast_S_S131072x100 (V (Proc.devRef .tc main_v158)), broadcastInDim S131072x100 ![] bcast_S_S131072x100 (V (Proc.devRef .tc main_call4_v1)))
def endC0 (V : Val F) : IVec S131072x100 32 × IVec S131072x100 32 := (V (Proc.devRef .tc main_call4_v35), V (Proc.devRef .tc main_call4_v39))
def endC1 (V : Val F) : IVec S131072x100 32 × IVec S131072x100 32 := (V (Proc.devRef .tc main_call4_v69), V (Proc.devRef .tc main_call4_v73))
def endC2 (V : Val F) : IVec S131072x100 32 × IVec S131072x100 32 := (V (Proc.devRef .tc main_call4_v103), V (Proc.devRef .tc main_call4_v107))
def endC3 (V : Val F) : IVec S131072x100 32 × IVec S131072x100 32 := (V (Proc.devRef .tc main_call4_v137), V (Proc.devRef .tc main_call4_v141))
def endC4 (V : Val F) : IVec S131072x100 32 × IVec S131072x100 32 := (V (Proc.devRef .tc main_v170_0), V (Proc.devRef .tc main_v170_1))

theorem segC0 (V : Val F) : endC0 (after (seg 667 50) V) = key (keysC V).2.1 (broadcastInDim S131072x100 ![] bcast_S_S131072x100 (xori (xori (V (Proc.devRef .tc main_v156)) (V (Proc.devRef .tc main_v158))) (con 466688986#32))) 1#32 (odd (addi (V (Proc.devRef .tc main_v169)) (keysC V).1, addi (V (Proc.devRef .tc main_v168)) (keysC V).2.1)) := by
  unfold endC0
  after_reads_simp
  simp only [TRef.ofBuf_toBuf]
  rfl
theorem keysC0 (V : Val F) : keysC (after (seg 667 50) V) = ((keysC V).1, (keysC V).2.1, (broadcastInDim S131072x100 ![] bcast_S_S131072x100 (xori (xori (V (Proc.devRef .tc main_v156)) (V (Proc.devRef .tc main_v158))) (con 466688986#32)))) := by
  unfold keysC
  after_reads_simp
  simp only [TRef.ofBuf_toBuf]
  rfl

theorem segC1 (V : Val F) : endC1 (after (seg 717 43) V) = key (keysC V).2.2 (keysC V).1 2#32 (even (endC0 V)) := by
  unfold endC1
  after_reads_simp
  simp only [TRef.ofBuf_toBuf]
  rfl
theorem keysC1 (V : Val F) : keysC (after (seg 717 43) V) = keysC V := by
  unfold keysC
  after_reads_simp

theorem segC2 (V : Val F) : endC2 (after (seg 760 43) V) = key (keysC V).1 (keysC V).2.1 3#32 (odd (endC1 V)) := by
  unfold endC2
  after_reads_simp
  simp only [TRef.ofBuf_toBuf]
  rfl
theorem keysC2 (V : Val F) : keysC (after (seg 760 43) V) = keysC V := by
  unfold keysC
  after_reads_simp

theorem segC3 (V : Val F) : endC3 (after (seg 803 43) V) = key (keysC V).2.1 (keysC V).2.2 4#32 (even (endC2 V)) := by
  unfold endC3
  after_reads_simp
  simp only [TRef.ofBuf_toBuf]
  rfl
theorem keysC3 (V : Val F) : keysC (after (seg 803 43) V) = keysC V := by
  unfold keysC
  after_reads_simp

theorem segC4 (V : Val F) : endC4 (after (seg 846 43) V) = key (keysC V).2.2 (keysC V).1 5#32 (odd (endC3 V)) := by
  unfold endC4
  after_reads_simp
  simp only [TRef.ofBuf_toBuf]
  rfl

theorem bodyC (V : Val F) : endC4 (after (seg 667 222) V) = hashed ((keysC V).1, (keysC V).2.1, (broadcastInDim S131072x100 ![] bcast_S_S131072x100 (xori (xori (V (Proc.devRef .tc main_v156)) (V (Proc.devRef .tc main_v158))) (con 466688986#32)))) (V (Proc.devRef .tc main_v169)) (V (Proc.devRef .tc main_v168)) := by
  rw [show (seg 667 222 : Ops F) = seg 667 50 ++ (seg 717 43 ++ (seg 760 43 ++ (seg 803 43 ++ seg 846 43))) from rfl, after_append, after_append, after_append,
    after_append, segC4, segC3, keysC3, segC2, keysC2, segC1, keysC1, keysC0, segC0]
  rfl

end Cert.Proof.Ref

end
-- ==== Proof.Ref.lean ====
/-
  The reference's run: each piece of its straight line read at an index, and its two results.
-/
module

public import proofs.«01_k».proof.Proof.Hash
public import proofs.«01_k».proof.Proof.Noise
public import proofs.«01_k».proof.Proof.Words
public import Idealize.ShloMosaic.Lib.Routing.OpsSet

@[expose] public section

noncomputable section

namespace Cert.Proof.Ref

open Cert.ReferenceIdeal Cert.ReferenceIdeal.Gen
open Cert.Proof.Draw
open Idealize.ShloMosaic Idealize.ShloMosaic.StableHlo Idealize.SL.Sem

variable {F : FTy → Type} [FloatOps F]

/-! ## What a piece leaves alone -/

/-- The buffer of number `n`. -/
def hb (n : ℕ) (h : n < 929) : Ref sig .tc := ⟨.hbm, ⟨n, h⟩, rfl⟩

/-- Statement `i` writes the buffer of number `6 + i`, -/
theorem writes : (line (F := F)).1.map HloOp.writes
    = (List.range 923).pmap (fun i h => {Proc.devRef (τ := τ) .tc (hb (6 + i) h)}) (fun i h => by have := List.mem_range.mp h; omega) := rfl

/-- so a piece leaves a buffer of another number as it was. -/
theorem kept (k n j : ℕ) (hj : j < 929) (h : j < 6 + k ∨ 6 + k + n ≤ j) (V : Val F) :
    after (seg k n) V (Proc.devRef .tc (hb j hj)) = V (Proc.devRef .tc (hb j hj)) := by
  refine after_of_forall_not_mem _ V fun op hop hw => ?_
  obtain ⟨i, hi, rfl⟩ := List.mem_iff_getElem.mp hop
  have hl : k + i < (line (F := F)).1.length := by
    simp only [List.length_take, List.length_drop] at hi
    omega
  have hi' : i < n := by
    simp only [List.length_take, List.length_drop] at hi
    omega
  have e : ((seg k n : Ops F)[i]).writes = ((line (F := F)).1.map HloOp.writes)[k + i]'(by rw [List.length_map]; exact hl) := by
    rw [List.getElem_map, List.getElem_take, List.getElem_drop]
  rw [e] at hw
  simp only [writes, List.getElem_pmap, List.getElem_range, Finset.mem_singleton] at hw
  have := congrArg (fun r : Ref sig .tc => r.idx.val) (Proc.devRef_injective _ hw)
  simp only [hb] at this
  omega

/-- The contents after the first `k` statements. -/
def upTo (k : ℕ) (V : Val F) : Val F := after (seg 0 k) V

theorem upTo_step (k n : ℕ) (V : Val F) : upTo (k + n) V = after (seg k n) (upTo k V) := by
  unfold upTo
  rw [← after_append]
  congr 1
  show (line.1.drop 0).take (k + n) = (line.1.drop 0).take k ++ (line.1.drop k).take n
  rw [List.drop_zero, List.take_add]

theorem upTo_kept (k n j : ℕ) (hj : j < 929) (h : j < 6 + k ∨ 6 + k + n ≤ j) (V : Val F) :
    upTo (k + n) V (Proc.devRef .tc (hb j hj)) = upTo k V (Proc.devRef .tc (hb j hj)) := by
  rw [upTo_step, kept k n j hj h]

/-- An argument. -/
theorem arg_kept (k j : ℕ) (hj : j < 6) (V : Val F) : upTo k V (Proc.devRef .tc (hb j (by omega))) = V (Proc.devRef .tc (hb j (by omega))) :=
  kept 0 k j (by omega) (Or.inl (by omega)) V

theorem whole (V : Val F) : after line.1 V = upTo 923 V := by
  unfold upTo
  rw [show (seg 0 923 : Ops F) = line.1 from rfl]

/-! ## The levels -/

/-- The four keys of the levels, by their two words. -/
def ka : Fin 4 → BitVec 32 := ![keyA.a, keyB.a, keyC.a, keyD.a]
def kb : Fin 4 → BitVec 32 := ![keyA.b, keyB.b, keyC.b, keyD.b]

theorem pre_a (V : Val F) (i : Fin 4) : (upTo 20 V (Proc.devRef .tc main_v13) : IVec S4x1 32) (ix2 (n1 := 1) i 0) = ka i := by
  unfold upTo
  after_reads_at
  fin_cases i <;> rfl
theorem pre_b (V : Val F) (i : Fin 4) : (upTo 20 V (Proc.devRef .tc main_v14) : IVec S4x1 32) (ix2 (n1 := 1) i 0) = kb i := by
  unfold upTo
  after_reads_at
  fin_cases i <;> rfl

/-- A count below 2^32, its two words. -/
theorem low_word (n : ℕ) (x : BitVec 64) (h : x = BitVec.ofNat 64 n) : BitVec.setWidth 32 x = BitVec.ofNat 32 n := by
  subst h
  apply BitVec.eq_of_toNat_eq
  simp
theorem high_word (n : ℕ) (x : BitVec 64) (h : x = BitVec.ofNat 64 n) (hn : n < 4294967296) : BitVec.setWidth 32 (IntOp.shrui ArithUnit.host x 32#64) = 0#32 := by
  subst h
  unfold IntOp.shrui
  rw [if_pos (by decide)]
  apply BitVec.eq_of_toNat_eq
  have h : n % 18446744073709551616 = n := Nat.mod_eq_of_lt (by omega)
  simp [Nat.shiftRight_eq_div_pow, h, Nat.div_eq_of_lt hn]
theorem count1 (n : ℕ) : IntOp.muli 1#64 (BitVec.ofNat 64 n) = BitVec.ofNat 64 n := by
  show 1#64 * BitVec.ofNat 64 n = _
  rw [BitVec.one_mul]
theorem count2 (k i j : ℕ) : IntOp.addi (IntOp.muli (BitVec.ofNat 64 k) (BitVec.ofNat 64 i)) (IntOp.muli 1#64 (BitVec.ofNat 64 j)) = BitVec.ofNat 64 (k * i + j) := by
  show BitVec.ofNat 64 k * BitVec.ofNat 64 i + 1#64 * BitVec.ofNat 64 j = _
  apply BitVec.eq_of_toNat_eq
  simp [BitVec.toNat_add, BitVec.toNat_mul]

theorem pre_hi (V : Val F) (n : Fin 4096) : (upTo 20 V (Proc.devRef .tc main_v11) : IVec S1x4096 32) (ix2 (n0 := 1) 0 n) = 0#32 := by
  have := n.isLt
  unfold upTo
  after_reads_at
  exact high_word n.val _ (count1 _) (by omega)
theorem pre_lo (V : Val F) (n : Fin 4096) : (upTo 20 V (Proc.devRef .tc main_v12) : IVec S1x4096 32) (ix2 (n0 := 1) 0 n) = BitVec.ofNat 32 n.val := by
  unfold upTo
  after_reads_at
  exact low_word n.val _ (count1 _)

theorem col (x : IVec S4x1 32) (i : Fin 4) (n : Fin 4096) : broadcastInDim S4x4096 ![0, 1] bcast_S4x1_S4x4096_0_1 x (ix2 i n) = x (ix2 (n1 := 1) i 0) := by
  pointwise
theorem row (x : IVec S1x4096 32) (i : Fin 4) (n : Fin 4096) : broadcastInDim S4x4096 ![0, 1] bcast_S1x4096_S4x4096_0_1 x (ix2 i n) = x (ix2 (n0 := 1) 0 n) := by
  pointwise

theorem hash_a (V : Val F) (i : Fin 4) (n : Fin 4096) :
    xori (upTo 245 V (Proc.devRef .tc main_v15_0) : IVec S4x4096 32) (upTo 245 V (Proc.devRef .tc main_v15_1)) (ix2 i n) = bits (ka i) (kb i) (BitVec.ofNat 32 n.val) := by
  have h : at_ (endA4 (upTo 245 V)) (ix2 i n) = Draw.hash (ka i) (kb i) (0#32, BitVec.ofNat 32 n.val) := by
    rw [show (245 : ℕ) = 20 + 225 from rfl, upTo_step, bodyA, at_hashed _ _ _ _ rfl, ← pre_hi V n, ← pre_lo V n, ← pre_a V i, ← pre_b V i]
    unfold keysA
    dsimp only
    rw [col, col, row, row]
  show (at_ (endA4 (upTo 245 V)) (ix2 i n)).1 ^^^ (at_ (endA4 (upTo 245 V)) (ix2 i n)).2 = _
  rw [h]
  rfl

theorem rem50 (x : BitVec 32) : IntOp.remui ArithUnit.host x 50#32 = BitVec.ofNat 32 (x.toNat % 50) := by
  unfold IntOp.remui
  rw [if_neg (by decide)]
  apply BitVec.eq_of_toNat_eq
  have : x.toNat % 50 < 50 := Nat.mod_lt _ (by norm_num)
  simp
  omega

/-- Two hashes taken together modulo 50. -/
def both (x y : BitVec 32) : BitVec 32 := IntOp.remui ArithUnit.host (IntOp.addi (IntOp.muli (IntOp.remui ArithUnit.host x 50#32) 46#32) (IntOp.remui ArithUnit.host y 50#32)) 50#32

theorem both_eq (k k' : Key) (x : BitVec 32) : both (bits k.a k.b x) (bits k'.a k'.b x) = BitVec.ofNat 32 (level k k' x) := by
  unfold both level
  rw [rem50, rem50, rem50]
  congr 2
  have h0 : (bits k.a k.b x).toNat % 50 < 50 := Nat.mod_lt _ (by norm_num)
  have h1 : (bits k'.a k'.b x).toNat % 50 < 50 := Nat.mod_lt _ (by norm_num)
  generalize (bits k.a k.b x).toNat % 50 = a at h0
  generalize (bits k'.a k'.b x).toNat % 50 = b at h1
  show (BitVec.ofNat 32 a * 46#32 + BitVec.ofNat 32 b).toNat = _
  simp [BitVec.toNat_add, BitVec.toNat_mul]
  omega

theorem lev_s (V : Val F) (n : Fin 4096) : (upTo 259 V (Proc.devRef .tc main_v26) : IVec S2x4096 32) (ix2 0 n) = BitVec.ofNat 32 (level keyA keyB (BitVec.ofNat 32 n.val)) := by
  rw [← both_eq, show bits keyA.a keyA.b _ = _ from (hash_a V 0 n).symm, show bits keyB.a keyB.b _ = _ from (hash_a V 1 n).symm, show (259 : ℕ) = 245 + 14 from rfl, upTo_step]
  generalize upTo 245 V = W
  after_reads_simp
  show both (xori (W (Proc.devRef .tc main_v15_0)) (W (Proc.devRef .tc main_v15_1)) _) (xori (W (Proc.devRef .tc main_v15_0)) (W (Proc.devRef .tc main_v15_1)) _) = _
  congr 1 <;> refine congrArg (xori _ _) (funext fun a => Fin.ext ?_) <;> fin_cases a <;> simp
theorem lev_t (V : Val F) (n : Fin 4096) : (upTo 259 V (Proc.devRef .tc main_v26) : IVec S2x4096 32) (ix2 1 n) = BitVec.ofNat 32 (level keyC keyD (BitVec.ofNat 32 n.val)) := by
  rw [← both_eq, show bits keyC.a keyC.b _ = _ from (hash_a V 2 n).symm, show bits keyD.a keyD.b _ = _ from (hash_a V 3 n).symm, show (259 : ℕ) = 245 + 14 from rfl, upTo_step]
  generalize upTo 245 V = W
  after_reads_simp
  show both (xori (W (Proc.devRef .tc main_v15_0)) (W (Proc.devRef .tc main_v15_1)) _) (xori (W (Proc.devRef .tc main_v15_0)) (W (Proc.devRef .tc main_v15_1)) _) = _
  congr 1 <;> refine congrArg (xori _ _) (funext fun a => Fin.ext ?_) <;> fin_cases a <;> simp

/-- The level of crystal `n`. -/
def lvl (k k' : Key) (n : ℕ) : Fin 50 := ⟨level k k' (BitVec.ofNat 32 n), Nat.mod_lt _ (by norm_num)⟩

/-- A table looked up at a column of entries below 50. -/
theorem taken (x : FVec F S50 .f32) (idx : IVec S4096x1 32) (n : Fin 4096) (b : Fin 50) (h : idx (ix2 n 0) = BitVec.ofNat 32 b.val) :
    Host.gather gather_S50_S4096x1_S4096_n_0_n_n_0_1_1 x idx (ix1 n) = x (ix1 b) :=
  Routing.gather_take1 gather_S50_S4096x1_S4096_n_0_n_n_0_1_1 rfl rfl rfl rfl x idx n b h (by norm_num)

/-- An entry below 50 is not negative. -/
theorem below (b : Fin 50) : Scalar.select (IntOp.cmpi CmpIPredicate.slt (BitVec.ofNat 32 b.val) 0#32) (IntOp.addi (BitVec.ofNat 32 b.val) 50#32) (BitVec.ofNat 32 b.val) = BitVec.ofNat 32 b.val := by
  revert b
  decide

/-- A column of entries below 50, the negative ones counted from the end. -/
theorem wrapped (g z c : IVec S4096 32) (n : Fin 4096) (b : Fin 50) (h : g (ix1 n) = BitVec.ofNat 32 b.val) (hz : z (ix1 n) = 0#32) (hc : c (ix1 n) = 50#32) :
    broadcastInDim S4096x1 ![0] bcast_S4096_S4096x1_0 (select (cmpi .slt g z) (addi g c) g) (ix2 (n1 := 1) n 0) = BitVec.ofNat 32 b.val := by
  pointwise
  rw [h, hz, hc]
  exact below b

theorem sig_x (V : Val F) (q : Fin 131072) : (upTo 285 V (Proc.devRef .tc main_v37) : FVec F S131072 .f32) (ix1 q) = V (Proc.devRef .tc main_arg4) (ix1 (lvl keyA keyB (q.val / 32))) := by
  have hq := q.isLt
  have h := lev_s V ⟨q.val / 32, by omega⟩
  have ha : upTo 259 V (Proc.devRef .tc main_arg4) = _ := arg_kept 259 4 (by norm_num) V
  rw [show (285 : ℕ) = 259 + 26 from rfl, upTo_step]
  revert h ha
  generalize upTo 259 V = W
  intro h ha
  after_reads_at
  refine (taken _ _ _ (lvl keyA keyB (q.val / 32)) ?_).trans (congrFun ha _)
  exact wrapped _ _ _ _ _ h rfl rfl

theorem sig_t (V : Val F) (q : Fin 131072) : (upTo 285 V (Proc.devRef .tc main_v48) : FVec F S131072 .f32) (ix1 q) = V (Proc.devRef .tc main_arg5) (ix1 (lvl keyC keyD (q.val / 32))) := by
  have hq := q.isLt
  have h := lev_t V ⟨q.val / 32, by omega⟩
  have ha : upTo 259 V (Proc.devRef .tc main_arg5) = _ := arg_kept 259 5 (by norm_num) V
  rw [show (285 : ℕ) = 259 + 26 from rfl, upTo_step]
  revert h ha
  generalize upTo 259 V = W
  intro h ha
  after_reads_at
  refine (taken _ _ _ (lvl keyC keyD (q.val / 32)) ?_).trans (congrFun ha _)
  exact wrapped _ _ _ _ _ h rfl rfl

/-! ## The positions' draws -/

theorem c0_kept (V : Val F) : upTo 285 V (Proc.devRef .tc main_c_0) = upTo 20 V (Proc.devRef .tc main_c_0) := upTo_kept 20 265 7 (by norm_num) (Or.inl (by norm_num)) V
theorem c1_kept (V : Val F) : upTo 636 V (Proc.devRef .tc main_c_1) = upTo 20 V (Proc.devRef .tc main_c_1) := upTo_kept 20 616 8 (by norm_num) (Or.inl (by norm_num)) V

/-- The one index of a word's array. -/
def o_ : S_.Idx := fun a => a.elim0

theorem c0_at (V : Val F) (i : Fin 2) : (upTo 20 V (Proc.devRef .tc main_c_0) : IVec S2 32) (ix1 i) = ![key3.a, key3.b] i := by
  unfold upTo
  after_reads_at
  fin_cases i <;> rfl
theorem c1_at (V : Val F) (i : Fin 2) : (upTo 20 V (Proc.devRef .tc main_c_1) : IVec S2 32) (ix1 i) = ![key4.a, key4.b] i := by
  unfold upTo
  after_reads_at
  fin_cases i <;> rfl

theorem pos_a (V : Val F) : (upTo 303 V (Proc.devRef .tc main_v50) : IVec S_ 32) o_ = key3.a := by
  have h := congrFun (c0_kept V) (ix1 0)
  rw [c0_at V 0] at h
  rw [show (303 : ℕ) = 285 + 18 from rfl, upTo_step]
  revert h
  generalize upTo 285 V = W
  intro h
  after_reads_at
  exact h
theorem pos_b (V : Val F) : (upTo 303 V (Proc.devRef .tc main_v52) : IVec S_ 32) o_ = key3.b := by
  have h := congrFun (c0_kept V) (ix1 1)
  rw [c0_at V 1] at h
  rw [show (303 : ℕ) = 285 + 18 from rfl, upTo_step]
  revert h
  generalize upTo 285 V = W
  intro h
  after_reads_at
  exact h
theorem pos_hi (V : Val F) (i : Fin 131072) (j : Fin 3) : (upTo 303 V (Proc.devRef .tc main_v63) : IVec S131072x3 32) (ix2 i j) = 0#32 := by
  have hi := i.isLt
  have hj := j.isLt
  rw [show (303 : ℕ) = 285 + 18 from rfl, upTo_step]
  after_reads_at
  exact high_word _ _ (count2 3 _ _) (by omega)
theorem pos_lo (V : Val F) (i : Fin 131072) (j : Fin 3) : (upTo 303 V (Proc.devRef .tc main_v62) : IVec S131072x3 32) (ix2 i j) = BitVec.ofNat 32 (3 * i.val + j.val) := by
  rw [show (303 : ℕ) = 285 + 18 from rfl, upTo_step]
  after_reads_at
  exact low_word _ _ (count2 3 _ _)

theorem spreadB (x : IVec S_ 32) (l : S131072x3.Idx) : broadcastInDim S131072x3 ![] bcast_S_S131072x3 x l = x o_ := congrArg x (funext fun a => a.elim0)
theorem spreadC (x : IVec S_ 32) (l : S131072x100.Idx) : broadcastInDim S131072x100 ![] bcast_S_S131072x100 x l = x o_ := congrArg x (funext fun a => a.elim0)

theorem hash_b (V : Val F) (i : Fin 131072) (j : Fin 3) :
    xori (upTo 525 V (Proc.devRef .tc main_v64_0) : IVec S131072x3 32) (upTo 525 V (Proc.devRef .tc main_v64_1)) (ix2 i j)
      = bits key3.a key3.b (BitVec.ofNat 32 (3 * i.val + j.val)) := by
  have h : at_ (endB4 (upTo 525 V)) (ix2 i j) = Draw.hash key3.a key3.b (0#32, BitVec.ofNat 32 (3 * i.val + j.val)) := by
    rw [show (525 : ℕ) = 303 + 222 from rfl, upTo_step, bodyB, at_hashed _ _ _ _ rfl, ← pos_hi V i j, ← pos_lo V i j, ← pos_a V, ← pos_b V]
    unfold keysB
    dsimp only
    rw [spreadB, spreadB]
  show (at_ (endB4 (upTo 525 V)) (ix2 i j)).1 ^^^ (at_ (endB4 (upTo 525 V)) (ix2 i j)).2 = _
  rw [h]
  rfl

/-! ## The positions -/

theorem unit_eq (x : BitVec 32) : (FloatOps.subf (FloatOps.ofBits FTy.f32 (IntOp.ori (IntOp.shrui ArithUnit.host x 9#32) 1065353216#32)) (FloatOps.ofBits FTy.f32 1065353216#32) : F .f32) = unit x := by
  rw [show (9#32) = BitVec.ofNat 32 9 from rfl, shr_const 9 (by decide)]
  rfl

/-- A draw in [0, 1), stretched and moved, and kept from going below the least value. -/
def runi (span low : BitVec 32) (x : F .f32) : F .f32 := FloatOps.maximumf (flit low) (FloatOps.addf (FloatOps.mulf x (flit span)) (flit low))
/-- The logarithm of the inverse error function's argument, -/
def rlg (u : F .f32) : F .f32 := FloatOps.hostNegf (FloatOps.hostUnary .log1p (FloatOps.mulf (FloatOps.hostNegf u) u))
/-- the function over its argument, -/
def rgiles (w : F .f32) : F .f32 :=
  Scalar.select (FloatOps.cmpf .olt w (flit 0x40A00000#32)) (poly (FloatOps.subf w (flit 0x40200000#32)) 0x32F16588#32 smalls)
    (poly (FloatOps.subf (FloatOps.hostUnary .sqrt w) (flit 0x40400000#32)) 0xB951F09B#32 bigs)
/-- and a normal draw. -/
def rnormal (u : F .f32) : F .f32 := FloatOps.mulf (flit 0x3FB504F3#32) (FloatOps.mulf (rgiles (rlg u)) u)

theorem s1 (V : Val F) (l : S131072x3.Idx) : (upTo 545 V (Proc.devRef .tc main_v78) : FVec F S131072x3 .f32) l
    = runi 0x40000000#32 0xBF7FFFFF#32 (unit (xori (upTo 525 V (Proc.devRef .tc main_v64_0) : IVec S131072x3 32) (upTo 525 V (Proc.devRef .tc main_v64_1)) l)) := by
  rw [← unit_eq, show (545 : ℕ) = 525 + 20 from rfl, upTo_step]
  after_reads_at
  rfl
theorem s2 (V : Val F) (l : S131072x3.Idx) : (upTo 556 V (Proc.devRef .tc main_v82) : FVec F S131072x3 .f32) l = rlg ((upTo 545 V (Proc.devRef .tc main_v78) : FVec F S131072x3 .f32) l) := by
  rw [show (556 : ℕ) = 545 + 11 from rfl, upTo_step]
  after_reads_at
  rfl
theorem s2a (V : Val F) (l : S131072x3.Idx) : (upTo 556 V (Proc.devRef .tc main_v84) : FVec F S131072x3 .f32) l
    = FloatOps.subf (rlg ((upTo 545 V (Proc.devRef .tc main_v78) : FVec F S131072x3 .f32) l)) (flit 0x40200000#32) := by
  rw [show (556 : ℕ) = 545 + 11 from rfl, upTo_step]
  after_reads_at
  rfl
theorem s2b (V : Val F) (l : S131072x3.Idx) : (upTo 556 V (Proc.devRef .tc main_v87) : FVec F S131072x3 .f32) l
    = FloatOps.subf (FloatOps.hostUnary .sqrt (rlg ((upTo 545 V (Proc.devRef .tc main_v78) : FVec F S131072x3 .f32) l))) (flit 0x40400000#32) := by
  rw [show (556 : ℕ) = 545 + 11 from rfl, upTo_step]
  after_reads_at
  rfl
theorem s3a (V : Val F) (l : S131072x3.Idx) : (upTo 624 V (Proc.devRef .tc main_v134) : FVec F S131072x3 .f32) l
    = poly ((upTo 556 V (Proc.devRef .tc main_v84) : FVec F S131072x3 .f32) l) 0x32F16588#32 smalls := by
  rw [show (624 : ℕ) = 556 + 68 from rfl, upTo_step]
  after_reads_simp
  rfl
theorem s3b (V : Val F) (l : S131072x3.Idx) : (upTo 624 V (Proc.devRef .tc main_v137) : FVec F S131072x3 .f32) l
    = poly ((upTo 556 V (Proc.devRef .tc main_v87) : FVec F S131072x3 .f32) l) 0xB951F09B#32 bigs := by
  rw [show (624 : ℕ) = 556 + 68 from rfl, upTo_step]
  after_reads_simp
  rfl
theorem s4 (V : Val F) (i : Fin 131072) (j : Fin 3) : (upTo 636 V (Proc.devRef .tc main_v147) : FVec F S131072x3 .f32) (ix2 i j)
    = FloatOps.addf ((upTo 624 V (Proc.devRef .tc main_arg0) : FVec F S131072x3 .f32) (ix2 i j))
        (FloatOps.mulf (FloatOps.mulf (flit 0x3FB504F3#32) (FloatOps.mulf (Scalar.select (FloatOps.cmpf .olt ((upTo 624 V (Proc.devRef .tc main_v82) : FVec F S131072x3 .f32) (ix2 i j)) (flit 0x40A00000#32))
            ((upTo 624 V (Proc.devRef .tc main_v134) : FVec F S131072x3 .f32) (ix2 i j)) ((upTo 624 V (Proc.devRef .tc main_v137) : FVec F S131072x3 .f32) (ix2 i j)))
            ((upTo 624 V (Proc.devRef .tc main_v78) : FVec F S131072x3 .f32) (ix2 i j))))
          ((upTo 624 V (Proc.devRef .tc main_v37) : FVec F S131072 .f32) (ix1 i))) := by
  rw [show (636 : ℕ) = 624 + 12 from rfl, upTo_step]
  after_reads_at

theorem v78_kept (V : Val F) : upTo 624 V (Proc.devRef .tc main_v78) = upTo 545 V (Proc.devRef .tc main_v78) := upTo_kept 545 79 550 (by norm_num) (Or.inl (by norm_num)) V
theorem v82_kept (V : Val F) : upTo 624 V (Proc.devRef .tc main_v82) = upTo 556 V (Proc.devRef .tc main_v82) := upTo_kept 556 68 554 (by norm_num) (Or.inl (by norm_num)) V
theorem v37_kept (V : Val F) : upTo 624 V (Proc.devRef .tc main_v37) = upTo 285 V (Proc.devRef .tc main_v37) := upTo_kept 285 339 277 (by norm_num) (Or.inl (by norm_num)) V
theorem v147_kept (V : Val F) : upTo 923 V (Proc.devRef .tc main_v147) = upTo 636 V (Proc.devRef .tc main_v147) := upTo_kept 636 287 641 (by norm_num) (Or.inl (by norm_num)) V

/-- Result 1. -/
theorem line_x (V : Val F) (i : Fin 131072) (j : Fin 3) : (after line.1 V (Proc.devRef .tc main_v147) : FVec F S131072x3 .f32) (ix2 i j)
    = FloatOps.addf ((V (Proc.devRef .tc main_arg0) : FVec F S131072x3 .f32) (ix2 i j))
        (FloatOps.mulf (rnormal (runi 0x40000000#32 0xBF7FFFFF#32 (unit (bits key3.a key3.b (BitVec.ofNat 32 (3 * i.val + j.val))))))
          ((V (Proc.devRef .tc main_arg4) : FVec F S50 .f32) (ix1 (lvl keyA keyB (i.val / 32))))) := by
  rw [whole, v147_kept, s4, v78_kept, v82_kept, v37_kept, s3a, s3b, s2, s2a, s2b, s1, hash_b, sig_x,
    show upTo 624 V (Proc.devRef .tc main_arg0) = _ from arg_kept 624 0 (by norm_num) V]
  rfl

end Cert.Proof.Ref

end
-- ==== Proof.Types.lean ====
/-
  The reference's types, read at an index, and its run.
-/
module

public import proofs.«01_k».proof.Proof.Ref

@[expose] public section

noncomputable section

namespace Cert.Proof.Ref

open Cert.ReferenceIdeal Cert.ReferenceIdeal.Gen
open Cert.Proof.Draw
open Idealize.ShloMosaic Idealize.ShloMosaic.StableHlo Idealize.SL.Sem

variable {F : FTy → Type} [FloatOps F]

/-! ## The types' draws -/

theorem typ_a (V : Val F) : (upTo 667 V (Proc.devRef .tc main_v156) : IVec S_ 32) o_ = key4.a := by
  have h := congrFun (c1_kept V) (ix1 0)
  rw [c1_at V 0] at h
  rw [show (667 : ℕ) = 636 + 31 from rfl, upTo_step]
  revert h
  generalize upTo 636 V = W
  intro h
  after_reads_at
  exact h
theorem typ_b (V : Val F) : (upTo 667 V (Proc.devRef .tc main_v158) : IVec S_ 32) o_ = key4.b := by
  have h := congrFun (c1_kept V) (ix1 1)
  rw [c1_at V 1] at h
  rw [show (667 : ℕ) = 636 + 31 from rfl, upTo_step]
  revert h
  generalize upTo 636 V = W
  intro h
  after_reads_at
  exact h
theorem typ_hi (V : Val F) (i : Fin 131072) (j : Fin 100) : (upTo 667 V (Proc.devRef .tc main_v169) : IVec S131072x100 32) (ix2 i j) = 0#32 := by
  have hi := i.isLt
  have hj := j.isLt
  rw [show (667 : ℕ) = 636 + 31 from rfl, upTo_step]
  after_reads_at
  exact high_word _ _ (count2 100 _ _) (by omega)
theorem typ_lo (V : Val F) (i : Fin 131072) (j : Fin 100) : (upTo 667 V (Proc.devRef .tc main_v168) : IVec S131072x100 32) (ix2 i j) = BitVec.ofNat 32 (100 * i.val + j.val) := by
  rw [show (667 : ℕ) = 636 + 31 from rfl, upTo_step]
  after_reads_at
  exact low_word _ _ (count2 100 _ _)

theorem spread_xor {s : Shape} (h : S_.BroadcastsInDim s ![]) (a b : IVec S_ 32) (c : BitVec 32) (l : s.Idx) :
    broadcastInDim s ![] h (xori (xori a b) (con c)) l = broadcastInDim s ![] h a l ^^^ broadcastInDim s ![] h b l ^^^ c := rfl

theorem hash_c (V : Val F) (i : Fin 131072) (j : Fin 100) :
    xori (upTo 889 V (Proc.devRef .tc main_v170_0) : IVec S131072x100 32) (upTo 889 V (Proc.devRef .tc main_v170_1)) (ix2 i j)
      = bits key4.a key4.b (BitVec.ofNat 32 (100 * i.val + j.val)) := by
  have h : at_ (endC4 (upTo 889 V)) (ix2 i j) = Draw.hash key4.a key4.b (0#32, BitVec.ofNat 32 (100 * i.val + j.val)) := by
    rw [show (889 : ℕ) = 667 + 222 from rfl, upTo_step, bodyC, at_hashed, ← typ_hi V i j, ← typ_lo V i j, ← typ_a V, ← typ_b V]
    · unfold keysC
      dsimp only
      rw [spreadC, spreadC]
    · unfold keysC
      dsimp only
      rw [spread_xor]
  show (at_ (endC4 (upTo 889 V)) (ix2 i j)).1 ^^^ (at_ (endC4 (upTo 889 V)) (ix2 i j)).2 = _
  rw [h]
  rfl

/-! ## The types -/

/-- The noise on a type's logit, from a draw, -/
def rgum (x : F .f32) : F .f32 := FloatOps.hostNegf (FloatOps.hostUnary .log (FloatOps.hostNegf (FloatOps.hostUnary .log (runi 0x3F800000#32 0x00800000#32 x))))
/-- a type's probability, moved, -/
def rprob (p r : F .f32) (h : BitVec 32) (j : ℕ) : F .f32 :=
  FloatOps.addf (FloatOps.uitofp .f32 (IntOp.cmpi .eq (IntOp.subi h 1#32) (BitVec.ofNat 32 j))) (FloatOps.mulf p r)
/-- and the type's score. -/
def rscore (u p r : F .f32) (h : BitVec 32) (j : ℕ) : F .f32 := FloatOps.addf (rgum u) (FloatOps.hostUnary .log (rprob p r h j))

theorem s5 (V : Val F) (i : Fin 131072) (j : Fin 100) : (upTo 667 V (Proc.devRef .tc main_v154) : FVec F S131072x100 .f32) (ix2 i j)
    = rprob ((upTo 636 V (Proc.devRef .tc main_arg2) : FVec F S131072x100 .f32) (ix2 i j)) ((upTo 636 V (Proc.devRef .tc main_v48) : FVec F S131072 .f32) (ix1 i))
        ((upTo 636 V (Proc.devRef .tc main_arg1) : IVec S131072 32) (ix1 i)) j.val := by
  rw [show (667 : ℕ) = 636 + 31 from rfl, upTo_step]
  after_reads_at
  rfl
theorem s6 (V : Val F) (i : Fin 131072) (j : Fin 100) : (upTo 915 V (Proc.devRef .tc main_v190) : FVec F S131072x100 .f32) (ix2 i j)
    = FloatOps.addf (rgum (unit (xori (upTo 889 V (Proc.devRef .tc main_v170_0) : IVec S131072x100 32) (upTo 889 V (Proc.devRef .tc main_v170_1)) (ix2 i j))))
        (FloatOps.hostUnary .log ((upTo 889 V (Proc.devRef .tc main_v154) : FVec F S131072x100 .f32) (ix2 i j))) := by
  rw [← unit_eq, show (915 : ℕ) = 889 + 26 from rfl, upTo_step]
  after_reads_at
  rfl

theorem v154_kept (V : Val F) : upTo 889 V (Proc.devRef .tc main_v154) = upTo 667 V (Proc.devRef .tc main_v154) := upTo_kept 667 222 654 (by norm_num) (Or.inl (by norm_num)) V
theorem v48_kept (V : Val F) : upTo 636 V (Proc.devRef .tc main_v48) = upTo 285 V (Proc.devRef .tc main_v48) := upTo_kept 285 351 290 (by norm_num) (Or.inl (by norm_num)) V

/-- The scores. -/
theorem line_s (V : Val F) (i : Fin 131072) (j : Fin 100) : (upTo 915 V (Proc.devRef .tc main_v190) : FVec F S131072x100 .f32) (ix2 i j)
    = rscore (unit (bits key4.a key4.b (BitVec.ofNat 32 (100 * i.val + j.val)))) ((V (Proc.devRef .tc main_arg2) : FVec F S131072x100 .f32) (ix2 i j))
        ((V (Proc.devRef .tc main_arg5) : FVec F S50 .f32) (ix1 (lvl keyC keyD (i.val / 32)))) ((V (Proc.devRef .tc main_arg1) : IVec S131072 32) (ix1 i)) j.val := by
  rw [s6, v154_kept, s5, v48_kept, sig_t, hash_c, show upTo 636 V (Proc.devRef .tc main_arg2) = _ from arg_kept 636 2 (by norm_num) V,
    show upTo 636 V (Proc.devRef .tc main_arg1) = _ from arg_kept 636 1 (by norm_num) V]
  rfl

/-- Result 2, from the scores. -/
theorem s7 (V : Val F) : (upTo 923 V (Proc.devRef .tc main_v193) : IVec S131072 32)
    = addi (fun j => (Host.argReduce reducer_argmax_f32_i32 (upTo 915 V (Proc.devRef .tc main_v190)) (iotaInDim S131072x100 32 1) (constant S_ .f32 0xFF800000#32) (constantI S_ 32 0#32)
        reducesTo_S131072x100_S131072_d1 h_S_ j).2) (broadcastInDim S131072 ![] bcast_S_S131072 (constantI S_ 32 1#32)) := by
  rw [show (923 : ℕ) = 915 + 8 from rfl, upTo_step]
  generalize upTo 915 V = W
  after_reads_simp
  refine congrArg (fun z => addi z _) ?_
  refine congrArg (fun (z : FVec F S131072x100 .f32) j => (Host.argReduce reducer_argmax_f32_i32 z (iotaInDim S131072x100 32 1) (constant S_ .f32 0xFF800000#32) (constantI S_ 32 0#32)
    reducesTo_S131072x100_S131072_d1 h_S_ j).2) ?_
  rfl

/-! ## The run -/

/-- No statement makes a buffer. -/
theorem fresh (op : HloOp τ sig (Elt F)) (h : op ∈ line.1) : op.fresh = ∅ := by
  have e : (line (F := F)).1.map HloOp.fresh = List.replicate 923 ∅ := rfl
  exact List.eq_of_mem_replicate (e ▸ List.mem_map_of_mem h)

/-- Every buffer is the TensorCore's. -/
theorem all_tc (b : DevRef τ sig) : b ∈ tcRefs τ sig := by
  obtain ⟨tb, i, h⟩ := b
  cases tb with
  | hbm =>
    have e : (⟨.hbm, i, h⟩ : DevRef τ sig) = Proc.devRef .tc (hb i.val i.isLt) := congrArg (DevRef.mk .hbm i) (Topo.HbmHolder.eq_of_eq_false (τ := τ) rfl _ _)
    exact e ▸ devRef_mem_tcRefs _
  | host => exact i.elim0
  | shared => exact i.elim0
  | «local» κ cs => cases κ <;> cases cs <;> exact i.elim0

/-- The reference's run. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      ∀ (d : Dev nD) (b : Ref sig .tc), r.2.mem ((d.tc : Thread nD τ).loc b) = after line.1 (launchContents m d) (Proc.devRef .tc b) :=
  run_hlo _ _ line.2 (by decide) (by decide) (List.forall_iff_forall_mem.mpr fun _ _ b _ => all_tc b) fresh m ρ

/-- The reference has no semaphores. -/
theorem no_sems {β : Type} (g h : GSem nD τ sig → β) : g = h :=
  funext fun x => absurd (Finset.mem_univ x.2) (by rw [show (Finset.univ : Finset (SemLoc sig)) = ∅ by decide]; exact Finset.notMem_empty _)

end Cert.Proof.Ref

end
-- ==== Proof.Equal.lean ====
/-
  The reference's values are the kernel's, over the extended reals.
-/
module

public import proofs.«01_k».proof.Proof.Read
public import proofs.«01_k».proof.Proof.Types
public import Idealize.ShloMosaic.PureOps.Ideal.Laws

@[expose] public section

noncomputable section

namespace Cert.Proof.Equal

open Idealize.ShloMosaic Cert.Proof.Draw Cert.Proof.Ref

/-! ## The draws' noise -/

theorem one : Ideal.ofBits .f32 0x3F800000#32 = 1 := by
  simp [Ideal.ofBits, Ideal.ieee]
  rw [← EReal.coe_mul, ← EReal.coe_one]
  norm_num

/-- 1 − u² in two ways. -/
theorem log_arg (u : EReal) : 1 + -u * u = (1 - u) * (1 + u) := by
  induction u with
  | bot => simp [sub_eq_add_neg, show (1 : EReal) + ⊤ = ⊤ from EReal.coe_add_top 1]
  | top => simp [sub_eq_add_neg, show (1 : EReal) + ⊤ = ⊤ from EReal.coe_add_top 1]
  | coe r =>
    rw [← EReal.coe_one]
    norm_cast
    ring

theorem runi_eq (a b : BitVec 32) (x : Ideal .f32) : runi (F := Ideal) a b x = uni (F := Ideal) a b x := by
  unfold runi uni
  rw [Ideal.maximumf_def, Ideal.maximumf_def, max_comm]

theorem rlg_eq (u : Ideal .f32) : rlg (F := Ideal) u = lg (F := Ideal) u := by
  unfold rlg lg
  simp only [Ideal.hostNegf_def, Ideal.negf_def, Ideal.hostUnary_log1p_def, Ideal.log1p_def, Ideal.log_def, Ideal.mulf_def, Ideal.subf_def, Ideal.addf_def, Ideal.ofBits_def,
    one, Ideal.ofBits_zero_f32]
  show -Ideal.log (1 + -u * u) = _
  rw [zero_sub, log_arg]

theorem rgiles_eq (w : Ideal .f32) : rgiles (F := Ideal) w = giles (F := Ideal) w := rfl

theorem rnormal_eq (x : Ideal .f32) : rnormal (F := Ideal) (runi (F := Ideal) 0x40000000#32 0xBF7FFFFF#32 x) = normal (F := Ideal) x := by
  unfold rnormal normal sym
  rw [runi_eq, rlg_eq, rgiles_eq]

theorem rgum_eq (x : Ideal .f32) : rgum (F := Ideal) x = gum (F := Ideal) x := by
  unfold rgum gum
  rw [runi_eq]
  simp only [Ideal.hostNegf_def, Ideal.negf_def, Ideal.hostUnary_log_def, Ideal.log_def, Ideal.subf_def, Ideal.ofBits_def, Ideal.ofBits_zero_f32, zero_sub]

theorem hit_eq (a b : BitVec 32) : (FloatOps.uitofp (F := Ideal) .f32 (IntOp.cmpi .eq a b) : EReal) = if IntOp.cmpi .eq b a = 1#1 then 1 else 0 := by
  show (((IntOp.cmpi .eq a b).toNat : ℝ) : EReal) = _
  rw [show IntOp.cmpi .eq a b = BitVec.ofBool (decide (a = b)) from rfl, show IntOp.cmpi .eq b a = BitVec.ofBool (decide (b = a)) from rfl]
  by_cases h : a = b
  · simp [h]
  · simp [h, Ne.symm h]

theorem rscore_eq (u p r : Ideal .f32) (h : BitVec 32) (j : ℕ) : rscore (F := Ideal) u p r h j = Tile.score (F := Ideal) u p r h j := by
  unfold rscore Tile.score rprob
  rw [rgum_eq, hit_eq]
  simp only [Ideal.hostUnary_log_def, Ideal.log_def, Ideal.ofBits_def, Ideal.ofBits_zero_f32, one]
  rfl

/-! ## The place of the greatest score -/

/-- Whether a pair of a value and a place comes first. -/
def Beats (a b : Ideal .f32 × BitVec 32) : Prop := (b.1 : EReal) < a.1 ∨ (a.1 : EReal) = b.1 ∧ a.2.toNat ≤ b.2.toNat

theorem Beats.refl (a : Ideal .f32 × BitVec 32) : Beats a a := Or.inr ⟨rfl, le_rfl⟩
theorem Beats.trans {a b c : Ideal .f32 × BitVec 32} (h : Beats a b) (h' : Beats b c) : Beats a c := by
  rcases h with h | ⟨h, i⟩ <;> rcases h' with h' | ⟨h', i'⟩
  · exact Or.inl (h'.trans h)
  · exact Or.inl (h' ▸ h)
  · exact Or.inl (h ▸ h')
  · exact Or.inr ⟨h.trans h', i.trans i'⟩

abbrev pick := Cert.ReferenceIdeal.reducer_argmax_f32_i32 (F := Ideal)

theorem pick_spec (a b : Ideal .f32 × BitVec 32) (ha : a.2.toNat < 2 ^ 31) (hb : b.2.toNat < 2 ^ 31) :
    (pick a b = a ∨ pick a b = b) ∧ Beats (pick a b) a ∧ Beats (pick a b) b := by
  have hs : a.2.slt b.2 = decide (a.2.toNat < b.2.toNat) := by
    rw [BitVec.slt_eq_decide, BitVec.toInt_eq_toNat_cond, BitVec.toInt_eq_toNat_cond]
    congr 1
    split_ifs <;> first | omega | (apply propext; omega)
  have e : pick a b = (if (b.1 : EReal) < a.1 then a.1 else b.1, if (b.1 : EReal) < a.1 ∨ (a.1 : EReal) = b.1 ∧ a.2.toNat < b.2.toNat then a.2 else b.2) := by
    unfold pick Cert.ReferenceIdeal.reducer_argmax_f32_i32
    simp only [Ideal.cmpf_def, Ideal.cmp, Scalar.select, IntOp.cmpi, hs]
    by_cases h : (b.1 : EReal) < a.1 <;> by_cases h' : (a.1 : EReal) = b.1 <;> by_cases h'' : a.2.toNat < b.2.toNat <;>
      simp [h, h', h'', IntOp.ori, IntOp.andi]
  rw [e]
  unfold Beats
  rcases lt_trichotomy (a.1 : EReal) b.1 with h | h | h
  · rw [if_neg (not_lt.mpr h.le), if_neg (by rintro (i | ⟨i, -⟩); exacts [lt_asymm h i, h.ne i])]
    exact ⟨Or.inr rfl, Or.inl h, Or.inr ⟨rfl, le_rfl⟩⟩
  · rw [if_neg (not_lt.mpr h.le)]
    by_cases i : a.2.toNat < b.2.toNat
    · rw [if_pos (Or.inr ⟨h, i⟩)]
      exact ⟨Or.inl (Prod.ext h.symm rfl), Or.inr ⟨h.symm, le_rfl⟩, Or.inr ⟨rfl, i.le⟩⟩
    · rw [if_neg (by rintro (i' | ⟨-, i'⟩); exacts [h.symm.not_lt i', i i'])]
      exact ⟨Or.inr rfl, Or.inr ⟨h.symm, not_lt.mp i⟩, Or.inr ⟨rfl, le_rfl⟩⟩
  · rw [if_pos h, if_pos (Or.inl h)]
    exact ⟨Or.inl rfl, Or.inr ⟨rfl, le_rfl⟩, Or.inl h⟩

theorem foldl_spec {ι : Type} (g : ι → Ideal .f32 × BitVec 32) (hg : ∀ n, (g n).2.toNat < 2 ^ 31) :
    ∀ (l : List ι) (r : Ideal .f32 × BitVec 32), r.2.toNat < 2 ^ 31 →
      (l.foldl (fun r n => pick r (g n)) r = r ∨ ∃ n ∈ l, l.foldl (fun r n => pick r (g n)) r = g n)
      ∧ Beats (l.foldl (fun r n => pick r (g n)) r) r ∧ ∀ n ∈ l, Beats (l.foldl (fun r n => pick r (g n)) r) (g n)
  | [], r, _ => ⟨Or.inl rfl, Beats.refl _, fun n h => absurd h List.not_mem_nil⟩
  | a :: l, r, hr => by
    obtain ⟨e, b, b'⟩ := pick_spec r (g a) hr (hg a)
    have hp : (pick r (g a)).2.toNat < 2 ^ 31 := by
      rcases e with e | e <;> rw [e]
      exacts [hr, hg a]
    obtain ⟨i, j, k⟩ := foldl_spec g hg l (pick r (g a)) hp
    rw [List.foldl_cons]
    refine ⟨?_, j.trans b, fun n hn => ?_⟩
    · rcases i with i | ⟨n, hn, i⟩
      · rcases e with e | e
        · exact Or.inl (i.trans e)
        · exact Or.inr ⟨a, List.mem_cons_self, i.trans e⟩
      · exact Or.inr ⟨n, List.mem_cons_of_mem _ hn, i⟩
    · rcases List.mem_cons.mp hn with rfl | hn
      · exact j.trans b'
      · exact k n hn

/-- The place the reduction finds. -/
theorem argmax_at (x : FVec Ideal Cert.ReferenceIdeal.S131072x100 .f32) (q : Fin 131072) (k : Fin 100) (hk : IsPick (fun j => (x (ix2 q j) : EReal)) k) :
    (Host.argReduce pick x (iotaInDim Cert.ReferenceIdeal.S131072x100 32 1) (constant Cert.ReferenceIdeal.S_ .f32 0xFF800000#32) (constantI Cert.ReferenceIdeal.S_ 32 0#32)
      Cert.ReferenceIdeal.Gen.reducesTo_S131072x100_S131072_d1 Cert.ReferenceIdeal.Gen.h_S_ (ix1 q)).2 = BitVec.ofNat 32 k.val := by
  rw [Ideal.argReduce_eq_reduce2]
  unfold Host.reduce2
  have hlt : ∀ j : Fin 100, (BitVec.ofNat 32 j.val).toNat = j.val := fun j => by
    rw [BitVec.toNat_ofNat, Nat.mod_eq_of_lt (by have := j.isLt; omega)]
  have hg : ∀ n : Cert.ReferenceIdeal.S131072x100.Idx, ∃ q' j, n = ix2 q' j := fun n => ⟨n 0, n 1, funext fun a => by fin_cases a <;> rfl⟩
  have hi : ∀ (q' : Fin 131072) (j : Fin 100), iotaInDim Cert.ReferenceIdeal.S131072x100 32 1 (ix2 q' j) = BitVec.ofNat 32 j.val := fun _ _ => rfl
  have hb : (constant (F := Ideal) Cert.ReferenceIdeal.S_ .f32 0xFF800000#32 (Shape.Idx.first Cert.ReferenceIdeal.Gen.h_S_) : EReal) = ⊥ := by
    show Ideal.ofBits .f32 0xFF800000#32 = ⊥
    simp [Ideal.ofBits, Ideal.ieee]
  have h0 : constantI Cert.ReferenceIdeal.S_ 32 0#32 (Shape.Idx.first Cert.ReferenceIdeal.Gen.h_S_) = 0#32 := rfl
  have hd : ∀ (q' : Fin 131072) (j : Fin 100), Cert.ReferenceIdeal.Gen.reducesTo_S131072x100_S131072_d1.drop (ix2 q' j) = ix1 q' := fun q' j => by
    funext a
    fin_cases a
    exact Fin.ext (Shape.ReducesTo.drop_apply_val_of_eq Cert.ReferenceIdeal.Gen.reducesTo_S131072x100_S131072_d1 (ix2 q' j) 0 0)
  obtain ⟨e, -, b⟩ := foldl_spec (fun n => (x (Cert.ReferenceIdeal.S131072x100.rowMajor.symm n), iotaInDim Cert.ReferenceIdeal.S131072x100 32 1 (Cert.ReferenceIdeal.S131072x100.rowMajor.symm n)))
    (fun n => by
      obtain ⟨q', j, h⟩ := hg (Cert.ReferenceIdeal.S131072x100.rowMajor.symm n)
      rw [h, hi, hlt]
      have := j.isLt
      omega)
    ((List.finRange Cert.ReferenceIdeal.S131072x100.numel).filter fun n =>
      Cert.ReferenceIdeal.Gen.reducesTo_S131072x100_S131072_d1.drop (Cert.ReferenceIdeal.S131072x100.rowMajor.symm n) = ix1 q)
    (constant (F := Ideal) Cert.ReferenceIdeal.S_ .f32 0xFF800000#32 (Shape.Idx.first Cert.ReferenceIdeal.Gen.h_S_), constantI Cert.ReferenceIdeal.S_ 32 0#32 (Shape.Idx.first Cert.ReferenceIdeal.Gen.h_S_))
    (by rw [h0]; decide)
  have bk := b (Cert.ReferenceIdeal.S131072x100.rowMajor (ix2 q k)) (List.mem_filter.mpr ⟨List.mem_finRange _, by rw [Equiv.symm_apply_apply, hd]; exact decide_eq_true rfl⟩)
  rw [Equiv.symm_apply_apply, hi] at bk
  rcases e with e | ⟨n, hn, e⟩
  · rw [e] at bk ⊢
    rw [h0] at bk ⊢
    rcases bk with bk | ⟨bk, -⟩
    · exact absurd bk (by rw [hb]; exact not_lt_bot)
    · rw [hb] at bk
      have : k.val = 0 := by
        by_contra hne
        exact not_lt_bot (lt_of_lt_of_eq (hk.2 ⟨0, by norm_num⟩ (Fin.lt_def.mpr (Nat.pos_of_ne_zero hne))) bk.symm)
      rw [this]
  · have hn' := of_decide_eq_true (List.mem_filter.mp hn).2
    obtain ⟨q', j, h⟩ := hg (Cert.ReferenceIdeal.S131072x100.rowMajor.symm n)
    rw [h, hd] at hn'
    obtain rfl : q' = q := congrFun hn' 0
    rw [e] at bk ⊢
    rw [h, hi] at bk ⊢
    rcases bk with bk | ⟨bk, i⟩
    · exact absurd bk (not_lt.mpr (hk.1 j))
    · rw [hlt, hlt] at i
      rcases lt_or_eq_of_le i with i | i
      · exact absurd bk (hk.2 j i).ne
      · rw [i]

end Cert.Proof.Equal

end
-- ==== Proof.Same.lean ====
/-
  The kernel as printed and the kernel printed for its reading over the extended reals are one text: equal, part by part.
-/
module

public import proofs.«01_k».proof.Kernel
public import proofs.«01_k».proof.KernelIdeal

@[expose] public section

set_option maxHeartbeats 8000000

noncomputable section

namespace Cert.Proof.Same

open Idealize.ShloMosaic Idealize.ShloMosaic.StableHlo Idealize.SL.Sem

variable {F : FTy → Type} [FloatOps F] [Cert.Kernel.Facts] [Cert.KernelIdeal.Facts]

/-! ## The bodies -/

theorem body0 : @Cert.Kernel.cc0__levels_kernel F _ _ = @Cert.KernelIdeal.cc0__levels_kernel F _ _ := (rfl)
theorem body1 : @Cert.Kernel.cc1__sc_uniform_kernel F _ _ = @Cert.KernelIdeal.cc1__sc_uniform_kernel F _ _ := (rfl)
theorem body2 : @Cert.Kernel.cc2__tc_full_body F _ _ = @Cert.KernelIdeal.cc2__tc_full_body F _ _ := (rfl)
theorem body3 : @Cert.Kernel.cc3__tc_consume_body F _ _ = @Cert.KernelIdeal.cc3__tc_consume_body F _ _ := (rfl)

/-! ## The tables -/

theorem row0 (a) : Cert.Kernel.defs₀ (F := F) .tc 0 a = Cert.KernelIdeal.defs₀ (F := F) .tc 0 a := by
  unfold Cert.Kernel.defs₀ Cert.KernelIdeal.defs₀
  dsimp only
  rw [body0]
  rfl
theorem row1 (c s a) : Cert.Kernel.defs₀ (F := F) (.scVector c s) 1 a = Cert.KernelIdeal.defs₀ (F := F) (.scVector c s) 1 a := by
  unfold Cert.Kernel.defs₀ Cert.KernelIdeal.defs₀
  dsimp only
  rw [body1]
  rfl
theorem row2 (a) : Cert.Kernel.defs₀ (F := F) .tc 2 a = Cert.KernelIdeal.defs₀ (F := F) .tc 2 a := by
  unfold Cert.Kernel.defs₀ Cert.KernelIdeal.defs₀
  dsimp only
  rw [body2]
  rfl
theorem row3 (a) : Cert.Kernel.defs₀ (F := F) .tc 3 a = Cert.KernelIdeal.defs₀ (F := F) .tc 3 a := by
  unfold Cert.Kernel.defs₀ Cert.KernelIdeal.defs₀
  dsimp only
  rw [body3]
  rfl

/-- The bodies' tables. -/
theorem table : Cert.Kernel.defs₀ (F := F) = Cert.KernelIdeal.defs₀ (F := F) := by
  funext p ℓ a
  match p, ℓ, a with
  | .tc, 0, a => exact row0 a
  | .tc, 1, a => rfl
  | .tc, 2, a => exact row2 a
  | .tc, 3, a => exact row3 a
  | .scVector c s, 0, a => rfl
  | .scVector c s, 1, a => exact row1 c s a
  | .scVector c s, 2, a => rfl
  | .scVector c s, 3, a => rfl
  | .scScalar c, 0, a => rfl
  | .scScalar c, 1, a => rfl
  | .scScalar c, 2, a => rfl
  | .scScalar c, 3, a => rfl

/-- The host's line. -/
theorem line : Cert.Kernel.main (F := F) = Cert.KernelIdeal.main (F := F) := (rfl)

/-- The labels' tables. -/
theorem defs : Cert.Kernel.defs (F := F) = Cert.KernelIdeal.defs (F := F) :=
  (congrArg (fun d => Cert.Kernel.sc.defs (Pipeline.defs Cert.Kernel.pcfgs d)) table).trans (rfl)

/-- The threads. -/
theorem threads : Cert.Kernel.threads (F := F) = Cert.KernelIdeal.threads (F := F) :=
  (congrArg (Cert.Kernel.sc (F := F)).threads line).trans (rfl)

end Cert.Proof.Same

end
-- ==== Proof.lean ====
/-
  The certificate's claims, from the run of the kernel (one run, at any float type) and the run of the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Equal
public import proofs.«01_k».proof.Proof.Same

@[expose] public section

noncomputable section

namespace Cert.Proof

open Idealize.ShloMosaic Idealize.ShloMosaic.StableHlo Idealize.SL.Sem
open Cert.Proof.Draw

/-! ## The kernel's run -/

section kernel

open Cert.KernelIdeal

variable {F : FTy → Type} [FloatOps F]

/-- A buffer that no scope bounds is among those the run's end names. -/
theorem mem_uc (b : Ref sig .tc) (h : (Proc.devRef (τ := τ) .tc b).isScoped = false) : Proc.devRef (τ := τ) .tc b ∈ Pipeline.ucRefs τ sig :=
  Finset.mem_filter.mpr ⟨devRef_mem_tcRefs b, fun h' => Bool.false_ne_true (h.symm.trans h')⟩

/-- The kernel ends with its arguments unchanged, no semaphore raised, and these two results. -/
theorem kernel_run [∀ e, Nonempty (Elt F e)] (m : (ℓ : Loc nD τ sig) → Buf (Elt F) ℓ) (ρ : Dev nD → PrngReg) :
    θ_run (defs (F := F)) (threads (F := F)) ⟨m, fun _ => 0, ρ⟩ (fun r =>
      (∀ c : Dev nD, r.2.mem ((c.tc : Thread nD τ).loc main_v17) = Tile.W8 m c (Proc.devRef .tc main_v17)
        ∧ r.2.mem ((c.tc : Thread nD τ).loc main_v16) = Tile.W8 m c (Proc.devRef .tc main_v16)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) :=
  θ_run_mono (Tile.run m ρ) fun _ h => ⟨fun c =>
    ⟨h.1 c _ (mem_uc main_v17 rfl), h.1 c _ (mem_uc main_v16 rfl),
      (h.1 c _ (mem_uc main_arg0 rfl)).trans (Tile.arg0_kept m c), (h.1 c _ (mem_uc main_arg1 rfl)).trans (Tile.arg1_kept m c),
      (h.1 c _ (mem_uc main_arg2 rfl)).trans (Tile.arg2_kept m c), (h.1 c _ (mem_uc main_arg3 rfl)).trans (Tile.arg3_kept m c),
      (h.1 c _ (mem_uc main_arg4 rfl)).trans (Tile.arg4_kept m c), (h.1 c _ (mem_uc main_arg5 rfl)).trans (Tile.arg5_kept m c)⟩, h.2⟩

end kernel

/-! ## The reference's run -/

section reference

open Cert.ReferenceIdeal

variable {F : FTy → Type} [FloatOps F]

/-- An argument of the reference ends unchanged. -/
theorem ref_arg (j : ℕ) (hj : j < 6) (V : Ref.Val F) : after Ref.line.1 V (Proc.devRef .tc (Ref.hb j (by omega))) = V (Proc.devRef .tc (Ref.hb j (by omega))) := by
  rw [Ref.whole]
  exact Ref.arg_kept 923 j hj V

/-- The reference ends with its arguments unchanged and these two results. -/
theorem reference_run (m : (ℓ : Loc nD τ sig) → Buf (Elt F) ℓ) (ρ : Dev nD → PrngReg) :
    θ_run (defs (F := F)) (onTc (τ := τ) (main (F := F))) ⟨m, fun _ => 0, ρ⟩ (fun r =>
      ∀ c : Dev nD, r.2.mem ((c.tc : Thread nD τ).loc main_v147) = after Ref.line.1 (launchContents m c) (Proc.devRef .tc main_v147)
        ∧ r.2.mem ((c.tc : Thread nD τ).loc main_v193) = after Ref.line.1 (launchContents m c) (Proc.devRef .tc main_v193)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  θ_run_mono (Ref.run m ρ) fun _ h c =>
    ⟨h c main_v147, h c main_v193, (h c main_arg0).trans (ref_arg 0 (by norm_num) _), (h c main_arg1).trans (ref_arg 1 (by norm_num) _),
      (h c main_arg2).trans (ref_arg 2 (by norm_num) _), (h c main_arg3).trans (ref_arg 3 (by norm_num) _),
      (h c main_arg4).trans (ref_arg 4 (by norm_num) _), (h c main_arg5).trans (ref_arg 5 (by norm_num) _)⟩

end reference

/-! ## The claims -/

set_option maxHeartbeats 4000000 in
theorem frame_kernel : Cert.quiescent_Kernel := fun m g _ => by
  rw [Same.defs, Same.threads]
  exact (θ_run Cert.KernelIdeal.defs _ _).mono (fun _ h => ⟨fun c => (h.1 c).2.2, h.2⟩) (kernel_run (F := Bits) m g)

theorem frame_ideal : Cert.quiescent_KernelIdeal := fun m g _ =>
  θ_run_mono (kernel_run (F := Ideal) m g) fun _ h => ⟨fun c => (h.1 c).2.2, h.2⟩

theorem frame_reference : Cert.quiescent_ReferenceIdeal := fun m g _ =>
  θ_run_mono (reference_run (F := Ideal) m g) fun _ h => ⟨fun c => (h c).2.2, Ref.no_sems _ _⟩

/-- Result 1: the kernel's and the reference's. -/
theorem same_x (m : (ℓ : Loc Cert.KernelIdeal.nD Cert.KernelIdeal.τ Cert.KernelIdeal.sig) → Buf (Elt Ideal) ℓ) (c : Dev Cert.KernelIdeal.nD)
    (V : Ref.Val Ideal)
    (h0 : V (Proc.devRef .tc Cert.ReferenceIdeal.main_arg0) = m (c, Proc.devRef .tc Cert.KernelIdeal.main_arg0))
    (h4 : V (Proc.devRef .tc Cert.ReferenceIdeal.main_arg4) = m (c, Proc.devRef .tc Cert.KernelIdeal.main_arg4)) (q : Fin 131072) (r : Fin 3) :
    (after Ref.line.1 V (Proc.devRef .tc Cert.ReferenceIdeal.main_v147) : FVec Ideal Cert.ReferenceIdeal.S131072x3 .f32) (ix2 q r)
      = (Tile.W8 m c (Proc.devRef .tc Cert.KernelIdeal.main_v17) : FVec Ideal Cert.KernelIdeal.S131072x3 .f32) (ix2 q r) := by
  rw [Ref.line_x, Equal.rnormal_eq, h0, h4]
  exact (Tile.kernel_x m c q r).symm

/-- Result 2: the kernel's and the reference's. -/
theorem same_h (m : (ℓ : Loc Cert.KernelIdeal.nD Cert.KernelIdeal.τ Cert.KernelIdeal.sig) → Buf (Elt Ideal) ℓ) (c : Dev Cert.KernelIdeal.nD)
    (V : Ref.Val Ideal)
    (h1 : V (Proc.devRef .tc Cert.ReferenceIdeal.main_arg1) = m (c, Proc.devRef .tc Cert.KernelIdeal.main_arg1))
    (h2 : V (Proc.devRef .tc Cert.ReferenceIdeal.main_arg2) = m (c, Proc.devRef .tc Cert.KernelIdeal.main_arg2))
    (h5 : V (Proc.devRef .tc Cert.ReferenceIdeal.main_arg5) = m (c, Proc.devRef .tc Cert.KernelIdeal.main_arg5)) (q : Fin 131072) :
    (after Ref.line.1 V (Proc.devRef .tc Cert.ReferenceIdeal.main_v193) : IVec Cert.ReferenceIdeal.S131072 32) (ix1 q)
      = (Tile.W8 m c (Proc.devRef .tc Cert.KernelIdeal.main_v16) : IVec Cert.KernelIdeal.S131072 32) (ix1 q) := by
  obtain ⟨k, hk⟩ := exists_pick (n := 99) (Tile.HX q.val (fun j => m (c, Proc.devRef .tc Cert.KernelIdeal.main_arg2) (ix2 q j))
    (m (c, Proc.devRef .tc Cert.KernelIdeal.main_arg5) (ix1 (Tile.lvl keyC keyD (q.val / 32)))) (m (c, Proc.devRef .tc Cert.KernelIdeal.main_arg1) (ix1 q)))
  refine Eq.trans ?_ (Tile.kernel_h m c q k hk).symm
  rw [Ref.whole, Ref.s7]
  refine congrArg (· + 1#32) (Equal.argmax_at _ q k ((congrArg (IsPick · k) (funext fun j => ?_)).mpr hk))
  rw [Ref.line_s, Equal.rscore_eq, h1, h2, h5]
  rfl

theorem algebraic : Cert.algebraic_KernelIdeal_ReferenceIdeal := fun m g m' g' _ ha =>
  ⟨fun c => Tile.W8 m c (Proc.devRef .tc Cert.KernelIdeal.main_v17), fun c => Tile.W8 m c (Proc.devRef .tc Cert.KernelIdeal.main_v16),
    θ_run_mono (kernel_run (F := Ideal) m g) fun _ h => h.1,
    θ_run_mono (reference_run (F := Ideal) m' g') fun _ h c =>
      ⟨(h c).1.trans (funext fun l => by
          obtain ⟨q, r, rfl⟩ : ∃ q r, l = ix2 q r := ⟨l 0, l 1, funext fun a => by fin_cases a <;> rfl⟩
          exact same_x m c _ (ha c).1 (ha c).2.2.2.2.1 q r),
        (h c).2.1.trans (funext fun l => by
          obtain ⟨q, rfl⟩ : ∃ q, l = ix1 q := ⟨l 0, funext fun a => by fin_cases a; rfl⟩
          exact same_h m c _ (ha c).2.1 (ha c).2.2.1 (ha c).2.2.2.2.2 q),
        (h c).2.2⟩⟩

theorem claim : Cert.Claim := ⟨Cert.Kernel.Gen.facts, Cert.KernelIdeal.Gen.facts, Cert.ReferenceIdeal.Gen.facts,
  frame_kernel, frame_ideal, frame_reference, trivial, algebraic⟩

end Cert.Proof

end
